-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastReferenceIdeal (m : (ℓ : Loc Cert.CastReferenceIdeal.nD Cert.CastReferenceIdeal.τ Cert.CastReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Turn (m : (ℓ : Loc Cert.Turn.nD Cert.Turn.τ Cert.Turn.sig) → Buf (Elt Bits) ℓ) : Prop :=
  True

def Pre_TurnIdeal (m : (ℓ : Loc Cert.TurnIdeal.nD Cert.TurnIdeal.τ Cert.TurnIdeal.sig) → Buf (Elt Ideal) ℓ) : Prop :=
  True

def Pre_TurnReferenceIdeal (m : (ℓ : Loc Cert.TurnReferenceIdeal.nD Cert.TurnReferenceIdeal.τ Cert.TurnReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0)
      ∧ r.2.mem ((c.tc : Thread Cert.Cast.nD Cert.Cast.τ).loc Cert.Cast.main_arg1) = m ((c.tc : Thread Cert.Cast.nD Cert.Cast.τ).loc Cert.Cast.main_arg1)
      ∧ r.2.mem ((c.tc : Thread Cert.Cast.nD Cert.Cast.τ).loc Cert.Cast.main_arg2) = m ((c.tc : Thread Cert.Cast.nD Cert.Cast.τ).loc Cert.Cast.main_arg2))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0)
      ∧ r.2.mem ((c.tc : Thread Cert.CastIdeal.nD Cert.CastIdeal.τ).loc Cert.CastIdeal.main_arg1) = m ((c.tc : Thread Cert.CastIdeal.nD Cert.CastIdeal.τ).loc Cert.CastIdeal.main_arg1)
      ∧ r.2.mem ((c.tc : Thread Cert.CastIdeal.nD Cert.CastIdeal.τ).loc Cert.CastIdeal.main_arg2) = m ((c.tc : Thread Cert.CastIdeal.nD Cert.CastIdeal.τ).loc Cert.CastIdeal.main_arg2))
      ∧ r.2.sem = fun _ => 0)

def quiescent_CastReferenceIdeal [hCastReferenceIdeal : Cert.CastReferenceIdeal.Facts] : Prop :=
  ∀ (m : (ℓ : Loc Cert.CastReferenceIdeal.nD Cert.CastReferenceIdeal.τ Cert.CastReferenceIdeal.sig) → Buf (Elt Ideal) ℓ) (g : Dev Cert.CastReferenceIdeal.nD → PrngReg), Pre_CastReferenceIdeal m →
    θ_run (Cert.CastReferenceIdeal.defs (F := Ideal)) (onTc (τ := Cert.CastReferenceIdeal.τ) (Cert.CastReferenceIdeal.main (F := Ideal))) ⟨m, fun _ => 0, g⟩ (fun r => (∀ c : Dev Cert.CastReferenceIdeal.nD,
      r.2.mem ((c.tc : Thread Cert.CastReferenceIdeal.nD Cert.CastReferenceIdeal.τ).loc Cert.CastReferenceIdeal.main_arg0) = m ((c.tc : Thread Cert.CastReferenceIdeal.nD Cert.CastReferenceIdeal.τ).loc Cert.CastReferenceIdeal.main_arg0)
      ∧ r.2.mem ((c.tc : Thread Cert.CastReferenceIdeal.nD Cert.CastReferenceIdeal.τ).loc Cert.CastReferenceIdeal.main_arg1) = m ((c.tc : Thread Cert.CastReferenceIdeal.nD Cert.CastReferenceIdeal.τ).loc Cert.CastReferenceIdeal.main_arg1)
      ∧ r.2.mem ((c.tc : Thread Cert.CastReferenceIdeal.nD Cert.CastReferenceIdeal.τ).loc Cert.CastReferenceIdeal.main_arg2) = m ((c.tc : Thread Cert.CastReferenceIdeal.nD Cert.CastReferenceIdeal.τ).loc Cert.CastReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Turn [hTurn : Cert.Turn.Facts] : Prop :=
  ∀ (m : (ℓ : Loc Cert.Turn.nD Cert.Turn.τ Cert.Turn.sig) → Buf (Elt Bits) ℓ) (g : Dev Cert.Turn.nD → PrngReg), Pre_Turn m →
    θ_run (Cert.Turn.defs (F := Bits)) (onTc (τ := Cert.Turn.τ) (Cert.Turn.main (F := Bits))) ⟨m, fun _ => 0, g⟩ (fun r => (∀ c : Dev Cert.Turn.nD,
      r.2.mem ((c.tc : Thread Cert.Turn.nD Cert.Turn.τ).loc Cert.Turn.main_arg0) = m ((c.tc : Thread Cert.Turn.nD Cert.Turn.τ).loc Cert.Turn.main_arg0)
      ∧ r.2.mem ((c.tc : Thread Cert.Turn.nD Cert.Turn.τ).loc Cert.Turn.main_arg1) = m ((c.tc : Thread Cert.Turn.nD Cert.Turn.τ).loc Cert.Turn.main_arg1)
      ∧ r.2.mem ((c.tc : Thread Cert.Turn.nD Cert.Turn.τ).loc Cert.Turn.main_arg2) = m ((c.tc : Thread Cert.Turn.nD Cert.Turn.τ).loc Cert.Turn.main_arg2)
      ∧ r.2.mem ((c.tc : Thread Cert.Turn.nD Cert.Turn.τ).loc Cert.Turn.main_arg3) = m ((c.tc : Thread Cert.Turn.nD Cert.Turn.τ).loc Cert.Turn.main_arg3))
      ∧ r.2.sem = fun _ => 0)

def quiescent_TurnIdeal [hTurnIdeal : Cert.TurnIdeal.Facts] : Prop :=
  ∀ (m : (ℓ : Loc Cert.TurnIdeal.nD Cert.TurnIdeal.τ Cert.TurnIdeal.sig) → Buf (Elt Ideal) ℓ) (g : Dev Cert.TurnIdeal.nD → PrngReg), Pre_TurnIdeal m →
    θ_run (Cert.TurnIdeal.defs (F := Ideal)) (onTc (τ := Cert.TurnIdeal.τ) (Cert.TurnIdeal.main (F := Ideal))) ⟨m, fun _ => 0, g⟩ (fun r => (∀ c : Dev Cert.TurnIdeal.nD,
      r.2.mem ((c.tc : Thread Cert.TurnIdeal.nD Cert.TurnIdeal.τ).loc Cert.TurnIdeal.main_arg0) = m ((c.tc : Thread Cert.TurnIdeal.nD Cert.TurnIdeal.τ).loc Cert.TurnIdeal.main_arg0)
      ∧ r.2.mem ((c.tc : Thread Cert.TurnIdeal.nD Cert.TurnIdeal.τ).loc Cert.TurnIdeal.main_arg1) = m ((c.tc : Thread Cert.TurnIdeal.nD Cert.TurnIdeal.τ).loc Cert.TurnIdeal.main_arg1)
      ∧ r.2.mem ((c.tc : Thread Cert.TurnIdeal.nD Cert.TurnIdeal.τ).loc Cert.TurnIdeal.main_arg2) = m ((c.tc : Thread Cert.TurnIdeal.nD Cert.TurnIdeal.τ).loc Cert.TurnIdeal.main_arg2)
      ∧ r.2.mem ((c.tc : Thread Cert.TurnIdeal.nD Cert.TurnIdeal.τ).loc Cert.TurnIdeal.main_arg3) = m ((c.tc : Thread Cert.TurnIdeal.nD Cert.TurnIdeal.τ).loc Cert.TurnIdeal.main_arg3))
      ∧ r.2.sem = fun _ => 0)

def quiescent_TurnReferenceIdeal [hTurnReferenceIdeal : Cert.TurnReferenceIdeal.Facts] : Prop :=
  ∀ (m : (ℓ : Loc Cert.TurnReferenceIdeal.nD Cert.TurnReferenceIdeal.τ Cert.TurnReferenceIdeal.sig) → Buf (Elt Ideal) ℓ) (g : Dev Cert.TurnReferenceIdeal.nD → PrngReg), Pre_TurnReferenceIdeal m →
    θ_run (Cert.TurnReferenceIdeal.defs (F := Ideal)) (onTc (τ := Cert.TurnReferenceIdeal.τ) (Cert.TurnReferenceIdeal.main (F := Ideal))) ⟨m, fun _ => 0, g⟩ (fun r => (∀ c : Dev Cert.TurnReferenceIdeal.nD,
      r.2.mem ((c.tc : Thread Cert.TurnReferenceIdeal.nD Cert.TurnReferenceIdeal.τ).loc Cert.TurnReferenceIdeal.main_arg0) = m ((c.tc : Thread Cert.TurnReferenceIdeal.nD Cert.TurnReferenceIdeal.τ).loc Cert.TurnReferenceIdeal.main_arg0)
      ∧ r.2.mem ((c.tc : Thread Cert.TurnReferenceIdeal.nD Cert.TurnReferenceIdeal.τ).loc Cert.TurnReferenceIdeal.main_arg1) = m ((c.tc : Thread Cert.TurnReferenceIdeal.nD Cert.TurnReferenceIdeal.τ).loc Cert.TurnReferenceIdeal.main_arg1)
      ∧ r.2.mem ((c.tc : Thread Cert.TurnReferenceIdeal.nD Cert.TurnReferenceIdeal.τ).loc Cert.TurnReferenceIdeal.main_arg2) = m ((c.tc : Thread Cert.TurnReferenceIdeal.nD Cert.TurnReferenceIdeal.τ).loc Cert.TurnReferenceIdeal.main_arg2)
      ∧ r.2.mem ((c.tc : Thread Cert.TurnReferenceIdeal.nD Cert.TurnReferenceIdeal.τ).loc Cert.TurnReferenceIdeal.main_arg3) = m ((c.tc : Thread Cert.TurnReferenceIdeal.nD Cert.TurnReferenceIdeal.τ).loc Cert.TurnReferenceIdeal.main_arg3))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v2) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v17) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2))

def preserves_Cast_CastIdeal : Prop :=
  True

def algebraic_CastIdeal_CastReferenceIdeal [hCastIdeal : Cert.CastIdeal.Facts] [hCastReferenceIdeal : Cert.CastReferenceIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastReferenceIdeal.nD Cert.CastReferenceIdeal.τ Cert.CastReferenceIdeal.sig) → Buf (Elt Ideal) ℓ) (g' : Dev Cert.CastReferenceIdeal.nD → PrngReg), Pre_CastIdeal m →
    (∀ c : Dev Cert.CastIdeal.nD,
      m' ((c.tc : Thread Cert.CastReferenceIdeal.nD Cert.CastReferenceIdeal.τ).loc Cert.CastReferenceIdeal.main_arg0) = m ((c.tc : Thread Cert.CastIdeal.nD Cert.CastIdeal.τ).loc Cert.CastIdeal.main_arg0)
      ∧ m' ((c.tc : Thread Cert.CastReferenceIdeal.nD Cert.CastReferenceIdeal.τ).loc Cert.CastReferenceIdeal.main_arg1) = m ((c.tc : Thread Cert.CastIdeal.nD Cert.CastIdeal.τ).loc Cert.CastIdeal.main_arg1)
      ∧ m' ((c.tc : Thread Cert.CastReferenceIdeal.nD Cert.CastReferenceIdeal.τ).loc Cert.CastReferenceIdeal.main_arg2) = m ((c.tc : Thread Cert.CastIdeal.nD Cert.CastIdeal.τ).loc Cert.CastIdeal.main_arg2)) →
    ∃ (v0 : (c : Dev Cert.CastIdeal.nD) → Buf (Elt Ideal) ((c.tc : Thread Cert.CastIdeal.nD Cert.CastIdeal.τ).loc Cert.CastIdeal.main_v2_0)) (v1 : (c : Dev Cert.CastIdeal.nD) → Buf (Elt Ideal) ((c.tc : Thread Cert.CastIdeal.nD Cert.CastIdeal.τ).loc Cert.CastIdeal.main_v2_1)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v2_0) = v0 c
          ∧ r.2.mem ((c.tc : Thread Cert.CastIdeal.nD Cert.CastIdeal.τ).loc Cert.CastIdeal.main_v2_1) = v1 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0)
          ∧ r.2.mem ((c.tc : Thread Cert.CastIdeal.nD Cert.CastIdeal.τ).loc Cert.CastIdeal.main_arg1) = m ((c.tc : Thread Cert.CastIdeal.nD Cert.CastIdeal.τ).loc Cert.CastIdeal.main_arg1)
          ∧ r.2.mem ((c.tc : Thread Cert.CastIdeal.nD Cert.CastIdeal.τ).loc Cert.CastIdeal.main_arg2) = m ((c.tc : Thread Cert.CastIdeal.nD Cert.CastIdeal.τ).loc Cert.CastIdeal.main_arg2))
      ∧ θ_run (Cert.CastReferenceIdeal.defs (F := Ideal)) (onTc (τ := Cert.CastReferenceIdeal.τ) (Cert.CastReferenceIdeal.main (F := Ideal))) ⟨m', fun _ => 0, g'⟩ (fun r => ∀ c : Dev Cert.CastReferenceIdeal.nD,
          r.2.mem ((c.tc : Thread Cert.CastReferenceIdeal.nD Cert.CastReferenceIdeal.τ).loc Cert.CastReferenceIdeal.main_v3) = v0 c
          ∧ r.2.mem ((c.tc : Thread Cert.CastReferenceIdeal.nD Cert.CastReferenceIdeal.τ).loc Cert.CastReferenceIdeal.main_v6) = v1 c
          ∧ r.2.mem ((c.tc : Thread Cert.CastReferenceIdeal.nD Cert.CastReferenceIdeal.τ).loc Cert.CastReferenceIdeal.main_arg0) = m' ((c.tc : Thread Cert.CastReferenceIdeal.nD Cert.CastReferenceIdeal.τ).loc Cert.CastReferenceIdeal.main_arg0)
          ∧ r.2.mem ((c.tc : Thread Cert.CastReferenceIdeal.nD Cert.CastReferenceIdeal.τ).loc Cert.CastReferenceIdeal.main_arg1) = m' ((c.tc : Thread Cert.CastReferenceIdeal.nD Cert.CastReferenceIdeal.τ).loc Cert.CastReferenceIdeal.main_arg1)
          ∧ r.2.mem ((c.tc : Thread Cert.CastReferenceIdeal.nD Cert.CastReferenceIdeal.τ).loc Cert.CastReferenceIdeal.main_arg2) = m' ((c.tc : Thread Cert.CastReferenceIdeal.nD Cert.CastReferenceIdeal.τ).loc Cert.CastReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v17) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v23) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Turn_TurnIdeal : Prop :=
  True

def algebraic_TurnIdeal_TurnReferenceIdeal [hTurnIdeal : Cert.TurnIdeal.Facts] [hTurnReferenceIdeal : Cert.TurnReferenceIdeal.Facts] : Prop :=
  ∀ (m : (ℓ : Loc Cert.TurnIdeal.nD Cert.TurnIdeal.τ Cert.TurnIdeal.sig) → Buf (Elt Ideal) ℓ) (g : Dev Cert.TurnIdeal.nD → PrngReg)
    (m' : (ℓ : Loc Cert.TurnReferenceIdeal.nD Cert.TurnReferenceIdeal.τ Cert.TurnReferenceIdeal.sig) → Buf (Elt Ideal) ℓ) (g' : Dev Cert.TurnReferenceIdeal.nD → PrngReg), Pre_TurnIdeal m →
    (∀ c : Dev Cert.TurnIdeal.nD,
      m' ((c.tc : Thread Cert.TurnReferenceIdeal.nD Cert.TurnReferenceIdeal.τ).loc Cert.TurnReferenceIdeal.main_arg0) = m ((c.tc : Thread Cert.TurnIdeal.nD Cert.TurnIdeal.τ).loc Cert.TurnIdeal.main_arg0)
      ∧ m' ((c.tc : Thread Cert.TurnReferenceIdeal.nD Cert.TurnReferenceIdeal.τ).loc Cert.TurnReferenceIdeal.main_arg1) = m ((c.tc : Thread Cert.TurnIdeal.nD Cert.TurnIdeal.τ).loc Cert.TurnIdeal.main_arg1)
      ∧ m' ((c.tc : Thread Cert.TurnReferenceIdeal.nD Cert.TurnReferenceIdeal.τ).loc Cert.TurnReferenceIdeal.main_arg2) = m ((c.tc : Thread Cert.TurnIdeal.nD Cert.TurnIdeal.τ).loc Cert.TurnIdeal.main_arg2)
      ∧ m' ((c.tc : Thread Cert.TurnReferenceIdeal.nD Cert.TurnReferenceIdeal.τ).loc Cert.TurnReferenceIdeal.main_arg3) = m ((c.tc : Thread Cert.TurnIdeal.nD Cert.TurnIdeal.τ).loc Cert.TurnIdeal.main_arg3)) →
    ∃ (v0 : (c : Dev Cert.TurnIdeal.nD) → Buf (Elt Ideal) ((c.tc : Thread Cert.TurnIdeal.nD Cert.TurnIdeal.τ).loc Cert.TurnIdeal.main_v4_0)) (v1 : (c : Dev Cert.TurnIdeal.nD) → Buf (Elt Ideal) ((c.tc : Thread Cert.TurnIdeal.nD Cert.TurnIdeal.τ).loc Cert.TurnIdeal.main_v4_1)),
      θ_run (Cert.TurnIdeal.defs (F := Ideal)) (onTc (τ := Cert.TurnIdeal.τ) (Cert.TurnIdeal.main (F := Ideal))) ⟨m, fun _ => 0, g⟩ (fun r => ∀ c : Dev Cert.TurnIdeal.nD,
          r.2.mem ((c.tc : Thread Cert.TurnIdeal.nD Cert.TurnIdeal.τ).loc Cert.TurnIdeal.main_v4_0) = v0 c
          ∧ r.2.mem ((c.tc : Thread Cert.TurnIdeal.nD Cert.TurnIdeal.τ).loc Cert.TurnIdeal.main_v4_1) = v1 c
          ∧ r.2.mem ((c.tc : Thread Cert.TurnIdeal.nD Cert.TurnIdeal.τ).loc Cert.TurnIdeal.main_arg0) = m ((c.tc : Thread Cert.TurnIdeal.nD Cert.TurnIdeal.τ).loc Cert.TurnIdeal.main_arg0)
          ∧ r.2.mem ((c.tc : Thread Cert.TurnIdeal.nD Cert.TurnIdeal.τ).loc Cert.TurnIdeal.main_arg1) = m ((c.tc : Thread Cert.TurnIdeal.nD Cert.TurnIdeal.τ).loc Cert.TurnIdeal.main_arg1)
          ∧ r.2.mem ((c.tc : Thread Cert.TurnIdeal.nD Cert.TurnIdeal.τ).loc Cert.TurnIdeal.main_arg2) = m ((c.tc : Thread Cert.TurnIdeal.nD Cert.TurnIdeal.τ).loc Cert.TurnIdeal.main_arg2)
          ∧ r.2.mem ((c.tc : Thread Cert.TurnIdeal.nD Cert.TurnIdeal.τ).loc Cert.TurnIdeal.main_arg3) = m ((c.tc : Thread Cert.TurnIdeal.nD Cert.TurnIdeal.τ).loc Cert.TurnIdeal.main_arg3))
      ∧ θ_run (Cert.TurnReferenceIdeal.defs (F := Ideal)) (onTc (τ := Cert.TurnReferenceIdeal.τ) (Cert.TurnReferenceIdeal.main (F := Ideal))) ⟨m', fun _ => 0, g'⟩ (fun r => ∀ c : Dev Cert.TurnReferenceIdeal.nD,
          r.2.mem ((c.tc : Thread Cert.TurnReferenceIdeal.nD Cert.TurnReferenceIdeal.τ).loc Cert.TurnReferenceIdeal.main_v17) = v0 c
          ∧ r.2.mem ((c.tc : Thread Cert.TurnReferenceIdeal.nD Cert.TurnReferenceIdeal.τ).loc Cert.TurnReferenceIdeal.main_v32) = v1 c
          ∧ r.2.mem ((c.tc : Thread Cert.TurnReferenceIdeal.nD Cert.TurnReferenceIdeal.τ).loc Cert.TurnReferenceIdeal.main_arg0) = m' ((c.tc : Thread Cert.TurnReferenceIdeal.nD Cert.TurnReferenceIdeal.τ).loc Cert.TurnReferenceIdeal.main_arg0)
          ∧ r.2.mem ((c.tc : Thread Cert.TurnReferenceIdeal.nD Cert.TurnReferenceIdeal.τ).loc Cert.TurnReferenceIdeal.main_arg1) = m' ((c.tc : Thread Cert.TurnReferenceIdeal.nD Cert.TurnReferenceIdeal.τ).loc Cert.TurnReferenceIdeal.main_arg1)
          ∧ r.2.mem ((c.tc : Thread Cert.TurnReferenceIdeal.nD Cert.TurnReferenceIdeal.τ).loc Cert.TurnReferenceIdeal.main_arg2) = m' ((c.tc : Thread Cert.TurnReferenceIdeal.nD Cert.TurnReferenceIdeal.τ).loc Cert.TurnReferenceIdeal.main_arg2)
          ∧ r.2.mem ((c.tc : Thread Cert.TurnReferenceIdeal.nD Cert.TurnReferenceIdeal.τ).loc Cert.TurnReferenceIdeal.main_arg3) = m' ((c.tc : Thread Cert.TurnReferenceIdeal.nD Cert.TurnReferenceIdeal.τ).loc Cert.TurnReferenceIdeal.main_arg3))

def preserves_Gla_GlaIdeal : Prop :=
  True

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hPost : Cert.Post.Facts) (hPostIdeal : Cert.PostIdeal.Facts) (hPostReferenceIdeal : Cert.PostReferenceIdeal.Facts) (hCast : Cert.Cast.Facts) (hCastIdeal : Cert.CastIdeal.Facts) (hCastReferenceIdeal : Cert.CastReferenceIdeal.Facts) (hProj : Cert.Proj.Facts) (hProjIdeal : Cert.ProjIdeal.Facts) (hProjReferenceIdeal : Cert.ProjReferenceIdeal.Facts) (hOut : Cert.Out.Facts) (hOutIdeal : Cert.OutIdeal.Facts) (hOutReferenceIdeal : Cert.OutReferenceIdeal.Facts) (hMerge : Cert.Merge.Facts) (hMergeIdeal : Cert.MergeIdeal.Facts) (hMergeReferenceIdeal : Cert.MergeReferenceIdeal.Facts) (hNorm : Cert.Norm.Facts) (hNormIdeal : Cert.NormIdeal.Facts) (hNormReferenceIdeal : Cert.NormReferenceIdeal.Facts) (hTurn : Cert.Turn.Facts) (hTurnIdeal : Cert.TurnIdeal.Facts) (hTurnReferenceIdeal : Cert.TurnReferenceIdeal.Facts) (hGla : Cert.Gla.Facts) (hGlaIdeal : Cert.GlaIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ quiescent_Post (hPost := hPost)
    ∧ quiescent_PostIdeal (hPostIdeal := hPostIdeal)
    ∧ quiescent_PostReferenceIdeal (hPostReferenceIdeal := hPostReferenceIdeal)
    ∧ quiescent_Cast (hCast := hCast)
    ∧ quiescent_CastIdeal (hCastIdeal := hCastIdeal)
    ∧ quiescent_CastReferenceIdeal (hCastReferenceIdeal := hCastReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Out (hOut := hOut)
    ∧ quiescent_OutIdeal (hOutIdeal := hOutIdeal)
    ∧ quiescent_OutReferenceIdeal (hOutReferenceIdeal := hOutReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Turn (hTurn := hTurn)
    ∧ quiescent_TurnIdeal (hTurnIdeal := hTurnIdeal)
    ∧ quiescent_TurnReferenceIdeal (hTurnReferenceIdeal := hTurnReferenceIdeal)
    ∧ quiescent_Gla (hGla := hGla)
    ∧ quiescent_GlaIdeal (hGlaIdeal := hGlaIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
    ∧ preserves_Post_PostIdeal
    ∧ algebraic_PostIdeal_PostReferenceIdeal (hPostIdeal := hPostIdeal) (hPostReferenceIdeal := hPostReferenceIdeal)
    ∧ preserves_Cast_CastIdeal
    ∧ algebraic_CastIdeal_CastReferenceIdeal (hCastIdeal := hCastIdeal) (hCastReferenceIdeal := hCastReferenceIdeal)
    ∧ preserves_Proj_ProjIdeal
    ∧ algebraic_ProjIdeal_ProjReferenceIdeal (hProjIdeal := hProjIdeal) (hProjReferenceIdeal := hProjReferenceIdeal)
    ∧ preserves_Out_OutIdeal
    ∧ algebraic_OutIdeal_OutReferenceIdeal (hOutIdeal := hOutIdeal) (hOutReferenceIdeal := hOutReferenceIdeal)
    ∧ preserves_Merge_MergeIdeal
    ∧ algebraic_MergeIdeal_MergeReferenceIdeal (hMergeIdeal := hMergeIdeal) (hMergeReferenceIdeal := hMergeReferenceIdeal)
    ∧ preserves_Norm_NormIdeal
    ∧ algebraic_NormIdeal_NormReferenceIdeal (hNormIdeal := hNormIdeal) (hNormReferenceIdeal := hNormReferenceIdeal)
    ∧ preserves_Turn_TurnIdeal
    ∧ algebraic_TurnIdeal_TurnReferenceIdeal (hTurnIdeal := hTurnIdeal) (hTurnReferenceIdeal := hTurnReferenceIdeal)
    ∧ preserves_Gla_GlaIdeal
-- ==== Kernel.lean ====
abbrev S16384x4096 : Shape := ⟨2, ![16384, 4096]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S11008x4096 : Shape := ⟨2, ![11008, 4096]⟩
abbrev S16384x11008 : Shape := ⟨2, ![16384, 11008]⟩
abbrev S2x2048x4096 : Shape := ⟨3, ![2, 2048, 4096]⟩
abbrev S2 : Shape := ⟨1, ![2]⟩
abbrev S2x4096x256 : Shape := ⟨3, ![2, 4096, 256]⟩
abbrev S2x32x4096 : Shape := ⟨3, ![2, 32, 4096]⟩
abbrev S2x2048x256 : Shape := ⟨3, ![2, 2048, 256]⟩
abbrev S1 : Shape := ⟨1, ![1]⟩
abbrev S_ : Shape := ⟨0, ![]⟩
abbrev S1x2048x4096 : Shape := ⟨3, ![1, 2048, 4096]⟩
abbrev S2048x4096 : Shape := ⟨2, ![2048, 4096]⟩
abbrev S1x4096x256 : Shape := ⟨3, ![1, 4096, 256]⟩
abbrev S4096x256 : Shape := ⟨2, ![4096, 256]⟩
abbrev S1x32x4096 : Shape := ⟨3, ![1, 32, 4096]⟩
abbrev S32x4096 : Shape := ⟨2, ![32, 4096]⟩
abbrev S2048x256 : Shape := ⟨2, ![2048, 256]⟩
abbrev S1x2048x256 : Shape := ⟨3, ![1, 2048, 256]⟩

abbrev nBuf : Space → Nat
  | .hbm => 9
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S1x11008x4096, .f32⟩
  | .hbm, ⟨4, _⟩ => ⟨S4096x11008, .f32⟩
  | .hbm, ⟨5, _⟩ => ⟨S4096x11008, .f32⟩
  | .hbm, ⟨6, _⟩ => ⟨S11008x4096, .f32⟩
  | .hbm, ⟨7, _⟩ => ⟨S16384x11008, .bf16⟩
  | .hbm, ⟨8, _⟩ => ⟨S11008x4096, .bf16⟩
  | .local _ .vmem, ⟨0, _⟩ => ⟨S2x2048x4096, .bf16⟩
  | .local _ .vmem, ⟨1, _⟩ => ⟨S2x4096x256, .f32⟩
  | .local _ .vmem, ⟨2, _⟩ => ⟨S2x4096x256, .f32⟩
  | .local _ .vmem, ⟨3, _⟩ => ⟨S2x32x4096, .f32⟩
  | .local _ .vmem, ⟨4, _⟩ => ⟨S2x2048x256, .bf16⟩
  | .local _ .vmem, ⟨5, _⟩ => ⟨S2x32x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩

abbrev nD : Nat := 1
abbrev τ : Topo := Topo.v7x

variable {F : FTy → Type} [FloatOps F]

abbrev grid0 : Pipeline.Grid := .none

def k0_off1 : Fin 1 → Nat :=
  let c0_i32_28_r0 : BitVec 32 := 0#32
  let c2_i32_r0 : BitVec 32 := 2#32
  let v32_r0 : BitVec 32 := Scalar.remui c0_i32_28_r0 c2_i32_r0
  ![v32_r0.toNat]
def k0_off2 : Fin 3 → Nat :=
  let c0_i32_28_r0 : BitVec 32 := 0#32
  let c2_i32_r0 : BitVec 32 := 2#32
  let v32_r0 : BitVec 32 := Scalar.remui c0_i32_28_r0 c2_i32_r0
  let c0_i32_29_r0 : BitVec 32 := 0#32
  let c0_i32_30_r0 : BitVec 32 := 0#32
  ![v32_r0.toNat, 0, 0]
def k0_off3 : Fin 3 → Nat :=
  let c0_i32_35_r0 : BitVec 32 := 0#32
  let c2_i32_36_r0 : BitVec 32 := 2#32
  let v39_r0 : BitVec 32 := Scalar.remui c0_i32_35_r0 c2_i32_36_r0
  let c0_i32_37_r0 : BitVec 32 := 0#32
  let c0_i32_38_r0 : BitVec 32 := 0#32
  ![v39_r0.toNat, 0, 0]
def k0_off4 : Fin 3 → Nat :=
  let c0_i32_51_r0 : BitVec 32 := 0#32
  let c2_i32_52_r0 : BitVec 32 := 2#32
  let v53_r0 : BitVec 32 := Scalar.remui c0_i32_51_r0 c2_i32_52_r0
  let c0_i32_53_r0 : BitVec 32 := 0#32
  let c0_i32_54_r0 : BitVec 32 := 0#32
  ![v53_r0.toNat, 0, 0]
@[reducible] def k0_t1_loop : Scf.Loop 32 :=
  let c0_i32_69_r0 : BitVec 32 := 0#32
  let c344_i32_r0 : BitVec 32 := 344#32
  let v60_r0 : BitVec 32 := Scalar.addi c0_i32_69_r0 c344_i32_r0
  let c1_i32_70_r0 : BitVec 32 := 1#32
  ⟨c0_i32_69_r0, v60_r0, c1_i32_70_r0⟩
def k0_off5 (arg7_r0 : BitVec 32) : Fin 1 → Nat :=
  let c2_i32_254_r0 : BitVec 32 := 2#32
  let v390_r0 : BitVec 32 := Scalar.remui arg7_r0 c2_i32_254_r0
  ![v390_r0.toNat]
def k0_cond1 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c1_i32_132_r0 : BitVec 32 := 1#32
  let v137_r0 : BitVec 32 := Scalar.addi arg19_r0 c1_i32_132_r0
  let v138_r0 : BitVec 32 := Scalar.select v135_r0 v137_r0 arg19_r0
  let c8_i32_133_r0 : BitVec 32 := 8#32
  let v139_r0 : BitVec 1 := Scalar.cmpi .eq v138_r0 c8_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let v153_r0 : BitVec 1 := Scalar.cmpi .ne v121_r0 v141_r0
  let c0_i32_69_r0 : BitVec 32 := 0#32
  let c1_i32_70_r0 : BitVec 32 := 1#32
  let arg6_r0 : BitVec 32 := Scf.iv c0_i32_69_r0 c1_i32_70_r0 k0_t1
  let c343_i32_146_r0 : BitVec 32 := 343#32
  let v154_r0 : BitVec 1 := Scalar.cmpi .sge arg6_r0 c343_i32_146_r0
  let true_147_r0 : BitVec 1 := 1#1
  let v155_r0 : BitVec 1 := Scalar.xori v154_r0 true_147_r0
  let v156_r0 : BitVec 1 := Scalar.andi v153_r0 v155_r0
  let true_148_r0 : BitVec 1 := 1#1
  let v157_r0 : BitVec 1 := Scalar.andi v156_r0 true_148_r0
  let v158_r0 : BitVec 32 := Scalar.extui v157_r0
  let c0_i32_149_r0 : BitVec 32 := 0#32
  let v159_r0 : BitVec 1 := Scalar.cmpi .ne v158_r0 c0_i32_149_r0
  v159_r0

def k0_off6 (arg7_r0 : BitVec 32) : Fin 3 → Nat :=
  let c2_i32_254_r0 : BitVec 32 := 2#32
  let v390_r0 : BitVec 32 := Scalar.remui arg7_r0 c2_i32_254_r0
  let c0_i32_256_r0 : BitVec 32 := 0#32
  let c0_i32_257_r0 : BitVec 32 := 0#32
  ![v390_r0.toNat, 0, 0]
def k0_off7 (arg19_r0 : BitVec 32) (arg20_r0 : BitVec 32) : Fin 2 → Nat :=
  let c2048_i32_255_r0 : BitVec 32 := 2048#32
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c1_i32_132_r0 : BitVec 32 := 1#32
  let v137_r0 : BitVec 32 := Scalar.addi arg19_r0 c1_i32_132_r0
  let v138_r0 : BitVec 32 := Scalar.select v135_r0 v137_r0 arg19_r0
  let c8_i32_133_r0 : BitVec 32 := 8#32
  let v139_r0 : BitVec 1 := Scalar.cmpi .eq v138_r0 c8_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let v391_r0 : BitVec 32 := Scalar.muli c2048_i32_255_r0 v141_r0
  let c0_i32_258_r0 : BitVec 32 := 0#32
  ![v391_r0.toNat, 0]
def k0_off8 (arg9_r0 : BitVec 32) : Fin 1 → Nat :=
  let c2_i32_254_r0 : BitVec 32 := 2#32
  let v390_r0 : BitVec 32 := Scalar.remui arg9_r0 c2_i32_254_r0
  ![v390_r0.toNat]
def k0_cond2 (k0_t1 : Fin k0_t1_loop.trips) (arg20_r0 : BitVec 32) : BitVec 1 :=
  let c0_i32_118_r0 : BitVec 32 := 0#32
  let v122_r0 : BitVec 32 := Scalar.addi arg20_r0 c0_i32_118_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v163_r0 : BitVec 1 := Scalar.cmpi .ne v122_r0 v142_r0
  let c0_i32_69_r0 : BitVec 32 := 0#32
  let c1_i32_70_r0 : BitVec 32 := 1#32
  let arg6_r0 : BitVec 32 := Scf.iv c0_i32_69_r0 c1_i32_70_r0 k0_t1
  let c343_i32_152_r0 : BitVec 32 := 343#32
  let v164_r0 : BitVec 1 := Scalar.cmpi .sge arg6_r0 c343_i32_152_r0
  let true_153_r0 : BitVec 1 := 1#1
  let v165_r0 : BitVec 1 := Scalar.xori v164_r0 true_153_r0
  let v166_r0 : BitVec 1 := Scalar.andi v163_r0 v165_r0
  let true_154_r0 : BitVec 1 := 1#1
  let v167_r0 : BitVec 1 := Scalar.andi v166_r0 true_154_r0
  let v168_r0 : BitVec 32 := Scalar.extui v167_r0
  let c0_i32_155_r0 : BitVec 32 := 0#32
  let v169_r0 : BitVec 1 := Scalar.cmpi .ne v168_r0 c0_i32_155_r0
  v169_r0

def k0_off9 (arg9_r0 : BitVec 32) : Fin 3 → Nat :=
  let c2_i32_254_r0 : BitVec 32 := 2#32
  let v390_r0 : BitVec 32 := Scalar.remui arg9_r0 c2_i32_254_r0
  let c0_i32_256_r0 : BitVec 32 := 0#32
  let c0_i32_257_r0 : BitVec 32 := 0#32
  ![v390_r0.toNat, 0, 0]
def k0_off10 (arg20_r0 : BitVec 32) : Fin 2 → Nat :=
  let c0_i32_258_r0 : BitVec 32 := 0#32
  let c256_i32_255_r0 : BitVec 32 := 256#32
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v391_r0 : BitVec 32 := Scalar.muli c256_i32_255_r0 v142_r0
  ![0, v391_r0.toNat]
def k0_off11 (arg11_r0 : BitVec 32) : Fin 1 → Nat :=
  let c2_i32_254_r0 : BitVec 32 := 2#32
  let v390_r0 : BitVec 32 := Scalar.remui arg11_r0 c2_i32_254_r0
  ![v390_r0.toNat]
def k0_cond3 (k0_t1 : Fin k0_t1_loop.trips) (arg20_r0 : BitVec 32) : BitVec 1 :=
  let c0_i32_118_r0 : BitVec 32 := 0#32
  let v122_r0 : BitVec 32 := Scalar.addi arg20_r0 c0_i32_118_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v173_r0 : BitVec 1 := Scalar.cmpi .ne v122_r0 v142_r0
  let c0_i32_69_r0 : BitVec 32 := 0#32
  let c1_i32_70_r0 : BitVec 32 := 1#32
  let arg6_r0 : BitVec 32 := Scf.iv c0_i32_69_r0 c1_i32_70_r0 k0_t1
  let c343_i32_158_r0 : BitVec 32 := 343#32
  let v174_r0 : BitVec 1 := Scalar.cmpi .sge arg6_r0 c343_i32_158_r0
  let true_159_r0 : BitVec 1 := 1#1
  let v175_r0 : BitVec 1 := Scalar.xori v174_r0 true_159_r0
  let v176_r0 : BitVec 1 := Scalar.andi v173_r0 v175_r0
  let true_160_r0 : BitVec 1 := 1#1
  let v177_r0 : BitVec 1 := Scalar.andi v176_r0 true_160_r0
  let v178_r0 : BitVec 32 := Scalar.extui v177_r0
  let c0_i32_161_r0 : BitVec 32 := 0#32
  let v179_r0 : BitVec 1 := Scalar.cmpi .ne v178_r0 c0_i32_161_r0
  v179_r0

def k0_off12 (arg11_r0 : BitVec 32) : Fin 3 → Nat :=
  let c2_i32_254_r0 : BitVec 32 := 2#32
  let v390_r0 : BitVec 32 := Scalar.remui arg11_r0 c2_i32_254_r0
  let c0_i32_256_r0 : BitVec 32 := 0#32
  let c0_i32_257_r0 : BitVec 32 := 0#32
  ![v390_r0.toNat, 0, 0]
def k0_off13 (arg20_r0 : BitVec 32) : Fin 2 → Nat :=
  let c0_i32_258_r0 : BitVec 32 := 0#32
  let c256_i32_255_r0 : BitVec 32 := 256#32
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v391_r0 : BitVec 32 := Scalar.muli c256_i32_255_r0 v142_r0
  ![0, v391_r0.toNat]
def k0_off14 (arg13_r0 : BitVec 32) : Fin 1 → Nat :=
  let c2_i32_254_r0 : BitVec 32 := 2#32
  let v390_r0 : BitVec 32 := Scalar.remui arg13_r0 c2_i32_254_r0
  ![v390_r0.toNat]
def k0_cond4 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let c43_i32_164_r0 : BitVec 32 := 43#32
  let v183_r0 : BitVec 32 := Scalar.muli v121_r0 c43_i32_164_r0
  let c0_i32_118_r0 : BitVec 32 := 0#32
  let v122_r0 : BitVec 32 := Scalar.addi arg20_r0 c0_i32_118_r0
  let v184_r0 : BitVec 32 := Scalar.addi v183_r0 v122_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c1_i32_132_r0 : BitVec 32 := 1#32
  let v137_r0 : BitVec 32 := Scalar.addi arg19_r0 c1_i32_132_r0
  let v138_r0 : BitVec 32 := Scalar.select v135_r0 v137_r0 arg19_r0
  let c8_i32_133_r0 : BitVec 32 := 8#32
  let v139_r0 : BitVec 1 := Scalar.cmpi .eq v138_r0 c8_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let c43_i32_165_r0 : BitVec 32 := 43#32
  let v185_r0 : BitVec 32 := Scalar.muli v141_r0 c43_i32_165_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v186_r0 : BitVec 32 := Scalar.addi v185_r0 v142_r0
  let v187_r0 : BitVec 1 := Scalar.cmpi .ne v184_r0 v186_r0
  let c0_i32_69_r0 : BitVec 32 := 0#32
  let c1_i32_70_r0 : BitVec 32 := 1#32
  let arg6_r0 : BitVec 32 := Scf.iv c0_i32_69_r0 c1_i32_70_r0 k0_t1
  let c343_i32_166_r0 : BitVec 32 := 343#32
  let v188_r0 : BitVec 1 := Scalar.cmpi .sge arg6_r0 c343_i32_166_r0
  let true_167_r0 : BitVec 1 := 1#1
  let v189_r0 : BitVec 1 := Scalar.xori v188_r0 true_167_r0
  let v190_r0 : BitVec 1 := Scalar.andi v187_r0 v189_r0
  let true_168_r0 : BitVec 1 := 1#1
  let v191_r0 : BitVec 1 := Scalar.andi v190_r0 true_168_r0
  let v192_r0 : BitVec 32 := Scalar.extui v191_r0
  let c0_i32_169_r0 : BitVec 32 := 0#32
  let v193_r0 : BitVec 1 := Scalar.cmpi .ne v192_r0 c0_i32_169_r0
  v193_r0

def k0_off15 (arg13_r0 : BitVec 32) : Fin 3 → Nat :=
  let c2_i32_254_r0 : BitVec 32 := 2#32
  let v390_r0 : BitVec 32 := Scalar.remui arg13_r0 c2_i32_254_r0
  let c0_i32_257_r0 : BitVec 32 := 0#32
  let c0_i32_258_r0 : BitVec 32 := 0#32
  ![v390_r0.toNat, 0, 0]
def k0_off16 (arg19_r0 : BitVec 32) (arg20_r0 : BitVec 32) : Fin 2 → Nat :=
  let c32_i32_256_r0 : BitVec 32 := 32#32
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c1_i32_132_r0 : BitVec 32 := 1#32
  let v137_r0 : BitVec 32 := Scalar.addi arg19_r0 c1_i32_132_r0
  let v138_r0 : BitVec 32 := Scalar.select v135_r0 v137_r0 arg19_r0
  let c8_i32_133_r0 : BitVec 32 := 8#32
  let v139_r0 : BitVec 1 := Scalar.cmpi .eq v138_r0 c8_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let c43_i32_255_r0 : BitVec 32 := 43#32
  let v391_r0 : BitVec 32 := Scalar.muli v141_r0 c43_i32_255_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v392_r0 : BitVec 32 := Scalar.addi v391_r0 v142_r0
  let v393_r0 : BitVec 32 := Scalar.muli c32_i32_256_r0 v392_r0
  let c0_i32_259_r0 : BitVec 32 := 0#32
  ![v393_r0.toNat, 0]
def k0_off17 (arg8_r0 : BitVec 32) : Fin 1 → Nat :=
  let c2_i32_255_r0 : BitVec 32 := 2#32
  let v391_r0 : BitVec 32 := Scalar.remui arg8_r0 c2_i32_255_r0
  ![v391_r0.toNat]
def k0_cond5 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c7_i32_125_r0 : BitVec 32 := 7#32
  let v130_r0 : BitVec 32 := Scalar.select v129_r0 c7_i32_125_r0 v128_r0
  let c0_i32_126_r0 : BitVec 32 := 0#32
  let v131_r0 : BitVec 32 := Scalar.addi v130_r0 c0_i32_126_r0
  let v207_r0 : BitVec 1 := Scalar.cmpi .ne v121_r0 v131_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let v208_r0 : BitVec 1 := Scalar.ori v207_r0 v119_r0
  let c0_i32_176_r0 : BitVec 32 := 0#32
  let v209_r0 : BitVec 1 := Scalar.cmpi .sge arg6_r0 c0_i32_176_r0
  let v210_r0 : BitVec 1 := Scalar.andi v208_r0 v209_r0
  let v211_r0 : BitVec 32 := Scalar.extui v210_r0
  let c0_i32_177_r0 : BitVec 32 := 0#32
  let v212_r0 : BitVec 1 := Scalar.cmpi .ne v211_r0 c0_i32_177_r0
  v212_r0

def k0_off18 (arg8_r0 : BitVec 32) : Fin 3 → Nat :=
  let c2_i32_255_r0 : BitVec 32 := 2#32
  let v391_r0 : BitVec 32 := Scalar.remui arg8_r0 c2_i32_255_r0
  let c0_i32_256_r0 : BitVec 32 := 0#32
  let c0_i32_257_r0 : BitVec 32 := 0#32
  ![v391_r0.toNat, 0, 0]
def k0_off19 (arg19_r0 : BitVec 32) : Fin 2 → Nat :=
  let c2048_i32_254_r0 : BitVec 32 := 2048#32
  let c0_i32_117_r0 : BitVec 32 := 0#32
  let v121_r0 : BitVec 32 := Scalar.addi arg19_r0 c0_i32_117_r0
  let v390_r0 : BitVec 32 := Scalar.muli c2048_i32_254_r0 v121_r0
  let c0_i32_258_r0 : BitVec 32 := 0#32
  ![v390_r0.toNat, 0]
def k0_off20 (arg10_r0 : BitVec 32) : Fin 1 → Nat :=
  let c2_i32_255_r0 : BitVec 32 := 2#32
  let v391_r0 : BitVec 32 := Scalar.remui arg10_r0 c2_i32_255_r0
  ![v391_r0.toNat]
def k0_cond6 (k0_t1 : Fin k0_t1_loop.trips) (arg20_r0 : BitVec 32) : BitVec 1 :=
  let c0_i32_118_r0 : BitVec 32 := 0#32
  let v122_r0 : BitVec 32 := Scalar.addi arg20_r0 c0_i32_118_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c42_i32_122_r0 : BitVec 32 := 42#32
  let v126_r0 : BitVec 32 := Scalar.select v125_r0 c42_i32_122_r0 v124_r0
  let c0_i32_127_r0 : BitVec 32 := 0#32
  let v132_r0 : BitVec 32 := Scalar.addi v126_r0 c0_i32_127_r0
  let v213_r0 : BitVec 1 := Scalar.cmpi .ne v122_r0 v132_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let v214_r0 : BitVec 1 := Scalar.ori v213_r0 v119_r0
  let c0_i32_178_r0 : BitVec 32 := 0#32
  let v215_r0 : BitVec 1 := Scalar.cmpi .sge arg6_r0 c0_i32_178_r0
  let v216_r0 : BitVec 1 := Scalar.andi v214_r0 v215_r0
  let v217_r0 : BitVec 32 := Scalar.extui v216_r0
  let c0_i32_179_r0 : BitVec 32 := 0#32
  let v218_r0 : BitVec 1 := Scalar.cmpi .ne v217_r0 c0_i32_179_r0
  v218_r0

def k0_off21 (arg10_r0 : BitVec 32) : Fin 3 → Nat :=
  let c2_i32_255_r0 : BitVec 32 := 2#32
  let v391_r0 : BitVec 32 := Scalar.remui arg10_r0 c2_i32_255_r0
  let c0_i32_256_r0 : BitVec 32 := 0#32
  let c0_i32_257_r0 : BitVec 32 := 0#32
  ![v391_r0.toNat, 0, 0]
def k0_off22 (arg20_r0 : BitVec 32) : Fin 2 → Nat :=
  let c0_i32_258_r0 : BitVec 32 := 0#32
  let c256_i32_254_r0 : BitVec 32 := 256#32
  let c0_i32_118_r0 : BitVec 32 := 0#32
  let v122_r0 : BitVec 32 := Scalar.addi arg20_r0 c0_i32_118_r0
  let v390_r0 : BitVec 32 := Scalar.muli c256_i32_254_r0 v122_r0
  ![0, v390_r0.toNat]
def k0_off23 (arg12_r0 : BitVec 32) : Fin 1 → Nat :=
  let c2_i32_255_r0 : BitVec 32 := 2#32
  let v391_r0 : BitVec 32 := Scalar.remui arg12_r0 c2_i32_255_r0
  ![v391_r0.toNat]
def k0_cond7 (k0_t1 : Fin k0_t1_loop.trips) (arg20_r0 : BitVec 32) : BitVec 1 :=
  let c0_i32_118_r0 : BitVec 32 := 0#32
  let v122_r0 : BitVec 32 := Scalar.addi arg20_r0 c0_i32_118_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c42_i32_122_r0 : BitVec 32 := 42#32
  let v126_r0 : BitVec 32 := Scalar.select v125_r0 c42_i32_122_r0 v124_r0
  let c0_i32_127_r0 : BitVec 32 := 0#32
  let v132_r0 : BitVec 32 := Scalar.addi v126_r0 c0_i32_127_r0
  let v219_r0 : BitVec 1 := Scalar.cmpi .ne v122_r0 v132_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let v220_r0 : BitVec 1 := Scalar.ori v219_r0 v119_r0
  let c0_i32_180_r0 : BitVec 32 := 0#32
  let v221_r0 : BitVec 1 := Scalar.cmpi .sge arg6_r0 c0_i32_180_r0
  let v222_r0 : BitVec 1 := Scalar.andi v220_r0 v221_r0
  let v223_r0 : BitVec 32 := Scalar.extui v222_r0
  let c0_i32_181_r0 : BitVec 32 := 0#32
  let v224_r0 : BitVec 1 := Scalar.cmpi .ne v223_r0 c0_i32_181_r0
  v224_r0

def k0_off24 (arg12_r0 : BitVec 32) : Fin 3 → Nat :=
  let c2_i32_255_r0 : BitVec 32 := 2#32
  let v391_r0 : BitVec 32 := Scalar.remui arg12_r0 c2_i32_255_r0
  let c0_i32_256_r0 : BitVec 32 := 0#32
  let c0_i32_257_r0 : BitVec 32 := 0#32
  ![v391_r0.toNat, 0, 0]
def k0_off25 (arg20_r0 : BitVec 32) : Fin 2 → Nat :=
  let c0_i32_258_r0 : BitVec 32 := 0#32
  let c256_i32_254_r0 : BitVec 32 := 256#32
  let c0_i32_118_r0 : BitVec 32 := 0#32
  let v122_r0 : BitVec 32 := Scalar.addi arg20_r0 c0_i32_118_r0
  let v390_r0 : BitVec 32 := Scalar.muli c256_i32_254_r0 v122_r0
  ![0, v390_r0.toNat]
def k0_off26 (arg14_r0 : BitVec 32) : Fin 1 → Nat :=
  let c2_i32_256_r0 : BitVec 32 := 2#32
  let v393_r0 : BitVec 32 := Scalar.remui arg14_r0 c2_i32_256_r0
  ![v393_r0.toNat]
def k0_cond8 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let c43_i32_164_r0 : BitVec 32 := 43#32
  let v183_r0 : BitVec 32 := Scalar.muli v121_r0 c43_i32_164_r0
  let c0_i32_118_r0 : BitVec 32 := 0#32
  let v122_r0 : BitVec 32 := Scalar.addi arg20_r0 c0_i32_118_r0
  let v184_r0 : BitVec 32 := Scalar.addi v183_r0 v122_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c7_i32_125_r0 : BitVec 32 := 7#32
  let v130_r0 : BitVec 32 := Scalar.select v129_r0 c7_i32_125_r0 v128_r0
  let c0_i32_126_r0 : BitVec 32 := 0#32
  let v131_r0 : BitVec 32 := Scalar.addi v130_r0 c0_i32_126_r0
  let c43_i32_182_r0 : BitVec 32 := 43#32
  let v225_r0 : BitVec 32 := Scalar.muli v131_r0 c43_i32_182_r0
  let c42_i32_122_r0 : BitVec 32 := 42#32
  let v126_r0 : BitVec 32 := Scalar.select v125_r0 c42_i32_122_r0 v124_r0
  let c0_i32_127_r0 : BitVec 32 := 0#32
  let v132_r0 : BitVec 32 := Scalar.addi v126_r0 c0_i32_127_r0
  let v226_r0 : BitVec 32 := Scalar.addi v225_r0 v132_r0
  let v227_r0 : BitVec 1 := Scalar.cmpi .ne v184_r0 v226_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let v228_r0 : BitVec 1 := Scalar.ori v227_r0 v119_r0
  let c0_i32_183_r0 : BitVec 32 := 0#32
  let v229_r0 : BitVec 1 := Scalar.cmpi .sge arg6_r0 c0_i32_183_r0
  let v230_r0 : BitVec 1 := Scalar.andi v228_r0 v229_r0
  let v231_r0 : BitVec 32 := Scalar.extui v230_r0
  let c0_i32_184_r0 : BitVec 32 := 0#32
  let v232_r0 : BitVec 1 := Scalar.cmpi .ne v231_r0 c0_i32_184_r0
  v232_r0

def k0_off27 (arg14_r0 : BitVec 32) : Fin 3 → Nat :=
  let c2_i32_256_r0 : BitVec 32 := 2#32
  let v393_r0 : BitVec 32 := Scalar.remui arg14_r0 c2_i32_256_r0
  let c0_i32_257_r0 : BitVec 32 := 0#32
  let c0_i32_258_r0 : BitVec 32 := 0#32
  ![v393_r0.toNat, 0, 0]
def k0_off28 (arg19_r0 : BitVec 32) (arg20_r0 : BitVec 32) : Fin 2 → Nat :=
  let c32_i32_255_r0 : BitVec 32 := 32#32
  let c0_i32_117_r0 : BitVec 32 := 0#32
  let v121_r0 : BitVec 32 := Scalar.addi arg19_r0 c0_i32_117_r0
  let c43_i32_254_r0 : BitVec 32 := 43#32
  let v390_r0 : BitVec 32 := Scalar.muli v121_r0 c43_i32_254_r0
  let c0_i32_118_r0 : BitVec 32 := 0#32
  let v122_r0 : BitVec 32 := Scalar.addi arg20_r0 c0_i32_118_r0
  let v391_r0 : BitVec 32 := Scalar.addi v390_r0 v122_r0
  let v392_r0 : BitVec 32 := Scalar.muli c32_i32_255_r0 v391_r0
  let c0_i32_259_r0 : BitVec 32 := 0#32
  ![v392_r0.toNat, 0]
def k0_off29 (arg8_r0 : BitVec 32) : Fin 3 → Nat :=
  let c2_i32_189_r0 : BitVec 32 := 2#32
  let v247_r0 : BitVec 32 := Scalar.remui arg8_r0 c2_i32_189_r0
  let v253_r0 : Index := Scalar.indexCast v247_r0
  let c0_r0 : Index := 0#32
  let c0_195_r0 : Index := 0#32
  ![v253_r0.toNat, 0, 0]

def k0_chk2 (arg8_r0 : BitVec 32) : Prop :=
  (∀ a, (k0_off29 arg8_r0) a + S1x2048x4096.size a ≤ S2x2048x4096.size a)
theorem k0_off29_inb : ∀ (arg8_r0 : BitVec 32) (k0_hw2 : k0_chk2 arg8_r0), ∀ a, (k0_off29 arg8_r0) a + S1x2048x4096.size a ≤ S2x2048x4096.size a := fun arg8_r0 k0_hw2 => k0_hw2

def k0_off30 (arg10_r0 : BitVec 32) : Fin 3 → Nat :=
  let c2_i32_190_r0 : BitVec 32 := 2#32
  let v248_r0 : BitVec 32 := Scalar.remui arg10_r0 c2_i32_190_r0
  let v256_r0 : Index := Scalar.indexCast v248_r0
  let c0_196_r0 : Index := 0#32
  let c0_197_r0 : Index := 0#32
  ![v256_r0.toNat, 0, 0]

def k0_chk3 (arg10_r0 : BitVec 32) : Prop :=
  (∀ a, (k0_off30 arg10_r0) a + S1x4096x256.size a ≤ S2x4096x256.size a)
theorem k0_off30_inb : ∀ (arg10_r0 : BitVec 32) (k0_hw3 : k0_chk3 arg10_r0), ∀ a, (k0_off30 arg10_r0) a + S1x4096x256.size a ≤ S2x4096x256.size a := fun arg10_r0 k0_hw3 => k0_hw3

def k0_off31 (arg12_r0 : BitVec 32) : Fin 3 → Nat :=
  let c2_i32_191_r0 : BitVec 32 := 2#32
  let v249_r0 : BitVec 32 := Scalar.remui arg12_r0 c2_i32_191_r0
  let v261_r0 : Index := Scalar.indexCast v249_r0
  let c0_198_r0 : Index := 0#32
  let c0_199_r0 : Index := 0#32
  ![v261_r0.toNat, 0, 0]

def k0_chk4 (arg12_r0 : BitVec 32) : Prop :=
  (∀ a, (k0_off31 arg12_r0) a + S1x4096x256.size a ≤ S2x4096x256.size a)
theorem k0_off31_inb : ∀ (arg12_r0 : BitVec 32) (k0_hw4 : k0_chk4 arg12_r0), ∀ a, (k0_off31 arg12_r0) a + S1x4096x256.size a ≤ S2x4096x256.size a := fun arg12_r0 k0_hw4 => k0_hw4

def k0_off32 (arg15_r0 : BitVec 32) : Fin 3 → Nat :=
  let c2_i32_193_r0 : BitVec 32 := 2#32
  let v251_r0 : BitVec 32 := Scalar.remui arg15_r0 c2_i32_193_r0
  let v276_r0 : Index := Scalar.indexCast v251_r0
  let c0_204_r0 : Index := 0#32
  let c0_205_r0 : Index := 0#32
  ![v276_r0.toNat, 0, 0]

def k0_chk5 (arg15_r0 : BitVec 32) : Prop :=
  (∀ a, (k0_off32 arg15_r0) a + S1x2048x256.size a ≤ S2x2048x256.size a) ∧
  (∀ (hinb : ∀ a, (k0_off32 arg15_r0) a + S1x2048x256.size a ≤ S2x2048x256.size a), (Rect.unit (s := S2x2048x256) (k0_off32 arg15_r0) S1x2048x256.size hinb).PackedRows (EltTy.packing .bf16))
theorem k0_off32_inb : ∀ (arg15_r0 : BitVec 32) (k0_hw5 : k0_chk5 arg15_r0), ∀ a, (k0_off32 arg15_r0) a + S1x2048x256.size a ≤ S2x2048x256.size a := fun arg15_r0 k0_hw5 => k0_hw5.1
theorem k0_off32_packedbf16 : ∀ (arg15_r0 : BitVec 32) (k0_hw5 : k0_chk5 arg15_r0), (Rect.unit (s := S2x2048x256) (k0_off32 arg15_r0) S1x2048x256.size (k0_off32_inb arg15_r0 k0_hw5)).PackedRows (EltTy.packing .bf16) := fun arg15_r0 k0_hw5 => k0_hw5.2 (k0_off32_inb arg15_r0 k0_hw5)

def k0_off33 (arg14_r0 : BitVec 32) : Fin 3 → Nat :=
  let c2_i32_192_r0 : BitVec 32 := 2#32
  let v250_r0 : BitVec 32 := Scalar.remui arg14_r0 c2_i32_192_r0
  let v280_r0 : Index := Scalar.indexCast v250_r0
  let c0_206_r0 : Index := 0#32
  let c0_207_r0 : Index := 0#32
  ![v280_r0.toNat, 0, 0]

def k0_chk6 (arg14_r0 : BitVec 32) : Prop :=
  (∀ a, (k0_off33 arg14_r0) a + S1x32x4096.size a ≤ S2x32x4096.size a)
theorem k0_off33_inb : ∀ (arg14_r0 : BitVec 32) (k0_hw6 : k0_chk6 arg14_r0), ∀ a, (k0_off33 arg14_r0) a + S1x32x4096.size a ≤ S2x32x4096.size a := fun arg14_r0 k0_hw6 => k0_hw6

def k0_off34 (arg17_r0 : BitVec 32) : Fin 3 → Nat :=
  let c2_i32_194_r0 : BitVec 32 := 2#32
  let v252_r0 : BitVec 32 := Scalar.remui arg17_r0 c2_i32_194_r0
  let v284_r0 : Index := Scalar.indexCast v252_r0
  let c0_208_r0 : Index := 0#32
  let c0_209_r0 : Index := 0#32
  ![v284_r0.toNat, 0, 0]

def k0_chk7 (arg17_r0 : BitVec 32) : Prop :=
  (∀ a, (k0_off34 arg17_r0) a + S1x32x4096.size a ≤ S2x32x4096.size a) ∧
  (∀ (hinb : ∀ a, (k0_off34 arg17_r0) a + S1x32x4096.size a ≤ S2x32x4096.size a), (Rect.unit (s := S2x32x4096) (k0_off34 arg17_r0) S1x32x4096.size hinb).PackedRows (EltTy.packing .bf16))
theorem k0_off34_inb : ∀ (arg17_r0 : BitVec 32) (k0_hw7 : k0_chk7 arg17_r0), ∀ a, (k0_off34 arg17_r0) a + S1x32x4096.size a ≤ S2x32x4096.size a := fun arg17_r0 k0_hw7 => k0_hw7.1
theorem k0_off34_packedbf16 : ∀ (arg17_r0 : BitVec 32) (k0_hw7 : k0_chk7 arg17_r0), (Rect.unit (s := S2x32x4096) (k0_off34 arg17_r0) S1x32x4096.size (k0_off34_inb arg17_r0 k0_hw7)).PackedRows (EltTy.packing .bf16) := fun arg17_r0 k0_hw7 => k0_hw7.2 (k0_off34_inb arg17_r0 k0_hw7)

def k0_off35 (arg15_r0 : BitVec 32) : Fin 1 → Nat :=
  let c2_i32_254_r0 : BitVec 32 := 2#32
  let v390_r0 : BitVec 32 := Scalar.remui arg15_r0 c2_i32_254_r0
  ![v390_r0.toNat]
def k0_cond15 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c1_i32_132_r0 : BitVec 32 := 1#32
  let v137_r0 : BitVec 32 := Scalar.addi arg19_r0 c1_i32_132_r0
  let v138_r0 : BitVec 32 := Scalar.select v135_r0 v137_r0 arg19_r0
  let c8_i32_133_r0 : BitVec 32 := 8#32
  let v139_r0 : BitVec 1 := Scalar.cmpi .eq v138_r0 c8_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let v308_r0 : BitVec 1 := Scalar.cmpi .ne v121_r0 v141_r0
  let c0_i32_118_r0 : BitVec 32 := 0#32
  let v122_r0 : BitVec 32 := Scalar.addi arg20_r0 c0_i32_118_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v309_r0 : BitVec 1 := Scalar.cmpi .ne v122_r0 v142_r0
  let v310_r0 : BitVec 1 := Scalar.ori v308_r0 v309_r0
  let c0_i32_69_r0 : BitVec 32 := 0#32
  let c1_i32_70_r0 : BitVec 32 := 1#32
  let arg6_r0 : BitVec 32 := Scf.iv c0_i32_69_r0 c1_i32_70_r0 k0_t1
  let c343_i32_r0 : BitVec 32 := 343#32
  let v120_r0 : BitVec 1 := Scalar.cmpi .eq arg6_r0 c343_i32_r0
  let v311_r0 : BitVec 1 := Scalar.ori v310_r0 v120_r0
  let v312_r0 : BitVec 32 := Scalar.extui v311_r0
  let c0_i32_217_r0 : BitVec 32 := 0#32
  let v313_r0 : BitVec 1 := Scalar.cmpi .ne v312_r0 c0_i32_217_r0
  v313_r0

def k0_off36 (arg19_r0 : BitVec 32) (arg20_r0 : BitVec 32) : Fin 2 → Nat :=
  let c2048_i32_255_r0 : BitVec 32 := 2048#32
  let c0_i32_117_r0 : BitVec 32 := 0#32
  let v121_r0 : BitVec 32 := Scalar.addi arg19_r0 c0_i32_117_r0
  let v391_r0 : BitVec 32 := Scalar.muli c2048_i32_255_r0 v121_r0
  let c256_i32_256_r0 : BitVec 32 := 256#32
  let c0_i32_118_r0 : BitVec 32 := 0#32
  let v122_r0 : BitVec 32 := Scalar.addi arg20_r0 c0_i32_118_r0
  let v392_r0 : BitVec 32 := Scalar.muli c256_i32_256_r0 v122_r0
  ![v391_r0.toNat, v392_r0.toNat]
def k0_off37 (arg15_r0 : BitVec 32) : Fin 3 → Nat :=
  let c2_i32_254_r0 : BitVec 32 := 2#32
  let v390_r0 : BitVec 32 := Scalar.remui arg15_r0 c2_i32_254_r0
  let c0_i32_257_r0 : BitVec 32 := 0#32
  let c0_i32_258_r0 : BitVec 32 := 0#32
  ![v390_r0.toNat, 0, 0]
def k0_off38 (arg17_r0 : BitVec 32) : Fin 1 → Nat :=
  let c2_i32_254_r0 : BitVec 32 := 2#32
  let v390_r0 : BitVec 32 := Scalar.remui arg17_r0 c2_i32_254_r0
  ![v390_r0.toNat]
def k0_cond16 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let c43_i32_164_r0 : BitVec 32 := 43#32
  let v183_r0 : BitVec 32 := Scalar.muli v121_r0 c43_i32_164_r0
  let c0_i32_118_r0 : BitVec 32 := 0#32
  let v122_r0 : BitVec 32 := Scalar.addi arg20_r0 c0_i32_118_r0
  let v184_r0 : BitVec 32 := Scalar.addi v183_r0 v122_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c43_i32_130_r0 : BitVec 32 := 43#32
  let v135_r0 : BitVec 1 := Scalar.cmpi .eq v134_r0 c43_i32_130_r0
  let c1_i32_132_r0 : BitVec 32 := 1#32
  let v137_r0 : BitVec 32 := Scalar.addi arg19_r0 c1_i32_132_r0
  let v138_r0 : BitVec 32 := Scalar.select v135_r0 v137_r0 arg19_r0
  let c8_i32_133_r0 : BitVec 32 := 8#32
  let v139_r0 : BitVec 1 := Scalar.cmpi .eq v138_r0 c8_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let c43_i32_165_r0 : BitVec 32 := 43#32
  let v185_r0 : BitVec 32 := Scalar.muli v141_r0 c43_i32_165_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v186_r0 : BitVec 32 := Scalar.addi v185_r0 v142_r0
  let v317_r0 : BitVec 1 := Scalar.cmpi .ne v184_r0 v186_r0
  let c0_i32_69_r0 : BitVec 32 := 0#32
  let c1_i32_70_r0 : BitVec 32 := 1#32
  let arg6_r0 : BitVec 32 := Scf.iv c0_i32_69_r0 c1_i32_70_r0 k0_t1
  let c343_i32_r0 : BitVec 32 := 343#32
  let v120_r0 : BitVec 1 := Scalar.cmpi .eq arg6_r0 c343_i32_r0
  let v318_r0 : BitVec 1 := Scalar.ori v317_r0 v120_r0
  let v319_r0 : BitVec 32 := Scalar.extui v318_r0
  let c0_i32_220_r0 : BitVec 32 := 0#32
  let v320_r0 : BitVec 1 := Scalar.cmpi .ne v319_r0 c0_i32_220_r0
  v320_r0

def k0_off39 (arg19_r0 : BitVec 32) (arg20_r0 : BitVec 32) : Fin 2 → Nat :=
  let c32_i32_256_r0 : BitVec 32 := 32#32
  let c0_i32_117_r0 : BitVec 32 := 0#32
  let v121_r0 : BitVec 32 := Scalar.addi arg19_r0 c0_i32_117_r0
  let c43_i32_255_r0 : BitVec 32 := 43#32
  let v391_r0 : BitVec 32 := Scalar.muli v121_r0 c43_i32_255_r0
  let c0_i32_118_r0 : BitVec 32 := 0#32
  let v122_r0 : BitVec 32 := Scalar.addi arg20_r0 c0_i32_118_r0
  let v392_r0 : BitVec 32 := Scalar.addi v391_r0 v122_r0
  let v393_r0 : BitVec 32 := Scalar.muli c32_i32_256_r0 v392_r0
  let c0_i32_257_r0 : BitVec 32 := 0#32
  ![v393_r0.toNat, 0]
def k0_off40 (arg17_r0 : BitVec 32) : Fin 3 → Nat :=
  let c2_i32_254_r0 : BitVec 32 := 2#32
  let v390_r0 : BitVec 32 := Scalar.remui arg17_r0 c2_i32_254_r0
  let c0_i32_258_r0 : BitVec 32 := 0#32
  let c0_i32_259_r0 : BitVec 32 := 0#32
  ![v390_r0.toNat, 0, 0]
def k0_off41 (arg16_r0 : BitVec 32) : Fin 1 → Nat :=
  let c2_i32_254_r0 : BitVec 32 := 2#32
  let v390_r0 : BitVec 32 := Scalar.remui arg16_r0 c2_i32_254_r0
  ![v390_r0.toNat]
def k0_cond21 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c7_i32_125_r0 : BitVec 32 := 7#32
  let v130_r0 : BitVec 32 := Scalar.select v129_r0 c7_i32_125_r0 v128_r0
  let c0_i32_126_r0 : BitVec 32 := 0#32
  let v131_r0 : BitVec 32 := Scalar.addi v130_r0 c0_i32_126_r0
  let v348_r0 : BitVec 1 := Scalar.cmpi .ne v121_r0 v131_r0
  let c0_i32_118_r0 : BitVec 32 := 0#32
  let v122_r0 : BitVec 32 := Scalar.addi arg20_r0 c0_i32_118_r0
  let c42_i32_122_r0 : BitVec 32 := 42#32
  let v126_r0 : BitVec 32 := Scalar.select v125_r0 c42_i32_122_r0 v124_r0
  let c0_i32_127_r0 : BitVec 32 := 0#32
  let v132_r0 : BitVec 32 := Scalar.addi v126_r0 c0_i32_127_r0
  let v349_r0 : BitVec 1 := Scalar.cmpi .ne v122_r0 v132_r0
  let v350_r0 : BitVec 1 := Scalar.ori v348_r0 v349_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let true_235_r0 : BitVec 1 := 1#1
  let v351_r0 : BitVec 1 := Scalar.xori v119_r0 true_235_r0
  let v352_r0 : BitVec 1 := Scalar.andi v350_r0 v351_r0
  let v353_r0 : BitVec 32 := Scalar.extui v352_r0
  let c0_i32_236_r0 : BitVec 32 := 0#32
  let v354_r0 : BitVec 1 := Scalar.cmpi .ne v353_r0 c0_i32_236_r0
  v354_r0

def k0_off42 (arg19_r0 : BitVec 32) (arg20_r0 : BitVec 32) : Fin 2 → Nat :=
  let c2048_i32_255_r0 : BitVec 32 := 2048#32
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c7_i32_125_r0 : BitVec 32 := 7#32
  let v130_r0 : BitVec 32 := Scalar.select v129_r0 c7_i32_125_r0 v128_r0
  let c0_i32_126_r0 : BitVec 32 := 0#32
  let v131_r0 : BitVec 32 := Scalar.addi v130_r0 c0_i32_126_r0
  let v391_r0 : BitVec 32 := Scalar.muli c2048_i32_255_r0 v131_r0
  let c256_i32_256_r0 : BitVec 32 := 256#32
  let c42_i32_122_r0 : BitVec 32 := 42#32
  let v126_r0 : BitVec 32 := Scalar.select v125_r0 c42_i32_122_r0 v124_r0
  let c0_i32_127_r0 : BitVec 32 := 0#32
  let v132_r0 : BitVec 32 := Scalar.addi v126_r0 c0_i32_127_r0
  let v392_r0 : BitVec 32 := Scalar.muli c256_i32_256_r0 v132_r0
  ![v391_r0.toNat, v392_r0.toNat]
def k0_off43 (arg16_r0 : BitVec 32) : Fin 3 → Nat :=
  let c2_i32_254_r0 : BitVec 32 := 2#32
  let v390_r0 : BitVec 32 := Scalar.remui arg16_r0 c2_i32_254_r0
  let c0_i32_257_r0 : BitVec 32 := 0#32
  let c0_i32_258_r0 : BitVec 32 := 0#32
  ![v390_r0.toNat, 0, 0]
def k0_off44 (arg18_r0 : BitVec 32) : Fin 1 → Nat :=
  let c2_i32_254_r0 : BitVec 32 := 2#32
  let v390_r0 : BitVec 32 := Scalar.remui arg18_r0 c2_i32_254_r0
  ![v390_r0.toNat]
def k0_cond22 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let c43_i32_164_r0 : BitVec 32 := 43#32
  let v183_r0 : BitVec 32 := Scalar.muli v121_r0 c43_i32_164_r0
  let c0_i32_118_r0 : BitVec 32 := 0#32
  let v122_r0 : BitVec 32 := Scalar.addi arg20_r0 c0_i32_118_r0
  let v184_r0 : BitVec 32 := Scalar.addi v183_r0 v122_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c7_i32_125_r0 : BitVec 32 := 7#32
  let v130_r0 : BitVec 32 := Scalar.select v129_r0 c7_i32_125_r0 v128_r0
  let c0_i32_126_r0 : BitVec 32 := 0#32
  let v131_r0 : BitVec 32 := Scalar.addi v130_r0 c0_i32_126_r0
  let c43_i32_182_r0 : BitVec 32 := 43#32
  let v225_r0 : BitVec 32 := Scalar.muli v131_r0 c43_i32_182_r0
  let c42_i32_122_r0 : BitVec 32 := 42#32
  let v126_r0 : BitVec 32 := Scalar.select v125_r0 c42_i32_122_r0 v124_r0
  let c0_i32_127_r0 : BitVec 32 := 0#32
  let v132_r0 : BitVec 32 := Scalar.addi v126_r0 c0_i32_127_r0
  let v226_r0 : BitVec 32 := Scalar.addi v225_r0 v132_r0
  let v358_r0 : BitVec 1 := Scalar.cmpi .ne v184_r0 v226_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let true_239_r0 : BitVec 1 := 1#1
  let v359_r0 : BitVec 1 := Scalar.xori v119_r0 true_239_r0
  let v360_r0 : BitVec 1 := Scalar.andi v358_r0 v359_r0
  let v361_r0 : BitVec 32 := Scalar.extui v360_r0
  let c0_i32_240_r0 : BitVec 32 := 0#32
  let v362_r0 : BitVec 1 := Scalar.cmpi .ne v361_r0 c0_i32_240_r0
  v362_r0

def k0_off45 (arg19_r0 : BitVec 32) (arg20_r0 : BitVec 32) : Fin 2 → Nat :=
  let c32_i32_256_r0 : BitVec 32 := 32#32
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c7_i32_125_r0 : BitVec 32 := 7#32
  let v130_r0 : BitVec 32 := Scalar.select v129_r0 c7_i32_125_r0 v128_r0
  let c0_i32_126_r0 : BitVec 32 := 0#32
  let v131_r0 : BitVec 32 := Scalar.addi v130_r0 c0_i32_126_r0
  let c43_i32_255_r0 : BitVec 32 := 43#32
  let v391_r0 : BitVec 32 := Scalar.muli v131_r0 c43_i32_255_r0
  let c42_i32_122_r0 : BitVec 32 := 42#32
  let v126_r0 : BitVec 32 := Scalar.select v125_r0 c42_i32_122_r0 v124_r0
  let c0_i32_127_r0 : BitVec 32 := 0#32
  let v132_r0 : BitVec 32 := Scalar.addi v126_r0 c0_i32_127_r0
  let v392_r0 : BitVec 32 := Scalar.addi v391_r0 v132_r0
  let v393_r0 : BitVec 32 := Scalar.muli c32_i32_256_r0 v392_r0
  let c0_i32_257_r0 : BitVec 32 := 0#32
  ![v393_r0.toNat, 0]
def k0_off46 (arg18_r0 : BitVec 32) : Fin 3 → Nat :=
  let c2_i32_254_r0 : BitVec 32 := 2#32
  let v390_r0 : BitVec 32 := Scalar.remui arg18_r0 c2_i32_254_r0
  let c0_i32_258_r0 : BitVec 32 := 0#32
  let c0_i32_259_r0 : BitVec 32 := 0#32
  ![v390_r0.toNat, 0, 0]

def k0_chk1_0 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  (∀ (k0_h1 : k0_cond1 k0_t1 arg19_r0 arg20_r0 = 1#1), ∀ a, (k0_off5 arg7_r0) a + S1.size a ≤ S2.size a) ∧
  (∀ (k0_h1 : k0_cond1 k0_t1 arg19_r0 arg20_r0 = 1#1), ∀ a, (k0_off6 arg7_r0) a + S1x2048x4096.size a ≤ S2x2048x4096.size a) ∧
  (∀ (k0_h1 : k0_cond1 k0_t1 arg19_r0 arg20_r0 = 1#1), ∀ a, (k0_off7 arg19_r0 arg20_r0) a + S2048x4096.size a ≤ S16384x4096.size a) ∧
  (∀ (k0_h1 : k0_cond1 k0_t1 arg19_r0 arg20_r0 = 1#1), ∀ (hinb : ∀ a, (k0_off7 arg19_r0 arg20_r0) a + S2048x4096.size a ≤ S16384x4096.size a), (Rect.unit (s := S16384x4096) (k0_off7 arg19_r0 arg20_r0) S2048x4096.size hinb).WholeWords (EltTy.packing .bf16)) ∧
  (∀ (k0_h1 : k0_cond1 k0_t1 arg19_r0 arg20_r0 = 1#1), ∀ (hinb : ∀ a, (k0_off6 arg7_r0) a + S1x2048x4096.size a ≤ S2x2048x4096.size a), (Rect.unit (s := S2x2048x4096) (k0_off6 arg7_r0) S1x2048x4096.size hinb).WholeWords (EltTy.packing .bf16)) ∧
  (∀ (k0_h2 : k0_cond2 k0_t1 arg20_r0 = 1#1), ∀ a, (k0_off8 arg9_r0) a + S1.size a ≤ S2.size a) ∧
  (∀ (k0_h2 : k0_cond2 k0_t1 arg20_r0 = 1#1), ∀ a, (k0_off9 arg9_r0) a + S1x4096x256.size a ≤ S2x4096x256.size a) ∧
  (∀ (k0_h2 : k0_cond2 k0_t1 arg20_r0 = 1#1), ∀ a, (k0_off10 arg20_r0) a + S4096x256.size a ≤ S4096x11008.size a) ∧
  (∀ (k0_h3 : k0_cond3 k0_t1 arg20_r0 = 1#1), ∀ a, (k0_off11 arg11_r0) a + S1.size a ≤ S2.size a) ∧
  (∀ (k0_h3 : k0_cond3 k0_t1 arg20_r0 = 1#1), ∀ a, (k0_off12 arg11_r0) a + S1x4096x256.size a ≤ S2x4096x256.size a) ∧
  (∀ (k0_h3 : k0_cond3 k0_t1 arg20_r0 = 1#1), ∀ a, (k0_off13 arg20_r0) a + S4096x256.size a ≤ S4096x11008.size a) ∧
  (∀ (k0_h4 : k0_cond4 k0_t1 arg19_r0 arg20_r0 = 1#1), ∀ a, (k0_off14 arg13_r0) a + S1.size a ≤ S2.size a) ∧
  (∀ (k0_h4 : k0_cond4 k0_t1 arg19_r0 arg20_r0 = 1#1), ∀ a, (k0_off15 arg13_r0) a + S1x32x4096.size a ≤ S2x32x4096.size a) ∧
  (∀ (k0_h4 : k0_cond4 k0_t1 arg19_r0 arg20_r0 = 1#1), ∀ a, (k0_off16 arg19_r0 arg20_r0) a + S32x4096.size a ≤ S11008x4096.size a) ∧
  (∀ (k0_h5 : k0_cond5 k0_t1 arg19_r0 arg20_r0 = 1#1), ∀ a, (k0_off17 arg8_r0) a + S1.size a ≤ S2.size a) ∧
  (∀ (k0_h5 : k0_cond5 k0_t1 arg19_r0 arg20_r0 = 1#1), ∀ a, (k0_off18 arg8_r0) a + S1x2048x4096.size a ≤ S2x2048x4096.size a) ∧
  (∀ (k0_h5 : k0_cond5 k0_t1 arg19_r0 arg20_r0 = 1#1), ∀ a, (k0_off19 arg19_r0) a + S2048x4096.size a ≤ S16384x4096.size a) ∧
  (∀ (k0_h5 : k0_cond5 k0_t1 arg19_r0 arg20_r0 = 1#1), ∀ (hinb : ∀ a, (k0_off19 arg19_r0) a + S2048x4096.size a ≤ S16384x4096.size a), (Rect.unit (s := S16384x4096) (k0_off19 arg19_r0) S2048x4096.size hinb).WholeWords (EltTy.packing .bf16)) ∧
  (∀ (k0_h5 : k0_cond5 k0_t1 arg19_r0 arg20_r0 = 1#1), ∀ (hinb : ∀ a, (k0_off18 arg8_r0) a + S1x2048x4096.size a ≤ S2x2048x4096.size a), (Rect.unit (s := S2x2048x4096) (k0_off18 arg8_r0) S1x2048x4096.size hinb).WholeWords (EltTy.packing .bf16)) ∧
  (∀ (k0_h6 : k0_cond6 k0_t1 arg20_r0 = 1#1), ∀ a, (k0_off20 arg10_r0) a + S1.size a ≤ S2.size a) ∧
  (∀ (k0_h6 : k0_cond6 k0_t1 arg20_r0 = 1#1), ∀ a, (k0_off21 arg10_r0) a + S1x4096x256.size a ≤ S2x4096x256.size a) ∧
  (∀ (k0_h6 : k0_cond6 k0_t1 arg20_r0 = 1#1), ∀ a, (k0_off22 arg20_r0) a + S4096x256.size a ≤ S4096x11008.size a) ∧
  (∀ (k0_h7 : k0_cond7 k0_t1 arg20_r0 = 1#1), ∀ a, (k0_off23 arg12_r0) a + S1.size a ≤ S2.size a) ∧
  (∀ (k0_h7 : k0_cond7 k0_t1 arg20_r0 = 1#1), ∀ a, (k0_off24 arg12_r0) a + S1x4096x256.size a ≤ S2x4096x256.size a) ∧
  (∀ (k0_h7 : k0_cond7 k0_t1 arg20_r0 = 1#1), ∀ a, (k0_off25 arg20_r0) a + S4096x256.size a ≤ S4096x11008.size a) ∧
  (∀ (k0_h8 : k0_cond8 k0_t1 arg19_r0 arg20_r0 = 1#1), ∀ a, (k0_off26 arg14_r0) a + S1.size a ≤ S2.size a) ∧
  (∀ (k0_h8 : k0_cond8 k0_t1 arg19_r0 arg20_r0 = 1#1), ∀ a, (k0_off27 arg14_r0) a + S1x32x4096.size a ≤ S2x32x4096.size a) ∧
  (∀ (k0_h8 : k0_cond8 k0_t1 arg19_r0 arg20_r0 = 1#1), ∀ a, (k0_off28 arg19_r0 arg20_r0) a + S32x4096.size a ≤ S11008x4096.size a) ∧
  (∀ (k0_h15 : k0_cond15 k0_t1 arg19_r0 arg20_r0 = 1#1), ∀ a, (k0_off35 arg15_r0) a + S1.size a ≤ S2.size a) ∧
  (∀ (k0_h15 : k0_cond15 k0_t1 arg19_r0 arg20_r0 = 1#1), ∀ a, (k0_off36 arg19_r0 arg20_r0) a + S2048x256.size a ≤ S16384x11008.size a) ∧
  (∀ (k0_h15 : k0_cond15 k0_t1 arg19_r0 arg20_r0 = 1#1), ∀ a, (k0_off37 arg15_r0) a + S1x2048x256.size a ≤ S2x2048x256.size a) ∧
  (∀ (k0_h15 : k0_cond15 k0_t1 arg19_r0 arg20_r0 = 1#1), ∀ (hinb : ∀ a, (k0_off37 arg15_r0) a + S1x2048x256.size a ≤ S2x2048x256.size a), (Rect.unit (s := S2x2048x256) (k0_off37 arg15_r0) S1x2048x256.size hinb).WholeWords (EltTy.packing .bf16))
def k0_chk1_1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  (∀ (k0_h15 : k0_cond15 k0_t1 arg19_r0 arg20_r0 = 1#1), ∀ (hinb : ∀ a, (k0_off36 arg19_r0 arg20_r0) a + S2048x256.size a ≤ S16384x11008.size a), (Rect.unit (s := S16384x11008) (k0_off36 arg19_r0 arg20_r0) S2048x256.size hinb).WholeWords (EltTy.packing .bf16)) ∧
  (∀ (k0_h16 : k0_cond16 k0_t1 arg19_r0 arg20_r0 = 1#1), ∀ a, (k0_off38 arg17_r0) a + S1.size a ≤ S2.size a) ∧
  (∀ (k0_h16 : k0_cond16 k0_t1 arg19_r0 arg20_r0 = 1#1), ∀ a, (k0_off39 arg19_r0 arg20_r0) a + S32x4096.size a ≤ S11008x4096.size a) ∧
  (∀ (k0_h16 : k0_cond16 k0_t1 arg19_r0 arg20_r0 = 1#1), ∀ a, (k0_off40 arg17_r0) a + S1x32x4096.size a ≤ S2x32x4096.size a) ∧
  (∀ (k0_h16 : k0_cond16 k0_t1 arg19_r0 arg20_r0 = 1#1), ∀ (hinb : ∀ a, (k0_off40 arg17_r0) a + S1x32x4096.size a ≤ S2x32x4096.size a), (Rect.unit (s := S2x32x4096) (k0_off40 arg17_r0) S1x32x4096.size hinb).WholeWords (EltTy.packing .bf16)) ∧
  (∀ (k0_h16 : k0_cond16 k0_t1 arg19_r0 arg20_r0 = 1#1), ∀ (hinb : ∀ a, (k0_off39 arg19_r0 arg20_r0) a + S32x4096.size a ≤ S11008x4096.size a), (Rect.unit (s := S11008x4096) (k0_off39 arg19_r0 arg20_r0) S32x4096.size hinb).WholeWords (EltTy.packing .bf16)) ∧
  (∀ (k0_h21 : k0_cond21 k0_t1 arg19_r0 arg20_r0 = 1#1), ∀ a, (k0_off41 arg16_r0) a + S1.size a ≤ S2.size a) ∧
  (∀ (k0_h21 : k0_cond21 k0_t1 arg19_r0 arg20_r0 = 1#1), ∀ a, (k0_off42 arg19_r0 arg20_r0) a + S2048x256.size a ≤ S16384x11008.size a) ∧
  (∀ (k0_h21 : k0_cond21 k0_t1 arg19_r0 arg20_r0 = 1#1), ∀ a, (k0_off43 arg16_r0) a + S1x2048x256.size a ≤ S2x2048x256.size a) ∧
  (∀ (k0_h21 : k0_cond21 k0_t1 arg19_r0 arg20_r0 = 1#1), ∀ (hinb : ∀ a, (k0_off43 arg16_r0) a + S1x2048x256.size a ≤ S2x2048x256.size a), (Rect.unit (s := S2x2048x256) (k0_off43 arg16_r0) S1x2048x256.size hinb).WholeWords (EltTy.packing .bf16)) ∧
  (∀ (k0_h21 : k0_cond21 k0_t1 arg19_r0 arg20_r0 = 1#1), ∀ (hinb : ∀ a, (k0_off42 arg19_r0 arg20_r0) a + S2048x256.size a ≤ S16384x11008.size a), (Rect.unit (s := S16384x11008) (k0_off42 arg19_r0 arg20_r0) S2048x256.size hinb).WholeWords (EltTy.packing .bf16)) ∧
  (∀ (k0_h22 : k0_cond22 k0_t1 arg19_r0 arg20_r0 = 1#1), ∀ a, (k0_off44 arg18_r0) a + S1.size a ≤ S2.size a) ∧
  (∀ (k0_h22 : k0_cond22 k0_t1 arg19_r0 arg20_r0 = 1#1), ∀ a, (k0_off45 arg19_r0 arg20_r0) a + S32x4096.size a ≤ S11008x4096.size a) ∧
  (∀ (k0_h22 : k0_cond22 k0_t1 arg19_r0 arg20_r0 = 1#1), ∀ a, (k0_off46 arg18_r0) a + S1x32x4096.size a ≤ S2x32x4096.size a) ∧
  (∀ (k0_h22 : k0_cond22 k0_t1 arg19_r0 arg20_r0 = 1#1), ∀ (hinb : ∀ a, (k0_off46 arg18_r0) a + S1x32x4096.size a ≤ S2x32x4096.size a), (Rect.unit (s := S2x32x4096) (k0_off46 arg18_r0) S1x32x4096.size hinb).WholeWords (EltTy.packing .bf16)) ∧
  (∀ (k0_h22 : k0_cond22 k0_t1 arg19_r0 arg20_r0 = 1#1), ∀ (hinb : ∀ a, (k0_off45 arg19_r0 arg20_r0) a + S32x4096.size a ≤ S11008x4096.size a), (Rect.unit (s := S11008x4096) (k0_off45 arg19_r0 arg20_r0) S32x4096.size hinb).WholeWords (EltTy.packing .bf16))
def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  k0_chk1_0 k0_t1 arg7_r0 arg8_r0 arg9_r0 arg10_r0 arg11_r0 arg12_r0 arg13_r0 arg14_r0 arg15_r0 arg16_r0 arg17_r0 arg18_r0 arg19_r0 arg20_r0 ∧
  k0_chk1_1 k0_t1 arg7_r0 arg8_r0 arg9_r0 arg10_r0 arg11_r0 arg12_r0 arg13_r0 arg14_r0 arg15_r0 arg16_r0 arg17_r0 arg18_r0 arg19_r0 arg20_r0
theorem k0_off5_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg19_r0 arg20_r0 = 1#1), ∀ a, (k0_off5 arg7_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg19_r0 arg20_r0 = 1#1), ∀ a, (k0_off6 arg7_r0) a + S1x2048x4096.size a ≤ S2x2048x4096.size a := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.2.1 k0_h1
theorem k0_off7_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg19_r0 arg20_r0 = 1#1), ∀ a, (k0_off7 arg19_r0 arg20_r0) a + S2048x4096.size a ≤ S16384x4096.size a := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.2.2.1 k0_h1
theorem k0_off7_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg19_r0 arg20_r0 = 1#1), (Rect.unit (s := S16384x4096) (k0_off7 arg19_r0 arg20_r0) S2048x4096.size (k0_off7_inb k0_t1 arg7_r0 arg8_r0 arg9_r0 arg10_r0 arg11_r0 arg12_r0 arg13_r0 arg14_r0 arg15_r0 arg16_r0 arg17_r0 arg18_r0 arg19_r0 arg20_r0 k0_hw1 k0_h1)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.2.2.2.1 k0_h1 (k0_off7_inb k0_t1 arg7_r0 arg8_r0 arg9_r0 arg10_r0 arg11_r0 arg12_r0 arg13_r0 arg14_r0 arg15_r0 arg16_r0 arg17_r0 arg18_r0 arg19_r0 arg20_r0 k0_hw1 k0_h1)
theorem k0_off6_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg19_r0 arg20_r0 = 1#1), (Rect.unit (s := S2x2048x4096) (k0_off6 arg7_r0) S1x2048x4096.size (k0_off6_inb k0_t1 arg7_r0 arg8_r0 arg9_r0 arg10_r0 arg11_r0 arg12_r0 arg13_r0 arg14_r0 arg15_r0 arg16_r0 arg17_r0 arg18_r0 arg19_r0 arg20_r0 k0_hw1 k0_h1)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.2.2.2.2.1 k0_h1 (k0_off6_inb k0_t1 arg7_r0 arg8_r0 arg9_r0 arg10_r0 arg11_r0 arg12_r0 arg13_r0 arg14_r0 arg15_r0 arg16_r0 arg17_r0 arg18_r0 arg19_r0 arg20_r0 k0_hw1 k0_h1)
theorem k0_off8_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h2 : k0_cond2 k0_t1 arg20_r0 = 1#1), ∀ a, (k0_off8 arg9_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h2 => k0_hw1.1.2.2.2.2.2.1 k0_h2
theorem k0_off9_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h2 : k0_cond2 k0_t1 arg20_r0 = 1#1), ∀ a, (k0_off9 arg9_r0) a + S1x4096x256.size a ≤ S2x4096x256.size a := fun k0_t1 arg7_r0 arg8_r0 arg9_r0 arg10_r0 arg11_r0 arg12_r0 arg13_r0 arg14_r0 arg15_r0 arg16_r0 arg17_r0 arg18_r0 arg19_r0 arg20_r0 k0_hw1 k0_h2 => k0_hw1.1.2.2.2.2.2.2.1 k0_h2
theorem k0_off10_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h2 : k0_cond2 k0_t1 arg20_r0 = 1#1), ∀ a, (k0_off10 arg20_r0) a + S4096x256.size a ≤ S4096x11008.size a := fun k0_t1 arg7_r0 arg8_r0 arg9_r0 arg10_r0 arg11_r0 arg12_r0 arg13_r0 arg14_r0 arg15_r0 arg16_r0 arg17_r0 arg18_r0 arg19_r0 arg20_r0 k0_hw1 k0_h2 => k0_hw1.1.2.2.2.2.2.2.2.1 k0_h2
theorem k0_off11_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h3 : k0_cond3 k0_t1 arg20_r0 = 1#1), ∀ a, (k0_off11 arg11_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h3 => k0_hw1.1.2.2.2.2.2.2.2.2.1 k0_h3
theorem k0_off12_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h3 : k0_cond3 k0_t1 arg20_r0 = 1#1), ∀ a, (k0_off12 arg11_r0) a + S1x4096x256.size a ≤ S2x4096x256.size a := fun k0_t1 arg7_r0 arg8_r0 arg9_r0 arg10_r0 arg11_r0 arg12_r0 arg13_r0 arg14_r0 arg15_r0 arg16_r0 arg17_r0 arg18_r0 arg19_r0 arg20_r0 k0_hw1 k0_h3 => k0_hw1.1.2.2.2.2.2.2.2.2.2.1 k0_h3
theorem k0_off13_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h3 : k0_cond3 k0_t1 arg20_r0 = 1#1), ∀ a, (k0_off13 arg20_r0) a + S4096x256.size a ≤ S4096x11008.size a := fun k0_t1 arg7_r0 arg8_r0 arg9_r0 arg10_r0 arg11_r0 arg12_r0 arg13_r0 arg14_r0 arg15_r0 arg16_r0 arg17_r0 arg18_r0 arg19_r0 arg20_r0 k0_hw1 k0_h3 => k0_hw1.1.2.2.2.2.2.2.2.2.2.2.1 k0_h3
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h4 : k0_cond4 k0_t1 arg19_r0 arg20_r0 = 1#1), ∀ a, (k0_off14 arg13_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h4 => k0_hw1.1.2.2.2.2.2.2.2.2.2.2.2.1 k0_h4
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h4 : k0_cond4 k0_t1 arg19_r0 arg20_r0 = 1#1), ∀ a, (k0_off15 arg13_r0) a + S1x32x4096.size a ≤ S2x32x4096.size a := fun k0_t1 arg7_r0 arg8_r0 arg9_r0 arg10_r0 arg11_r0 arg12_r0 arg13_r0 arg14_r0 arg15_r0 arg16_r0 arg17_r0 arg18_r0 arg19_r0 arg20_r0 k0_hw1 k0_h4 => k0_hw1.1.2.2.2.2.2.2.2.2.2.2.2.2.1 k0_h4
theorem k0_off16_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h4 : k0_cond4 k0_t1 arg19_r0 arg20_r0 = 1#1), ∀ a, (k0_off16 arg19_r0 arg20_r0) a + S32x4096.size a ≤ S11008x4096.size a := fun k0_t1 arg7_r0 arg8_r0 arg9_r0 arg10_r0 arg11_r0 arg12_r0 arg13_r0 arg14_r0 arg15_r0 arg16_r0 arg17_r0 arg18_r0 arg19_r0 arg20_r0 k0_hw1 k0_h4 => k0_hw1.1.2.2.2.2.2.2.2.2.2.2.2.2.2.1 k0_h4
theorem k0_off17_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off17 arg8_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.1 k0_h5
theorem k0_off18_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off18 arg8_r0) a + S1x2048x4096.size a ≤ S2x2048x4096.size a := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.1 k0_h5
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off19 arg19_r0) a + S2048x4096.size a ≤ S16384x4096.size a := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.1 k0_h5
theorem k0_off19_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg19_r0 arg20_r0 = 1#1), (Rect.unit (s := S16384x4096) (k0_off19 arg19_r0) S2048x4096.size (k0_off19_inb k0_t1 arg7_r0 arg8_r0 arg9_r0 arg10_r0 arg11_r0 arg12_r0 arg13_r0 arg14_r0 arg15_r0 arg16_r0 arg17_r0 arg18_r0 arg19_r0 arg20_r0 k0_hw1 k0_h5)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.1 k0_h5 (k0_off19_inb k0_t1 arg7_r0 arg8_r0 arg9_r0 arg10_r0 arg11_r0 arg12_r0 arg13_r0 arg14_r0 arg15_r0 arg16_r0 arg17_r0 arg18_r0 arg19_r0 arg20_r0 k0_hw1 k0_h5)
theorem k0_off18_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg19_r0 arg20_r0 = 1#1), (Rect.unit (s := S2x2048x4096) (k0_off18 arg8_r0) S1x2048x4096.size (k0_off18_inb k0_t1 arg7_r0 arg8_r0 arg9_r0 arg10_r0 arg11_r0 arg12_r0 arg13_r0 arg14_r0 arg15_r0 arg16_r0 arg17_r0 arg18_r0 arg19_r0 arg20_r0 k0_hw1 k0_h5)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.1 k0_h5 (k0_off18_inb k0_t1 arg7_r0 arg8_r0 arg9_r0 arg10_r0 arg11_r0 arg12_r0 arg13_r0 arg14_r0 arg15_r0 arg16_r0 arg17_r0 arg18_r0 arg19_r0 arg20_r0 k0_hw1 k0_h5)
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h6 : k0_cond6 k0_t1 arg20_r0 = 1#1), ∀ a, (k0_off20 arg10_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.1 k0_h6
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h6 : k0_cond6 k0_t1 arg20_r0 = 1#1), ∀ a, (k0_off21 arg10_r0) a + S1x4096x256.size a ≤ S2x4096x256.size a := fun k0_t1 arg7_r0 arg8_r0 arg9_r0 arg10_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.1 k0_h6
theorem k0_off22_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h6 : k0_cond6 k0_t1 arg20_r0 = 1#1), ∀ a, (k0_off22 arg20_r0) a + S4096x256.size a ≤ S4096x11008.size a := fun k0_t1 arg7_r0 arg8_r0 arg9_r0 arg10_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.1 k0_h6
theorem k0_off23_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h7 : k0_cond7 k0_t1 arg20_r0 = 1#1), ∀ a, (k0_off23 arg12_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.1 k0_h7
theorem k0_off24_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h7 : k0_cond7 k0_t1 arg20_r0 = 1#1), ∀ a, (k0_off24 arg12_r0) a + S1x4096x256.size a ≤ S2x4096x256.size a := fun k0_t1 arg7_r0 arg8_r0 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.1 k0_h7
theorem k0_off25_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h7 : k0_cond7 k0_t1 arg20_r0 = 1#1), ∀ a, (k0_off25 arg20_r0) a + S4096x256.size a ≤ S4096x11008.size a := fun k0_t1 arg7_r0 arg8_r0 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.1 k0_h7
theorem k0_off26_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off26 arg14_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h8 => k0_hw1.1.2.2.2.2.2.2.2.2.2.2.2.2.2.2.2.2.2.2.2.2.2.2.2.2.2.1 k0_h8
theorem k0_off27_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off27 arg14_r0) a + S1x32x4096.size a ≤ S2x32x4096.size a := fun k0_t1 arg7_r0 arg8_r0 arg9_r0 arg10_r0 arg11_r0 arg12_r0 arg13_r0 arg14_r0 arg15_r0 arg16_r0 arg17_r0 arg18_r0 arg19_r0 arg20_r0 k0_hw1 k0_h8 => k0_hw1.1.2.2.2.2.2.2.2.2.2.2.2.2.2.2.2.2.2.2.2.2.2.2.2.2.2.2.1 k0_h8
theorem k0_off28_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off28 arg19_r0 arg20_r0) a + S32x4096.size a ≤ S11008x4096.size a := fun k0_t1 arg7_r0 arg8_r0 arg9_r0 arg10_r0 arg11_r0 arg12_r0 arg13_r0 arg14_r0 arg15_r0 arg16_r0 arg17_r0 arg18_r0 arg19_r0 arg20_r0 k0_hw1 k0_h8 => k0_hw1.1.2.2.2.2.2.2.2.2.2.2.2.2.2.2.2.2.2.2.2.2.2.2.2.2.2.2.2.1 k0_h8
theorem k0_off35_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off35 arg15_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.1.2.2.2.2.2.2.2.2.2.2.2.2.2.2.2.2.2.2.2.2.2.2.2.2.2.2.2.2.1 k0_h15
theorem k0_off36_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off36 arg19_r0 arg20_r0) a + S2048x256.size a ≤ S16384x11008.size a := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.1.2.2.2.2.2.2.2.2.2.2.2.2.2.2.2.2.2.2.2.2.2.2.2.2.2.2.2.2.2.1 k0_h15
theorem k0_off37_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off37 arg15_r0) a + S1x2048x256.size a ≤ S2x2048x256.size a := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.1.2.2.2.2.2.2.2.2.2.2.2.2.2.2.2.2.2.2.2.2.2.2.2.2.2.2.2.2.2.2.1 k0_h15
theorem k0_off37_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), (Rect.unit (s := S2x2048x256) (k0_off37 arg15_r0) S1x2048x256.size (k0_off37_inb k0_t1 arg7_r0 arg8_r0 arg9_r0 arg10_r0 arg11_r0 arg12_r0 arg13_r0 arg14_r0 arg15_r0 arg16_r0 arg17_r0 arg18_r0 arg19_r0 arg20_r0 k0_hw1 k0_h15)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.1.2.2.2.2.2.2.2.2.2.2.2.2.2.2.2.2.2.2.2.2.2.2.2.2.2.2.2.2.2.2.2 k0_h15 (k0_off37_inb k0_t1 arg7_r0 arg8_r0 arg9_r0 arg10_r0 arg11_r0 arg12_r0 arg13_r0 arg14_r0 arg15_r0 arg16_r0 arg17_r0 arg18_r0 arg19_r0 arg20_r0 k0_hw1 k0_h15)
theorem k0_off36_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), (Rect.unit (s := S16384x11008) (k0_off36 arg19_r0 arg20_r0) S2048x256.size (k0_off36_inb k0_t1 arg7_r0 arg8_r0 arg9_r0 arg10_r0 arg11_r0 arg12_r0 arg13_r0 arg14_r0 arg15_r0 arg16_r0 arg17_r0 arg18_r0 arg19_r0 arg20_r0 k0_hw1 k0_h15)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.2.1 k0_h15 (k0_off36_inb k0_t1 arg7_r0 arg8_r0 arg9_r0 arg10_r0 arg11_r0 arg12_r0 arg13_r0 arg14_r0 arg15_r0 arg16_r0 arg17_r0 arg18_r0 arg19_r0 arg20_r0 k0_hw1 k0_h15)
theorem k0_off38_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), ∀ a, (k0_off38 arg17_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.1 k0_h16
theorem k0_off39_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), ∀ a, (k0_off39 arg19_r0 arg20_r0) a + S32x4096.size a ≤ S11008x4096.size a := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.1 k0_h16
theorem k0_off40_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), ∀ a, (k0_off40 arg17_r0) a + S1x32x4096.size a ≤ S2x32x4096.size a := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.2.1 k0_h16
theorem k0_off40_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), (Rect.unit (s := S2x32x4096) (k0_off40 arg17_r0) S1x32x4096.size (k0_off40_inb k0_t1 arg7_r0 arg8_r0 arg9_r0 arg10_r0 arg11_r0 arg12_r0 arg13_r0 arg14_r0 arg15_r0 arg16_r0 arg17_r0 arg18_r0 arg19_r0 arg20_r0 k0_hw1 k0_h16)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.2.2.1 k0_h16 (k0_off40_inb k0_t1 arg7_r0 arg8_r0 arg9_r0 arg10_r0 arg11_r0 arg12_r0 arg13_r0 arg14_r0 arg15_r0 arg16_r0 arg17_r0 arg18_r0 arg19_r0 arg20_r0 k0_hw1 k0_h16)
theorem k0_off39_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), (Rect.unit (s := S11008x4096) (k0_off39 arg19_r0 arg20_r0) S32x4096.size (k0_off39_inb k0_t1 arg7_r0 arg8_r0 arg9_r0 arg10_r0 arg11_r0 arg12_r0 arg13_r0 arg14_r0 arg15_r0 arg16_r0 arg17_r0 arg18_r0 arg19_r0 arg20_r0 k0_hw1 k0_h16)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.2.2.2.1 k0_h16 (k0_off39_inb k0_t1 arg7_r0 arg8_r0 arg9_r0 arg10_r0 arg11_r0 arg12_r0 arg13_r0 arg14_r0 arg15_r0 arg16_r0 arg17_r0 arg18_r0 arg19_r0 arg20_r0 k0_hw1 k0_h16)
theorem k0_off41_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), ∀ a, (k0_off41 arg16_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.1 k0_h21
theorem k0_off42_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), ∀ a, (k0_off42 arg19_r0 arg20_r0) a + S2048x256.size a ≤ S16384x11008.size a := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.1 k0_h21
theorem k0_off43_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), ∀ a, (k0_off43 arg16_r0) a + S1x2048x256.size a ≤ S2x2048x256.size a := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.2.1 k0_h21
theorem k0_off43_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), (Rect.unit (s := S2x2048x256) (k0_off43 arg16_r0) S1x2048x256.size (k0_off43_inb k0_t1 arg7_r0 arg8_r0 arg9_r0 arg10_r0 arg11_r0 arg12_r0 arg13_r0 arg14_r0 arg15_r0 arg16_r0 arg17_r0 arg18_r0 arg19_r0 arg20_r0 k0_hw1 k0_h21)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.2.2.1 k0_h21 (k0_off43_inb k0_t1 arg7_r0 arg8_r0 arg9_r0 arg10_r0 arg11_r0 arg12_r0 arg13_r0 arg14_r0 arg15_r0 arg16_r0 arg17_r0 arg18_r0 arg19_r0 arg20_r0 k0_hw1 k0_h21)
theorem k0_off42_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), (Rect.unit (s := S16384x11008) (k0_off42 arg19_r0 arg20_r0) S2048x256.size (k0_off42_inb k0_t1 arg7_r0 arg8_r0 arg9_r0 arg10_r0 arg11_r0 arg12_r0 arg13_r0 arg14_r0 arg15_r0 arg16_r0 arg17_r0 arg18_r0 arg19_r0 arg20_r0 k0_hw1 k0_h21)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.2.2.2.1 k0_h21 (k0_off42_inb k0_t1 arg7_r0 arg8_r0 arg9_r0 arg10_r0 arg11_r0 arg12_r0 arg13_r0 arg14_r0 arg15_r0 arg16_r0 arg17_r0 arg18_r0 arg19_r0 arg20_r0 k0_hw1 k0_h21)
theorem k0_off44_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), ∀ a, (k0_off44 arg18_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.1 k0_h22
theorem k0_off45_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), ∀ a, (k0_off45 arg19_r0 arg20_r0) a + S32x4096.size a ≤ S11008x4096.size a := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.1 k0_h22
theorem k0_off46_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), ∀ a, (k0_off46 arg18_r0) a + S1x32x4096.size a ≤ S2x32x4096.size a := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.2.1 k0_h22
theorem k0_off46_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), (Rect.unit (s := S2x32x4096) (k0_off46 arg18_r0) S1x32x4096.size (k0_off46_inb k0_t1 arg7_r0 arg8_r0 arg9_r0 arg10_r0 arg11_r0 arg12_r0 arg13_r0 arg14_r0 arg15_r0 arg16_r0 arg17_r0 arg18_r0 arg19_r0 arg20_r0 k0_hw1 k0_h22)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.2.2.1 k0_h22 (k0_off46_inb k0_t1 arg7_r0 arg8_r0 arg9_r0 arg10_r0 arg11_r0 arg12_r0 arg13_r0 arg14_r0 arg15_r0 arg16_r0 arg17_r0 arg18_r0 arg19_r0 arg20_r0 k0_hw1 k0_h22)
theorem k0_off45_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), (Rect.unit (s := S11008x4096) (k0_off45 arg19_r0 arg20_r0) S32x4096.size (k0_off45_inb k0_t1 arg7_r0 arg8_r0 arg9_r0 arg10_r0 arg11_r0 arg12_r0 arg13_r0 arg14_r0 arg15_r0 arg16_r0 arg17_r0 arg18_r0 arg19_r0 arg20_r0 k0_hw1 k0_h22)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.2.2.2 k0_h22 (k0_off45_inb k0_t1 arg7_r0 arg8_r0 arg9_r0 arg10_r0 arg11_r0 arg12_r0 arg13_r0 arg14_r0 arg15_r0 arg16_r0 arg17_r0 arg18_r0 arg19_r0 arg20_r0 k0_hw1 k0_h22)

def k0_off47 (v61_9_r0 : BitVec 32) : Fin 1 → Nat :=
  let c2_i32_108_r0 : BitVec 32 := 2#32
  let v102_r0 : BitVec 32 := Scalar.remui v61_9_r0 c2_i32_108_r0
  ![v102_r0.toNat]

def k0_off48 (v61_13_r0 : BitVec 32) (v61_12_r0 : BitVec 32) : Fin 2 → Nat :=
  let c2048_i32_r0 : BitVec 32 := 2048#32
  let true_73_r0 : BitVec 1 := 1#1
  let c1_i32_72_r0 : BitVec 32 := 1#32
  let v62_r0 : BitVec 32 := Scalar.subi v61_13_r0 c1_i32_72_r0
  let v63_r0 : BitVec 32 := Scalar.select true_73_r0 v62_r0 v61_13_r0
  let c_m1_i32_74_r0 : BitVec 32 := 4294967295#32
  let v64_r0 : BitVec 1 := Scalar.cmpi .eq v63_r0 c_m1_i32_74_r0
  let c1_i32_76_r0 : BitVec 32 := 1#32
  let v66_r0 : BitVec 32 := Scalar.subi v61_12_r0 c1_i32_76_r0
  let v67_r0 : BitVec 32 := Scalar.select v64_r0 v66_r0 v61_12_r0
  let c_m1_i32_77_r0 : BitVec 32 := 4294967295#32
  let v68_r0 : BitVec 1 := Scalar.cmpi .eq v67_r0 c_m1_i32_77_r0
  let c7_i32_78_r0 : BitVec 32 := 7#32
  let v69_r0 : BitVec 32 := Scalar.select v68_r0 c7_i32_78_r0 v67_r0
  let c0_i32_79_r0 : BitVec 32 := 0#32
  let v70_r0 : BitVec 32 := Scalar.addi v69_r0 c0_i32_79_r0
  let v103_r0 : BitVec 32 := Scalar.muli c2048_i32_r0 v70_r0
  let c256_i32_r0 : BitVec 32 := 256#32
  let c42_i32_75_r0 : BitVec 32 := 42#32
  let v65_r0 : BitVec 32 := Scalar.select v64_r0 c42_i32_75_r0 v63_r0
  let c0_i32_80_r0 : BitVec 32 := 0#32
  let v71_r0 : BitVec 32 := Scalar.addi v65_r0 c0_i32_80_r0
  let v104_r0 : BitVec 32 := Scalar.muli c256_i32_r0 v71_r0
  ![v103_r0.toNat, v104_r0.toNat]

def k0_off49 (v61_9_r0 : BitVec 32) : Fin 3 → Nat :=
  let c2_i32_108_r0 : BitVec 32 := 2#32
  let v102_r0 : BitVec 32 := Scalar.remui v61_9_r0 c2_i32_108_r0
  let c0_i32_109_r0 : BitVec 32 := 0#32
  let c0_i32_110_r0 : BitVec 32 := 0#32
  ![v102_r0.toNat, 0, 0]

def k0_chk8 (v61_9_r0 : BitVec 32) : Prop :=
  (∀ a, (k0_off47 v61_9_r0) a + S1.size a ≤ S2.size a) ∧
  (∀ a, (k0_off49 v61_9_r0) a + S1x2048x256.size a ≤ S2x2048x256.size a) ∧
  (∀ (hinb : ∀ a, (k0_off49 v61_9_r0) a + S1x2048x256.size a ≤ S2x2048x256.size a), (Rect.unit (s := S2x2048x256) (k0_off49 v61_9_r0) S1x2048x256.size hinb).WholeWords (EltTy.packing .bf16))
theorem k0_off47_inb : ∀ (v61_9_r0 : BitVec 32) (k0_hw8 : k0_chk8 v61_9_r0), ∀ a, (k0_off47 v61_9_r0) a + S1.size a ≤ S2.size a := fun v61_9_r0 k0_hw8 => k0_hw8.1
theorem k0_off49_inb : ∀ (v61_9_r0 : BitVec 32) (k0_hw8 : k0_chk8 v61_9_r0), ∀ a, (k0_off49 v61_9_r0) a + S1x2048x256.size a ≤ S2x2048x256.size a := fun v61_9_r0 k0_hw8 => k0_hw8.2.1
theorem k0_off49_wordsbf16 : ∀ (v61_9_r0 : BitVec 32) (k0_hw8 : k0_chk8 v61_9_r0), (Rect.unit (s := S2x2048x256) (k0_off49 v61_9_r0) S1x2048x256.size (k0_off49_inb v61_9_r0 k0_hw8)).WholeWords (EltTy.packing .bf16) := fun v61_9_r0 k0_hw8 => k0_hw8.2.2 (k0_off49_inb v61_9_r0 k0_hw8)

def k0_off50 (v61_11_r0 : BitVec 32) : Fin 1 → Nat :=
  let c2_i32_111_r0 : BitVec 32 := 2#32
  let v110_r0 : BitVec 32 := Scalar.remui v61_11_r0 c2_i32_111_r0
  ![v110_r0.toNat]

def k0_off51 (v61_13_r0 : BitVec 32) (v61_12_r0 : BitVec 32) : Fin 2 → Nat :=
  let c32_i32_r0 : BitVec 32 := 32#32
  let true_73_r0 : BitVec 1 := 1#1
  let c1_i32_72_r0 : BitVec 32 := 1#32
  let v62_r0 : BitVec 32 := Scalar.subi v61_13_r0 c1_i32_72_r0
  let v63_r0 : BitVec 32 := Scalar.select true_73_r0 v62_r0 v61_13_r0
  let c_m1_i32_74_r0 : BitVec 32 := 4294967295#32
  let v64_r0 : BitVec 1 := Scalar.cmpi .eq v63_r0 c_m1_i32_74_r0
  let c1_i32_76_r0 : BitVec 32 := 1#32
  let v66_r0 : BitVec 32 := Scalar.subi v61_12_r0 c1_i32_76_r0
  let v67_r0 : BitVec 32 := Scalar.select v64_r0 v66_r0 v61_12_r0
  let c_m1_i32_77_r0 : BitVec 32 := 4294967295#32
  let v68_r0 : BitVec 1 := Scalar.cmpi .eq v67_r0 c_m1_i32_77_r0
  let c7_i32_78_r0 : BitVec 32 := 7#32
  let v69_r0 : BitVec 32 := Scalar.select v68_r0 c7_i32_78_r0 v67_r0
  let c0_i32_79_r0 : BitVec 32 := 0#32
  let v70_r0 : BitVec 32 := Scalar.addi v69_r0 c0_i32_79_r0
  let c43_i32_112_r0 : BitVec 32 := 43#32
  let v111_r0 : BitVec 32 := Scalar.muli v70_r0 c43_i32_112_r0
  let c42_i32_75_r0 : BitVec 32 := 42#32
  let v65_r0 : BitVec 32 := Scalar.select v64_r0 c42_i32_75_r0 v63_r0
  let c0_i32_80_r0 : BitVec 32 := 0#32
  let v71_r0 : BitVec 32 := Scalar.addi v65_r0 c0_i32_80_r0
  let v112_r0 : BitVec 32 := Scalar.addi v111_r0 v71_r0
  let v113_r0 : BitVec 32 := Scalar.muli c32_i32_r0 v112_r0
  let c0_i32_113_r0 : BitVec 32 := 0#32
  ![v113_r0.toNat, 0]
def k0_off52 (v61_11_r0 : BitVec 32) : Fin 3 → Nat :=
  let c2_i32_111_r0 : BitVec 32 := 2#32
  let v110_r0 : BitVec 32 := Scalar.remui v61_11_r0 c2_i32_111_r0
  let c0_i32_114_r0 : BitVec 32 := 0#32
  let c0_i32_115_r0 : BitVec 32 := 0#32
  ![v110_r0.toNat, 0, 0]

def k0_chk10 (v61_11_r0 : BitVec 32) : Prop :=
  (∀ a, (k0_off50 v61_11_r0) a + S1.size a ≤ S2.size a) ∧
  (∀ a, (k0_off52 v61_11_r0) a + S1x32x4096.size a ≤ S2x32x4096.size a) ∧
  (∀ (hinb : ∀ a, (k0_off52 v61_11_r0) a + S1x32x4096.size a ≤ S2x32x4096.size a), (Rect.unit (s := S2x32x4096) (k0_off52 v61_11_r0) S1x32x4096.size hinb).WholeWords (EltTy.packing .bf16))
theorem k0_off50_inb : ∀ (v61_11_r0 : BitVec 32) (k0_hw10 : k0_chk10 v61_11_r0), ∀ a, (k0_off50 v61_11_r0) a + S1.size a ≤ S2.size a := fun v61_11_r0 k0_hw10 => k0_hw10.1
theorem k0_off52_inb : ∀ (v61_11_r0 : BitVec 32) (k0_hw10 : k0_chk10 v61_11_r0), ∀ a, (k0_off52 v61_11_r0) a + S1x32x4096.size a ≤ S2x32x4096.size a := fun v61_11_r0 k0_hw10 => k0_hw10.2.1
theorem k0_off52_wordsbf16 : ∀ (v61_11_r0 : BitVec 32) (k0_hw10 : k0_chk10 v61_11_r0), (Rect.unit (s := S2x32x4096) (k0_off52 v61_11_r0) S1x32x4096.size (k0_off52_inb v61_11_r0 k0_hw10)).WholeWords (EltTy.packing .bf16) := fun v61_11_r0 k0_hw10 => k0_hw10.2.2 (k0_off52_inb v61_11_r0 k0_hw10)

def k0_chk9 (v61_13_r0 : BitVec 32) (v61_12_r0 : BitVec 32) : Prop :=
  (∀ a, (k0_off48 v61_13_r0 v61_12_r0) a + S2048x256.size a ≤ S16384x11008.size a) ∧
  (∀ (hinb : ∀ a, (k0_off48 v61_13_r0 v61_12_r0) a + S2048x256.size a ≤ S16384x11008.size a), (Rect.unit (s := S16384x11008) (k0_off48 v61_13_r0 v61_12_r0) S2048x256.size hinb).WholeWords (EltTy.packing .bf16)) ∧
  (∀ a, (k0_off51 v61_13_r0 v61_12_r0) a + S32x4096.size a ≤ S11008x4096.size a) ∧
  (∀ (hinb : ∀ a, (k0_off51 v61_13_r0 v61_12_r0) a + S32x4096.size a ≤ S11008x4096.size a), (Rect.unit (s := S11008x4096) (k0_off51 v61_13_r0 v61_12_r0) S32x4096.size hinb).WholeWords (EltTy.packing .bf16))
theorem k0_off48_inb : ∀ (v61_13_r0 : BitVec 32) (v61_12_r0 : BitVec 32) (k0_hw9 : k0_chk9 v61_13_r0 v61_12_r0), ∀ a, (k0_off48 v61_13_r0 v61_12_r0) a + S2048x256.size a ≤ S16384x11008.size a := fun v61_13_r0 v61_12_r0 k0_hw9 => k0_hw9.1
theorem k0_off48_wordsbf16 : ∀ (v61_13_r0 : BitVec 32) (v61_12_r0 : BitVec 32) (k0_hw9 : k0_chk9 v61_13_r0 v61_12_r0), (Rect.unit (s := S16384x11008) (k0_off48 v61_13_r0 v61_12_r0) S2048x256.size (k0_off48_inb v61_13_r0 v61_12_r0 k0_hw9)).WholeWords (EltTy.packing .bf16) := fun v61_13_r0 v61_12_r0 k0_hw9 => k0_hw9.2.1 (k0_off48_inb v61_13_r0 v61_12_r0 k0_hw9)
theorem k0_off51_inb : ∀ (v61_13_r0 : BitVec 32) (v61_12_r0 : BitVec 32) (k0_hw9 : k0_chk9 v61_13_r0 v61_12_r0), ∀ a, (k0_off51 v61_13_r0 v61_12_r0) a + S32x4096.size a ≤ S11008x4096.size a := fun v61_13_r0 v61_12_r0 k0_hw9 => k0_hw9.2.2.1
theorem k0_off51_wordsbf16 : ∀ (v61_13_r0 : BitVec 32) (v61_12_r0 : BitVec 32) (k0_hw9 : k0_chk9 v61_13_r0 v61_12_r0), (Rect.unit (s := S11008x4096) (k0_off51 v61_13_r0 v61_12_r0) S32x4096.size (k0_off51_inb v61_13_r0 v61_12_r0 k0_hw9)).WholeWords (EltTy.packing .bf16) := fun v61_13_r0 v61_12_r0 k0_hw9 => k0_hw9.2.2.2 (k0_off51_inb v61_13_r0 v61_12_r0 k0_hw9)
-- ==== ReferenceIdeal.lean ====
abbrev S16384x4096 : Shape := ⟨2, ![16384, 4096]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S16384x11008 : Shape := ⟨2, ![16384, 11008]⟩
abbrev S_ : Shape := ⟨0, ![]⟩
abbrev S11008x4096 : Shape := ⟨2, ![11008, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S1x11008x4096, .f32⟩
  | .hbm, ⟨4, _⟩ => ⟨S16384x4096, .f32⟩
  | .hbm, ⟨5, _⟩ => ⟨S4096x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S4096x11008, .f32⟩
  | .hbm, ⟨17, _⟩ => ⟨S16384x11008, .f32⟩
  | .hbm, ⟨18, _⟩ => ⟨S16384x11008, .f32⟩
  | .hbm, ⟨19, _⟩ => ⟨S16384x11008, .bf16⟩
  | .hbm, ⟨20, _⟩ => ⟨S11008x4096, .f32⟩
  | .hbm, ⟨21, _⟩ => ⟨S11008x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Down.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .bf16⟩
  | .local _ .vmem, ⟨5, _⟩ => ⟨S512x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x11008, .f32⟩
  | .hbm, ⟨3, _⟩ => ⟨S11008x4096, .f32⟩
  | .hbm, ⟨4, _⟩ => ⟨S16384x4096, .f32⟩
  | .hbm, ⟨5, _⟩ => ⟨S16384x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Post.lean ====
abbrev S16384x4096 : Shape := ⟨2, ![16384, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostReferenceIdeal.lean ====
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Cast.lean ====
abbrev S16384x11008 : Shape := ⟨2, ![16384, 11008]⟩
abbrev S11008x4096 : Shape := ⟨2, ![11008, 4096]⟩
abbrev S1x4096x21232 : Shape := ⟨3, ![1, 4096, 21232]⟩
abbrev S4096x21232 : Shape := ⟨2, ![4096, 21232]⟩
abbrev S21232x4096 : Shape := ⟨2, ![21232, 4096]⟩
abbrev S16384x4096 : Shape := ⟨2, ![16384, 4096]⟩
abbrev S512x11008 : Shape := ⟨2, ![512, 11008]⟩
abbrev S11008x512 : Shape := ⟨2, ![11008, 512]⟩
abbrev S96x4096 : Shape := ⟨2, ![96, 4096]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S1x4096x21232, .f32⟩
  | .hbm, ⟨3, _⟩ => ⟨S4096x21232, .f32⟩
  | .hbm, ⟨4, _⟩ => ⟨S21232x4096, .f32⟩
  | .hbm, ⟨5, _⟩ => ⟨S16384x4096, .bf16⟩
  | .hbm, ⟨6, _⟩ => ⟨S21232x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S96x4096, .f32⟩
  | .local _ .vmem, ⟨5, _⟩ => ⟨S96x4096, .f32⟩
  | .local _ .vmem, ⟨6, _⟩ => ⟨S512x512, .bf16⟩
  | .local _ .vmem, ⟨7, _⟩ => ⟨S512x512, .bf16⟩
  | .local _ .vmem, ⟨8, _⟩ => ⟨S96x4096, .bf16⟩
  | .local _ .vmem, ⟨9, _⟩ => ⟨S96x4096, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c221_i32 : BitVec 32 := 221#32
  let v2 : BitVec 32 := Scalar.minsi v1 c221_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c221_i32 : BitVec 32 := 221#32
  let v2 : BitVec 32 := Scalar.minsi v1 c221_i32
  let c0_i32 : BitVec 32 := 0#32
  let c0_i32_0 : BitVec 32 := 0#32
  ![v2.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S96x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S96x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CastReferenceIdeal.lean ====
abbrev S16384x11008 : Shape := ⟨2, ![16384, 11008]⟩
abbrev S11008x4096 : Shape := ⟨2, ![11008, 4096]⟩
abbrev S1x4096x21232 : Shape := ⟨3, ![1, 4096, 21232]⟩
abbrev S16384x4096 : Shape := ⟨2, ![16384, 4096]⟩
abbrev S4096x21232 : Shape := ⟨2, ![4096, 21232]⟩
abbrev S21232x4096 : Shape := ⟨2, ![21232, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S1x4096x21232, .f32⟩
  | .hbm, ⟨3, _⟩ => ⟨S16384x11008, .f32⟩
  | .hbm, ⟨4, _⟩ => ⟨S11008x4096, .f32⟩
  | .hbm, ⟨5, _⟩ => ⟨S16384x4096, .f32⟩
  | .hbm, ⟨6, _⟩ => ⟨S16384x4096, .bf16⟩
  | .hbm, ⟨7, _⟩ => ⟨S4096x21232, .f32⟩
  | .hbm, ⟨8, _⟩ => ⟨S21232x4096, .f32⟩
  | .hbm, ⟨9, _⟩ => ⟨S21232x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S16384x4096 : Shape := ⟨2, ![16384, 4096]⟩
abbrev S21232x4096 : Shape := ⟨2, ![21232, 4096]⟩
abbrev S85 : Shape := ⟨1, ![85]⟩
abbrev S16384x21760 : Shape := ⟨2, ![16384, 21760]⟩
abbrev S1024x4096 : Shape := ⟨2, ![1024, 4096]⟩
abbrev S256x4096 : Shape := ⟨2, ![256, 4096]⟩
abbrev S1 : Shape := ⟨1, ![1]⟩
abbrev S1024x1280 : Shape := ⟨2, ![1024, 1280]⟩
abbrev S1024x256 : Shape := ⟨2, ![1024, 256]⟩

abbrev nBuf : Space → Nat
  | .hbm => 3
  | .vmem => 14
  | .smem => 1
  | _ => 0

abbrev bufTy : (tb : Table) → Fin (tcTables nBuf tb) → BufTy
  | .hbm, ⟨0, _⟩ => ⟨S16384x4096, .bf16⟩
  | .hbm, ⟨1, _⟩ => ⟨S21232x4096, .bf16⟩
  | .hbm, ⟨2, _⟩ => ⟨S16384x21760, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S1024x1280, .f32⟩
  | .local _ .vmem, ⟨13, _⟩ => ⟨S1024x1280, .f32⟩
  | .local _ .smem, ⟨0, _⟩ => ⟨S85, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 17], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg1 : BitVec 32 := BitVec.ofNat 32 (i 1).val
  let c5_i32 : BitVec 32 := 5#32
  let v0 : BitVec 32 := Scalar.muli arg1 c5_i32
  let v1 : BitVec 32 := Scalar.addi v0 c0_i32
  let v2 : Index := Scalar.indexCast v1
  ![v2.toNat]
def k0_mult1 (pf : pre0.Contents (Elt F)) (i : grid0.Coords) : BitVec 32 :=
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let v2 : Index := Scalar.indexCast v1
  let v3 : BitVec 32 := pf.atD 0 ![v2.toNat]
  v3

def k0_mult2 (pf : pre0.Contents (Elt F)) (i : grid0.Coords) : BitVec 32 :=
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let v2 : Index := Scalar.indexCast v1
  let v3 : BitVec 32 := pf.atD 0 ![v2.toNat]
  v3

def k0_mult3 (pf : pre0.Contents (Elt F)) (i : grid0.Coords) : BitVec 32 :=
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let v2 : Index := Scalar.indexCast v1
  let v3 : BitVec 32 := pf.atD 0 ![v2.toNat]
  v3

def k0_mult4 (pf : pre0.Contents (Elt F)) (i : grid0.Coords) : BitVec 32 :=
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let v2 : Index := Scalar.indexCast v1
  let v3 : BitVec 32 := pf.atD 0 ![v2.toNat]
  v3

def k0_mult5 (pf : pre0.Contents (Elt F)) (i : grid0.Coords) : BitVec 32 :=
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let v2 : Index := Scalar.indexCast v1
  let v3 : BitVec 32 := pf.atD 0 ![v2.toNat]
  v3

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ (r : Fin 5), ∀ a, (k0_off1 i (BitVec.ofNat 32 r.val)) a + S1.size a ≤ S85.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let v2 : Index := Scalar.indexCast v1
  let v3 : BitVec 32 := pf.at 0 (Rect.unit (s := S85) ![v2.toNat] S1.size (k0_off1_inb i 0)) numel1_S1
  let v4 : BitVec 32 := v3
  let c0_i32_0 : BitVec 32 := 0#32
  let c0_i32_1 : BitVec 32 := 0#32
  ![v4.toNat, c0_i32_0.toNat]

def cc0_transform_2 (k0_off1_inb : ∀ i : grid0.Coords, ∀ (r : Fin 5), ∀ a, (k0_off1 i (BitVec.ofNat 32 r.val)) a + S1.size a ≤ S85.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let v2 : Index := Scalar.indexCast v1
  let v3 : BitVec 32 := pf.at 0 (Rect.unit (s := S85) ![v2.toNat] S1.size (k0_off1_inb i 1)) numel1_S1
  let v4 : BitVec 32 := v3
  let c0_i32 : BitVec 32 := 0#32
  let c0_i32_0 : BitVec 32 := 0#32
  ![v4.toNat, c0_i32.toNat]

def cc0_transform_3 (k0_off1_inb : ∀ i : grid0.Coords, ∀ (r : Fin 5), ∀ a, (k0_off1 i (BitVec.ofNat 32 r.val)) a + S1.size a ≤ S85.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let v2 : Index := Scalar.indexCast v1
  let v3 : BitVec 32 := pf.at 0 (Rect.unit (s := S85) ![v2.toNat] S1.size (k0_off1_inb i 2)) numel1_S1
  let v4 : BitVec 32 := v3
  let c0_i32 : BitVec 32 := 0#32
  let c0_i32_0 : BitVec 32 := 0#32
  ![v4.toNat, c0_i32.toNat]

def cc0_transform_4 (k0_off1_inb : ∀ i : grid0.Coords, ∀ (r : Fin 5), ∀ a, (k0_off1 i (BitVec.ofNat 32 r.val)) a + S1.size a ≤ S85.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let v2 : Index := Scalar.indexCast v1
  let v3 : BitVec 32 := pf.at 0 (Rect.unit (s := S85) ![v2.toNat] S1.size (k0_off1_inb i 3)) numel1_S1
  let v4 : BitVec 32 := v3
  let c0_i32 : BitVec 32 := 0#32
  let c0_i32_0 : BitVec 32 := 0#32
  ![v4.toNat, c0_i32.toNat]

def cc0_transform_5 (k0_off1_inb : ∀ i : grid0.Coords, ∀ (r : Fin 5), ∀ a, (k0_off1 i (BitVec.ofNat 32 r.val)) a + S1.size a ≤ S85.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let v2 : Index := Scalar.indexCast v1
  let v3 : BitVec 32 := pf.at 0 (Rect.unit (s := S85) ![v2.toNat] S1.size (k0_off1_inb i 4)) numel1_S1
  let v4 : BitVec 32 := v3
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjReferenceIdeal.lean ====
abbrev S16384x4096 : Shape := ⟨2, ![16384, 4096]⟩
abbrev S21232x4096 : Shape := ⟨2, ![21232, 4096]⟩
abbrev S4096x21232 : Shape := ⟨2, ![4096, 21232]⟩
abbrev S16384x21232 : Shape := ⟨2, ![16384, 21232]⟩
abbrev S16384x1024 : Shape := ⟨2, ![16384, 1024]⟩
abbrev S16384x2048 : Shape := ⟨2, ![16384, 2048]⟩
abbrev S16384x512 : Shape := ⟨2, ![16384, 512]⟩
abbrev S16384x256 : Shape := ⟨2, ![16384, 256]⟩
abbrev S16384x21760 : Shape := ⟨2, ![16384, 21760]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S21232x4096, .bf16⟩
  | .hbm, ⟨2, _⟩ => ⟨S16384x4096, .f32⟩
  | .hbm, ⟨3, _⟩ => ⟨S4096x21232, .bf16⟩
  | .hbm, ⟨4, _⟩ => ⟨S4096x21232, .f32⟩
  | .hbm, ⟨5, _⟩ => ⟨S16384x21232, .f32⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x4096, .f32⟩
  | .hbm, ⟨14, _⟩ => ⟨S16384x4096, .f32⟩
  | .hbm, ⟨15, _⟩ => ⟨S16384x512, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x21760, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Out.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4096x4096, .f32⟩
  | .hbm, ⟨3, _⟩ => ⟨S4096x4096, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S16384x2048 : Shape := ⟨2, ![16384, 2048]⟩
abbrev S1x2048x4096 : Shape := ⟨3, ![1, 2048, 4096]⟩
abbrev S16384x21760 : Shape := ⟨2, ![16384, 21760]⟩
abbrev S2048x4096 : Shape := ⟨2, ![2048, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x4096, .f32⟩
  | .hbm, ⟨3, _⟩ => ⟨S1x2048x4096, .f32⟩
  | .hbm, ⟨4, _⟩ => ⟨S16384x21760, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x2048 : Shape := ⟨2, ![16384, 2048]⟩
abbrev S1x2048x4096 : Shape := ⟨3, ![1, 2048, 4096]⟩
abbrev S16384x21760 : Shape := ⟨2, ![16384, 21760]⟩
abbrev S16384x4096 : Shape := ⟨2, ![16384, 4096]⟩
abbrev S2048x4096 : Shape := ⟨2, ![2048, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x4096, .f32⟩
  | .hbm, ⟨3, _⟩ => ⟨S1x2048x4096, .f32⟩
  | .hbm, ⟨4, _⟩ => ⟨S16384x21760, .f32⟩
  | .hbm, ⟨5, _⟩ => ⟨S16384x4096, .f32⟩
  | .hbm, ⟨6, _⟩ => ⟨S16384x4096, .f32⟩
  | .hbm, ⟨7, _⟩ => ⟨S16384x2048, .f32⟩
  | .hbm, ⟨8, _⟩ => ⟨S2048x4096, .f32⟩
  | .hbm, ⟨9, _⟩ => ⟨S16384x4096, .f32⟩
  | .hbm, ⟨10, _⟩ => ⟨S16384x2048, .f32⟩
  | .hbm, ⟨11, _⟩ => ⟨S2048x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Norm.lean ====
abbrev S16384x4096 : Shape := ⟨2, ![16384, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096 : Shape := ⟨1, ![4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Turn.lean ====
abbrev S16384x4096 : Shape := ⟨2, ![16384, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S16384x4096, .f32⟩
  | .hbm, ⟨9, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | .local _ .vmem, ⟨8, _⟩ => ⟨S512x4096, .bf16⟩
  | .local _ .vmem, ⟨9, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TurnReferenceIdeal.lean ====
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096 : Shape := ⟨1, ![4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S1x4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x4096, .f32⟩
  | .hbm, ⟨38, _⟩ => ⟨S16384x4096, .f32⟩
  | .hbm, ⟨39, _⟩ => ⟨S4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Gla.lean ====
abbrev S16384x21760 : Shape := ⟨2, ![16384, 21760]⟩
abbrev S1x16x1024 : Shape := ⟨3, ![1, 16, 1024]⟩
abbrev S1x1024 : Shape := ⟨2, ![1, 1024]⟩
abbrev S1x256 : Shape := ⟨2, ![1, 256]⟩
abbrev S256 : Shape := ⟨1, ![256]⟩
abbrev S64 : Shape := ⟨1, ![64]⟩
abbrev S64x1 : Shape := ⟨2, ![64, 1]⟩
abbrev S_ : Shape := ⟨0, ![]⟩
abbrev S4x4 : Shape := ⟨2, ![4, 4]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S256x1 : Shape := ⟨2, ![256, 1]⟩
abbrev S64x256 : Shape := ⟨2, ![64, 256]⟩
abbrev S4x4096x21760 : Shape := ⟨3, ![4, 4096, 21760]⟩
abbrev S16x1024 : Shape := ⟨2, ![16, 1024]⟩
abbrev S128x1024 : Shape := ⟨2, ![128, 1024]⟩
abbrev S1024 : Shape := ⟨1, ![1024]⟩
abbrev S4x4096x2048 : Shape := ⟨3, ![4, 4096, 2048]⟩
abbrev S4x64x1024 : Shape := ⟨3, ![4, 64, 1024]⟩
abbrev S4x64x2048 : Shape := ⟨3, ![4, 64, 2048]⟩
abbrev S4x64x128 : Shape := ⟨3, ![4, 64, 128]⟩
abbrev S4x8x256x128 : Shape := ⟨4, ![4, 8, 256, 128]⟩
abbrev S256x64 : Shape := ⟨2, ![256, 64]⟩
abbrev S256x128 : Shape := ⟨2, ![256, 128]⟩
abbrev S128x128 : Shape := ⟨2, ![128, 128]⟩
abbrev S1x128 : Shape := ⟨2, ![1, 128]⟩
abbrev S64x128 : Shape := ⟨2, ![64, 128]⟩
abbrev S8x64 : Shape := ⟨2, ![8, 64]⟩
abbrev S8x128 : Shape := ⟨2, ![8, 128]⟩
abbrev S32x8x128 : Shape := ⟨3, ![32, 8, 128]⟩
abbrev S32x1x128 : Shape := ⟨3, ![32, 1, 128]⟩
abbrev S1x64x256 : Shape := ⟨3, ![1, 64, 256]⟩
abbrev S1x1x256x128 : Shape := ⟨4, ![1, 1, 256, 128]⟩
abbrev S4x64x256 : Shape := ⟨3, ![4, 64, 256]⟩

abbrev nBuf : Space → Nat
  | .hbm => 159
  | .vmem => 17
  | .smem => 0
  | _ => 0

abbrev hbmTy0_0 (i : Nat) : BufTy := match i % 128 with
  | 0 => ⟨S16384x21760, .f32⟩
  | 1 => ⟨S1x16x1024, .f32⟩
  | 2 => ⟨S1x1024, .f32⟩
  | 3 => ⟨S1x256, .f32⟩
  | 4 => ⟨S256, .i32⟩
  | 5 => ⟨S64, .i32⟩
  | 6 => ⟨S64x1, .i32⟩
  | 7 => ⟨S1x256, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S1x256, .i32⟩
  | 15 => ⟨S1x256, .i32⟩
  | 16 => ⟨S_, .i32⟩
  | 17 => ⟨S1x256, .i32⟩
  | 18 => ⟨S1x256, .i1⟩
  | 19 => ⟨S_, .i32⟩
  | 20 => ⟨S1x256, .i32⟩
  | 21 => ⟨S1x256, .i1⟩
  | 22 => ⟨S_, .i32⟩
  | 23 => ⟨S_, .i1⟩
  | 24 => ⟨S1x256, .i1⟩
  | 25 => ⟨S1x256, .i1⟩
  | 26 => ⟨S1x256, .i1⟩
  | 27 => ⟨S1x256, .i32⟩
  | 28 => ⟨S1x256, .i32⟩
  | 29 => ⟨S1x256, .i32⟩
  | 30 => ⟨S256, .i32⟩
  | 31 => ⟨S4x4, .i32⟩
  | 32 => ⟨S4x4, .i32⟩
  | 33 => ⟨S_, .i32⟩
  | 34 => ⟨S4x4, .i32⟩
  | 35 => ⟨S4x4, .i32⟩
  | 36 => ⟨S4x4, .i1⟩
  | 37 => ⟨S4x4, .f32⟩
  | 38 => ⟨S_, .f32⟩
  | 39 => ⟨S64x64, .f32⟩
  | 40 => ⟨S64x64, .i32⟩
  | 41 => ⟨S_, .i32⟩
  | 42 => ⟨S64x64, .i32⟩
  | 43 => ⟨S64x64, .i32⟩
  | 44 => ⟨S64x64, .i32⟩
  | 45 => ⟨S64x64, .i1⟩
  | 46 => ⟨S_, .f32⟩
  | 47 => ⟨S64x64, .f32⟩
  | 48 => ⟨S64x64, .f32⟩
  | 49 => ⟨S4x1x4x1, .f32⟩
  | 50 => ⟨S1x64x1x64, .f32⟩
  | 51 => ⟨S4x64x4x64, .f32⟩
  | 52 => ⟨S4x64x4x64, .f32⟩
  | 53 => ⟨S4x64x4x64, .f32⟩
  | 54 => ⟨S256x256, .f32⟩
  | 55 => ⟨S256x256, .bf16⟩
  | 56 => ⟨S256x1, .i32⟩
  | 57 => ⟨S_, .i32⟩
  | 58 => ⟨S_, .i32⟩
  | 59 => ⟨S256x1, .i32⟩
  | 60 => ⟨S256x1, .i32⟩
  | 61 => ⟨S256x1, .i32⟩
  | 62 => ⟨S_, .i32⟩
  | 63 => ⟨S256x1, .i32⟩
  | 64 => ⟨S256x1, .i1⟩
  | 65 => ⟨S256x1, .i32⟩
  | 66 => ⟨S256x1, .i32⟩
  | 67 => ⟨S_, .i32⟩
  | 68 => ⟨S256x1, .i32⟩
  | 69 => ⟨S256x1, .i1⟩
  | 70 => ⟨S256x1, .i1⟩
  | 71 => ⟨S_, .i32⟩
  | 72 => ⟨S256x1, .i32⟩
  | 73 => ⟨S256x1, .i32⟩
  | 74 => ⟨S256x1, .i32⟩
  | 75 => ⟨S1x256, .i32⟩
  | 76 => ⟨S_, .i32⟩
  | 77 => ⟨S_, .i32⟩
  | 78 => ⟨S1x256, .i32⟩
  | 79 => ⟨S1x256, .i32⟩
  | 80 => ⟨S1x256, .i32⟩
  | 81 => ⟨S_, .i32⟩
  | 82 => ⟨S1x256, .i32⟩
  | 83 => ⟨S1x256, .i1⟩
  | 84 => ⟨S1x256, .i32⟩
  | 85 => ⟨S1x256, .i32⟩
  | 86 => ⟨S_, .i32⟩
  | 87 => ⟨S1x256, .i32⟩
  | 88 => ⟨S1x256, .i1⟩
  | 89 => ⟨S1x256, .i1⟩
  | 90 => ⟨S_, .i32⟩
  | 91 => ⟨S1x256, .i32⟩
  | 92 => ⟨S1x256, .i32⟩
  | 93 => ⟨S1x256, .i32⟩
  | 94 => ⟨S256x256, .i32⟩
  | 95 => ⟨S256x256, .i32⟩
  | 96 => ⟨S256x256, .i1⟩
  | 97 => ⟨S256x256, .bf16⟩
  | 98 => ⟨S64x256, .i32⟩
  | 99 => ⟨S64x256, .i32⟩
  | 100 => ⟨S64x256, .i1⟩
  | 101 => ⟨S64x256, .f32⟩
  | 102 => ⟨S64x256, .i32⟩
  | 103 => ⟨S64x256, .i32⟩
  | 104 => ⟨S64x256, .i1⟩
  | 105 => ⟨S64x256, .f32⟩
  | 106 => ⟨S256x1, .i32⟩
  | 107 => ⟨S_, .i32⟩
  | 108 => ⟨S_, .i32⟩
  | 109 => ⟨S256x1, .i32⟩
  | 110 => ⟨S256x1, .i32⟩
  | 111 => ⟨S256x1, .i32⟩
  | 112 => ⟨S_, .i32⟩
  | 113 => ⟨S256x1, .i32⟩
  | 114 => ⟨S256x1, .i1⟩
  | 115 => ⟨S256x1, .i32⟩
  | 116 => ⟨S256x1, .i32⟩
  | 117 => ⟨S_, .i32⟩
  | 118 => ⟨S256x1, .i32⟩
  | 119 => ⟨S256x1, .i1⟩
  | 120 => ⟨S256x1, .i1⟩
  | 121 => ⟨S_, .i32⟩
  | 122 => ⟨S256x1, .i32⟩
  | 123 => ⟨S256x1, .i32⟩
  | 124 => ⟨S256x1, .i32⟩
  | 125 => ⟨S1x256, .i32⟩
  | 126 => ⟨S_, .i32⟩
  | 127 => ⟨S_, .i32⟩
  | _ => ⟨S16384x21760, .f32⟩

abbrev hbmTy0_1 (i : Nat) : BufTy := match i % 128 with
  | 0 => ⟨S1x256, .i32⟩
  | 1 => ⟨S1x256, .i32⟩
  | 2 => ⟨S1x256, .i32⟩
  | 3 => ⟨S_, .i32⟩
  | 4 => ⟨S1x256, .i32⟩
  | 5 => ⟨S1x256, .i1⟩
  | 6 => ⟨S1x256, .i32⟩
  | 7 => ⟨S1x256, .i32⟩
  | 8 => ⟨S_, .i32⟩
  | 9 => ⟨S1x256, .i32⟩
  | 10 => ⟨S1x256, .i1⟩
  | 11 => ⟨S1x256, .i1⟩
  | 12 => ⟨S_, .i32⟩
  | 13 => ⟨S1x256, .i32⟩
  | 14 => ⟨S1x256, .i32⟩
  | 15 => ⟨S1x256, .i32⟩
  | 16 => ⟨S256x256, .i32⟩
  | 17 => ⟨S256x256, .i32⟩
  | 18 => ⟨S256x256, .i1⟩
  | 19 => ⟨S256x256, .f32⟩
  | 20 => ⟨S4x4096x21760, .f32⟩
  | 21 => ⟨S16x1024, .f32⟩
  | 22 => ⟨S_, .i32⟩
  | 23 => ⟨S_, .f32⟩
  | 24 => ⟨S128x1024, .f32⟩
  | 25 => ⟨S128x1024, .bf16⟩
  | 26 => ⟨S1024, .f32⟩
  | 27 => ⟨S1x1024, .f32⟩
  | 28 => ⟨S256, .f32⟩
  | 29 => ⟨S1x256, .f32⟩
  | 30 => ⟨S4x4096x2048, .bf16⟩
  | _ => ⟨S16384x21760, .f32⟩

abbrev hbmTy (i : Nat) : BufTy := match i / 128 with
  | 0 => hbmTy0_0 i
  | 1 => hbmTy0_1 i
  | _ => ⟨S16384x21760, .f32⟩

abbrev bufTy : (tb : Table) → Fin (tcTables nBuf tb) → BufTy
  | .hbm, ⟨i, _⟩ => hbmTy i
  | .local _ .vmem, ⟨0, _⟩ => ⟨S4x64x1024, .f32⟩
  | .local _ .vmem, ⟨1, _⟩ => ⟨S4x64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x64x2048, .f32⟩
  | .local _ .vmem, ⟨5, _⟩ => ⟨S4x64x2048, .f32⟩
  | .local _ .vmem, ⟨6, _⟩ => ⟨S4x64x2048, .f32⟩
  | .local _ .vmem, ⟨7, _⟩ => ⟨S4x64x2048, .f32⟩
  | .local _ .vmem, ⟨8, _⟩ => ⟨S4x64x128, .f32⟩
  | .local _ .vmem, ⟨9, _⟩ => ⟨S4x64x128, .f32⟩
  | .local _ .vmem, ⟨10, _⟩ => ⟨S128x1024, .bf16⟩
  | .local _ .vmem, ⟨11, _⟩ => ⟨S1x1024, .f32⟩
  | .local _ .vmem, ⟨12, _⟩ => ⟨S1x256, .f32⟩
  | .local _ .vmem, ⟨13, _⟩ => ⟨S256x256, .bf16⟩
  | .local _ .vmem, ⟨14, _⟩ => ⟨S4x64x2048, .bf16⟩
  | .local _ .vmem, ⟨15, _⟩ => ⟨S4x64x2048, .bf16⟩
  | .local _ .vmem, ⟨16, _⟩ => ⟨S4x8x256x128, .f32⟩
  | _, _ => ⟨S16384x21760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_cst : Ref sig .tc := ⟨.hbm, 46, rfl⟩
abbrev main_call1_v5 : Ref sig .tc := ⟨.hbm, 47, rfl⟩
abbrev main_v13 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_1 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_c : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_0 : Ref sig .tc := ⟨.hbm, 71, rfl⟩
abbrev main_call3_v12 : Ref sig .tc := ⟨.hbm, 72, rfl⟩
abbrev main_call3_v13 : Ref sig .tc := ⟨.hbm, 73, rfl⟩
abbrev main_v17 : Ref sig .tc := ⟨.hbm, 74, rfl⟩
abbrev main_v18 : Ref sig .tc := ⟨.hbm, 75, rfl⟩
abbrev main_c_2 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_call4_v5 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_c : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_c_0 : Ref sig .tc := ⟨.hbm, 90, rfl⟩
abbrev main_call4_v12 : Ref sig .tc := ⟨.hbm, 91, rfl⟩
abbrev main_call4_v13 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_c_3 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_v5 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_c : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_call5_c_0 : Ref sig .tc := ⟨.hbm, 121, rfl⟩
abbrev main_call5_v12 : Ref sig .tc := ⟨.hbm, 122, rfl⟩
abbrev main_call5_v13 : Ref sig .tc := ⟨.hbm, 123, rfl⟩
abbrev main_v33 : Ref sig .tc := ⟨.hbm, 124, rfl⟩
abbrev main_v34 : Ref sig .tc := ⟨.hbm, 125, rfl⟩
abbrev main_c_4 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_c : Ref sig .tc := ⟨.hbm, 136, rfl⟩
abbrev main_call6_v9 : Ref sig .tc := ⟨.hbm, 137, rfl⟩
abbrev main_call6_v10 : Ref sig .tc := ⟨.hbm, 138, rfl⟩
abbrev main_call6_v11 : Ref sig .tc := ⟨.hbm, 139, rfl⟩
abbrev main_call6_c_0 : Ref sig .tc := ⟨.hbm, 140, rfl⟩
abbrev main_call6_v12 : Ref sig .tc := ⟨.hbm, 141, rfl⟩
abbrev main_call6_v13 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_c_5 : Ref sig .tc := ⟨.hbm, 150, rfl⟩
abbrev main_call7_v0 : Ref sig .tc := ⟨.hbm, 151, rfl⟩
abbrev main_v42 : Ref sig .tc := ⟨.hbm, 152, rfl⟩
abbrev main_v43 : Ref sig .tc := ⟨.hbm, 153, rfl⟩
abbrev main_v44 : Ref sig .tc := ⟨.hbm, 154, rfl⟩
abbrev main_v45 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![1, 1, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c168_i32 : BitVec 32 := 168#32
  let c0_i32 : BitVec 32 := 0#32
  ![arg0.toNat, arg2.toNat, c168_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S4x64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Proof.Words.lean ====
/-
  The words the loop of the gate/up pipeline carries, before each of its 344 trips (trip `k` is row block `k / 43`,
  column block `k % 43`), and what the body's conditions and offsets are at those words.
-/
module

public import proofs.«01_k».proof.Defs

@[expose] public section

namespace Cert.GateUp

open Cert.KernelIdeal Idealize.ShloMosaic

/-- A count as a carried word. -/
abbrev wd (n : ℕ) : BitVec 32 := BitVec.ofNat 32 n

/-- The fourteen carried words before trip `k`. -/
abbrev accAt (k : ℕ) : BitVec 32 × BitVec 32 × BitVec 32 × BitVec 32 × BitVec 32 × BitVec 32 × BitVec 32 × BitVec 32 × BitVec 32 × BitVec 32 × BitVec 32 × BitVec 32 × BitVec 32 × BitVec 32 :=
  (wd (min (k / 43 + 1) 8), wd (k / 43), wd (min (k + 1) 344), wd (k), wd (min (k + 1) 344), wd (k), wd (min (k + 1) 344), wd (k), wd (k), wd (k - 1), wd (k), wd (k - 1), wd (k / 43 % 8), wd (k % 43))

/-- The slot's offset in an array of two slots, as a rank-one and as a rank-three offset. -/
abbrev off1 (s : Fin 2) : Fin 1 → ℕ := ![s.val]
abbrev off3 (s : Fin 2) : Fin 3 → ℕ := ![s.val, 0, 0]
/-- Block `b`'s offset: of the row blocks of `x`, the column blocks of the weights, the slabs of the down weights and
    the tiles of the product. -/
abbrev offX (b : Fin 8) : Fin 2 → ℕ := ![2048 * b.val, 0]
abbrev offG (b : Fin 43) : Fin 2 → ℕ := ![0, 256 * b.val]
abbrev offD (b : Fin 344) : Fin 2 → ℕ := ![32 * b.val, 0]
abbrev offO (b : Fin 344) : Fin 2 → ℕ := ![2048 * (b.val / 43), 256 * (b.val % 43)]

/-- The slot of step `n`, and block `n` of `x`, of the weights' columns, and of the 344 steps. -/
abbrev sl (n : ℕ) : Fin 2 := Fin.ofNat 2 n
abbrev ixX (n : ℕ) : Fin 8 := Fin.ofNat 8 n
abbrev ixG (n : ℕ) : Fin 43 := Fin.ofNat 43 n
abbrev ixS (n : ℕ) : Fin 344 := Fin.ofNat 344 n

/-! ## The conditions -/

theorem cond1_iff : ∀ k : Fin k0_t1_loop.trips, (k0_cond1 k (wd (k.val / 43 % 8)) (wd (k.val % 43)) = 1#1) ↔ (k.val % 43 = 42 ∧ k.val ≠ 343) := by decide +kernel
theorem cond2_iff : ∀ k : Fin k0_t1_loop.trips, (k0_cond2 k (wd (k.val % 43)) = 1#1) ↔ (k.val ≠ 343) := by decide +kernel
theorem cond3_iff : ∀ k : Fin k0_t1_loop.trips, (k0_cond3 k (wd (k.val % 43)) = 1#1) ↔ (k.val ≠ 343) := by decide +kernel
theorem cond4_iff : ∀ k : Fin k0_t1_loop.trips, (k0_cond4 k (wd (k.val / 43 % 8)) (wd (k.val % 43)) = 1#1) ↔ (k.val ≠ 343) := by decide +kernel
theorem cond5_iff : ∀ k : Fin k0_t1_loop.trips, (k0_cond5 k (wd (k.val / 43 % 8)) (wd (k.val % 43)) = 1#1) ↔ (k.val % 43 = 0) := by decide +kernel
theorem cond6 : ∀ k : Fin k0_t1_loop.trips, k0_cond6 k (wd (k.val % 43)) = 1#1 := by decide +kernel
theorem cond7 : ∀ k : Fin k0_t1_loop.trips, k0_cond7 k (wd (k.val % 43)) = 1#1 := by decide +kernel
theorem cond8 : ∀ k : Fin k0_t1_loop.trips, k0_cond8 k (wd (k.val / 43 % 8)) (wd (k.val % 43)) = 1#1 := by decide +kernel
theorem cond15 : ∀ k : Fin k0_t1_loop.trips, k0_cond15 k (wd (k.val / 43 % 8)) (wd (k.val % 43)) = 1#1 := by decide +kernel
theorem cond16 : ∀ k : Fin k0_t1_loop.trips, k0_cond16 k (wd (k.val / 43 % 8)) (wd (k.val % 43)) = 1#1 := by decide +kernel
theorem cond21_iff : ∀ k : Fin k0_t1_loop.trips, (k0_cond21 k (wd (k.val / 43 % 8)) (wd (k.val % 43)) = 1#1) ↔ (k.val ≠ 0) := by decide +kernel
theorem cond22_iff : ∀ k : Fin k0_t1_loop.trips, (k0_cond22 k (wd (k.val / 43 % 8)) (wd (k.val % 43)) = 1#1) ↔ (k.val ≠ 0) := by decide +kernel

/-! ## The checks -/

theorem chk7 : ∀ k : Fin k0_t1_loop.trips, k0_chk7 (wd (k.val)) := by decide +kernel
theorem chk6 : ∀ k : Fin k0_t1_loop.trips, k0_chk6 (wd (k.val)) := by decide +kernel
theorem chk5 : ∀ k : Fin k0_t1_loop.trips, k0_chk5 (wd (k.val)) := by decide +kernel
theorem chk4 : ∀ k : Fin k0_t1_loop.trips, k0_chk4 (wd (k.val)) := by decide +kernel
theorem chk3 : ∀ k : Fin k0_t1_loop.trips, k0_chk3 (wd (k.val)) := by decide +kernel
theorem chk2 : ∀ k : Fin k0_t1_loop.trips, k0_chk2 (wd (k.val / 43)) := by decide +kernel
theorem chk1 : ∀ k : Fin k0_t1_loop.trips, k0_chk1 k (wd (min (k.val / 43 + 1) 8)) (wd (k.val / 43)) (wd (min (k.val + 1) 344)) (wd (k.val)) (wd (min (k.val + 1) 344)) (wd (k.val)) (wd (min (k.val + 1) 344)) (wd (k.val)) (wd (k.val)) (wd (k.val - 1)) (wd (k.val)) (wd (k.val - 1)) (wd (k.val / 43 % 8)) (wd (k.val % 43)) := by decide +kernel
theorem chk10 : k0_chk10 (wd (344 - 1)) := by decide +kernel
theorem chk9 : k0_chk9 (wd (344 % 43)) (wd (344 / 43 % 8)) := by decide +kernel
theorem chk8 : k0_chk8 (wd (344 - 1)) := by decide +kernel

/-! ## The offsets -/

theorem off5_eq : ∀ k : Fin k0_t1_loop.trips, k0_off5 (wd (min (k.val / 43 + 1) 8)) = off1 (sl (k.val / 43 + 1)) := by decide +kernel
theorem off6_eq : ∀ k : Fin k0_t1_loop.trips, k0_off6 (wd (min (k.val / 43 + 1) 8)) = off3 (sl (k.val / 43 + 1)) := by decide +kernel
theorem off7_eq : ∀ k : Fin k0_t1_loop.trips, k.val % 43 = 42 → k0_off7 (wd (k.val / 43 % 8)) (wd (k.val % 43)) = offX (ixX (k.val / 43 + 1)) := by decide +kernel
theorem off8_eq : ∀ k : Fin k0_t1_loop.trips, k.val ≠ 343 → k0_off8 (wd (min (k.val + 1) 344)) = off1 (sl (k.val + 1)) := by decide +kernel
theorem off9_eq : ∀ k : Fin k0_t1_loop.trips, k.val ≠ 343 → k0_off9 (wd (min (k.val + 1) 344)) = off3 (sl (k.val + 1)) := by decide +kernel
theorem off10_eq : ∀ k : Fin k0_t1_loop.trips, k0_off10 (wd (k.val % 43)) = offG (ixG (k.val + 1)) := by decide +kernel
theorem off11_eq : ∀ k : Fin k0_t1_loop.trips, k.val ≠ 343 → k0_off11 (wd (min (k.val + 1) 344)) = off1 (sl (k.val + 1)) := by decide +kernel
theorem off12_eq : ∀ k : Fin k0_t1_loop.trips, k.val ≠ 343 → k0_off12 (wd (min (k.val + 1) 344)) = off3 (sl (k.val + 1)) := by decide +kernel
theorem off13_eq : ∀ k : Fin k0_t1_loop.trips, k0_off13 (wd (k.val % 43)) = offG (ixG (k.val + 1)) := by decide +kernel
theorem off14_eq : ∀ k : Fin k0_t1_loop.trips, k.val ≠ 343 → k0_off14 (wd (min (k.val + 1) 344)) = off1 (sl (k.val + 1)) := by decide +kernel
theorem off15_eq : ∀ k : Fin k0_t1_loop.trips, k.val ≠ 343 → k0_off15 (wd (min (k.val + 1) 344)) = off3 (sl (k.val + 1)) := by decide +kernel
theorem off16_eq : ∀ k : Fin k0_t1_loop.trips, k0_off16 (wd (k.val / 43 % 8)) (wd (k.val % 43)) = offD (ixS (k.val + 1)) := by decide +kernel
theorem off17_eq : ∀ k : Fin k0_t1_loop.trips, k0_off17 (wd (k.val / 43)) = off1 (sl (k.val / 43)) := by decide +kernel
theorem off18_eq : ∀ k : Fin k0_t1_loop.trips, k0_off18 (wd (k.val / 43)) = off3 (sl (k.val / 43)) := by decide +kernel
theorem off19_eq : ∀ k : Fin k0_t1_loop.trips, k0_off19 (wd (k.val / 43 % 8)) = offX (ixX (k.val / 43)) := by decide +kernel
theorem off20_eq : ∀ k : Fin k0_t1_loop.trips, k0_off20 (wd (k.val)) = off1 (sl k.val) := by decide +kernel
theorem off21_eq : ∀ k : Fin k0_t1_loop.trips, k0_off21 (wd (k.val)) = off3 (sl k.val) := by decide +kernel
theorem off22_eq : ∀ k : Fin k0_t1_loop.trips, k0_off22 (wd (k.val % 43)) = offG (ixG k.val) := by decide +kernel
theorem off23_eq : ∀ k : Fin k0_t1_loop.trips, k0_off23 (wd (k.val)) = off1 (sl k.val) := by decide +kernel
theorem off24_eq : ∀ k : Fin k0_t1_loop.trips, k0_off24 (wd (k.val)) = off3 (sl k.val) := by decide +kernel
theorem off25_eq : ∀ k : Fin k0_t1_loop.trips, k0_off25 (wd (k.val % 43)) = offG (ixG k.val) := by decide +kernel
theorem off26_eq : ∀ k : Fin k0_t1_loop.trips, k0_off26 (wd (k.val)) = off1 (sl k.val) := by decide +kernel
theorem off27_eq : ∀ k : Fin k0_t1_loop.trips, k0_off27 (wd (k.val)) = off3 (sl k.val) := by decide +kernel
theorem off28_eq : ∀ k : Fin k0_t1_loop.trips, k0_off28 (wd (k.val / 43 % 8)) (wd (k.val % 43)) = offD (ixS k.val) := by decide +kernel
theorem off29_eq : ∀ k : Fin k0_t1_loop.trips, k0_off29 (wd (k.val / 43)) = off3 (sl (k.val / 43)) := by decide +kernel
theorem off30_eq : ∀ k : Fin k0_t1_loop.trips, k0_off30 (wd (k.val)) = off3 (sl k.val) := by decide +kernel
theorem off31_eq : ∀ k : Fin k0_t1_loop.trips, k0_off31 (wd (k.val)) = off3 (sl k.val) := by decide +kernel
theorem off32_eq : ∀ k : Fin k0_t1_loop.trips, k0_off32 (wd (k.val)) = off3 (sl k.val) := by decide +kernel
theorem off33_eq : ∀ k : Fin k0_t1_loop.trips, k0_off33 (wd (k.val)) = off3 (sl k.val) := by decide +kernel
theorem off34_eq : ∀ k : Fin k0_t1_loop.trips, k0_off34 (wd (k.val)) = off3 (sl k.val) := by decide +kernel
theorem off35_eq : ∀ k : Fin k0_t1_loop.trips, k0_off35 (wd (k.val)) = off1 (sl k.val) := by decide +kernel
theorem off36_eq : ∀ k : Fin k0_t1_loop.trips, k0_off36 (wd (k.val / 43 % 8)) (wd (k.val % 43)) = offO (ixS k.val) := by decide +kernel
theorem off37_eq : ∀ k : Fin k0_t1_loop.trips, k0_off37 (wd (k.val)) = off3 (sl k.val) := by decide +kernel
theorem off38_eq : ∀ k : Fin k0_t1_loop.trips, k0_off38 (wd (k.val)) = off1 (sl k.val) := by decide +kernel
theorem off39_eq : ∀ k : Fin k0_t1_loop.trips, k0_off39 (wd (k.val / 43 % 8)) (wd (k.val % 43)) = offD (ixS k.val) := by decide +kernel
theorem off40_eq : ∀ k : Fin k0_t1_loop.trips, k0_off40 (wd (k.val)) = off3 (sl k.val) := by decide +kernel
theorem off41_eq : ∀ k : Fin k0_t1_loop.trips, k.val ≠ 0 → k0_off41 (wd (k.val - 1)) = off1 (sl (k.val + 1)) := by decide +kernel
theorem off42_eq : ∀ k : Fin k0_t1_loop.trips, k.val ≠ 0 → k0_off42 (wd (k.val / 43 % 8)) (wd (k.val % 43)) = offO (ixS (k.val - 1)) := by decide +kernel
theorem off43_eq : ∀ k : Fin k0_t1_loop.trips, k.val ≠ 0 → k0_off43 (wd (k.val - 1)) = off3 (sl (k.val + 1)) := by decide +kernel
theorem off44_eq : ∀ k : Fin k0_t1_loop.trips, k.val ≠ 0 → k0_off44 (wd (k.val - 1)) = off1 (sl (k.val + 1)) := by decide +kernel
theorem off45_eq : ∀ k : Fin k0_t1_loop.trips, k.val ≠ 0 → k0_off45 (wd (k.val / 43 % 8)) (wd (k.val % 43)) = offD (ixS (k.val - 1)) := by decide +kernel
theorem off46_eq : ∀ k : Fin k0_t1_loop.trips, k.val ≠ 0 → k0_off46 (wd (k.val - 1)) = off3 (sl (k.val + 1)) := by decide +kernel
theorem off1_eq : k0_off1 = off1 (sl 0) := by decide +kernel
theorem off2_eq : k0_off2 = off3 (sl 0) := by decide +kernel
theorem off3_eq : k0_off3 = off3 (sl 0) := by decide +kernel
theorem off4_eq : k0_off4 = off3 (sl 0) := by decide +kernel
theorem off47_eq : k0_off47 (wd (344 - 1)) = off1 (sl 1) := by decide +kernel
theorem off48_eq : k0_off48 (wd (344 % 43)) (wd (344 / 43 % 8)) = offO (ixS 343) := by decide +kernel
theorem off49_eq : k0_off49 (wd (344 - 1)) = off3 (sl 1) := by decide +kernel
theorem off50_eq : k0_off50 (wd (344 - 1)) = off1 (sl 1) := by decide +kernel
theorem off51_eq : k0_off51 (wd (344 % 43)) (wd (344 / 43 % 8)) = offD (ixS 343) := by decide +kernel
theorem off52_eq : k0_off52 (wd (344 - 1)) = off3 (sl 1) := by decide +kernel

end Cert.GateUp
-- ==== Proof.Names.lean ====
/-
  The views the gate/up pipeline's body takes, named: of each of the six operands its blocks (`xB b`, …), its two slots
  (`xS s`, …) and the slots' semaphores (`xC s`, …); and that the slices the body takes at the loop's words are these.
-/
module

public import proofs.«01_k».proof.Proof.Words
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.GateUp

open Cert.KernelIdeal Cert.KernelIdeal.Gen
open Idealize.ShloMosaic Idealize.ShloMosaic.TcCoe Idealize.ShloMosaic.Tactic

/-! ## The offsets lie inside -/

theorem off1_in (s : Fin 2) : ∀ a, off1 s a + S1.size a ≤ S2.size a := by
  have := s.isLt; intro a; fin_cases a; show s.val + 1 ≤ 2; omega
theorem off3_in_S2048x4096 (s : Fin 2) : ∀ a, off3 s a + S1x2048x4096.size a ≤ S2x2048x4096.size a := by
  have := s.isLt; intro a; fin_cases a
  · show s.val + 1 ≤ 2; omega
  · show 0 + 2048 ≤ 2048; omega
  · show 0 + 4096 ≤ 4096; omega
theorem off3_in_S4096x256 (s : Fin 2) : ∀ a, off3 s a + S1x4096x256.size a ≤ S2x4096x256.size a := by
  have := s.isLt; intro a; fin_cases a
  · show s.val + 1 ≤ 2; omega
  · show 0 + 4096 ≤ 4096; omega
  · show 0 + 256 ≤ 256; omega
theorem off3_in_S32x4096 (s : Fin 2) : ∀ a, off3 s a + S1x32x4096.size a ≤ S2x32x4096.size a := by
  have := s.isLt; intro a; fin_cases a
  · show s.val + 1 ≤ 2; omega
  · show 0 + 32 ≤ 32; omega
  · show 0 + 4096 ≤ 4096; omega
theorem off3_in_S2048x256 (s : Fin 2) : ∀ a, off3 s a + S1x2048x256.size a ≤ S2x2048x256.size a := by
  have := s.isLt; intro a; fin_cases a
  · show s.val + 1 ≤ 2; omega
  · show 0 + 2048 ≤ 2048; omega
  · show 0 + 256 ≤ 256; omega
theorem offX_in (b : Fin 8) : ∀ a, offX b a + S2048x4096.size a ≤ S16384x4096.size a := by
  have := b.isLt; intro a; fin_cases a
  · show 2048 * b.val + 2048 ≤ 16384; omega
  · show 0 + 4096 ≤ 4096; omega
theorem offG_in (b : Fin 43) : ∀ a, offG b a + S4096x256.size a ≤ S4096x11008.size a := by
  have := b.isLt; intro a; fin_cases a
  · show 0 + 4096 ≤ 4096; omega
  · show 256 * b.val + 256 ≤ 11008; omega
theorem offD_in (b : Fin 344) : ∀ a, offD b a + S32x4096.size a ≤ S11008x4096.size a := by
  have := b.isLt; intro a; fin_cases a
  · show 32 * b.val + 32 ≤ 11008; omega
  · show 0 + 4096 ≤ 4096; omega
theorem offO_in (b : Fin 344) : ∀ a, offO b a + S2048x256.size a ≤ S16384x11008.size a := by
  have := b.isLt; intro a; fin_cases a
  · show 2048 * (b.val / 43) + 2048 ≤ 16384; omega
  · show 256 * (b.val % 43) + 256 ≤ 11008; omega

instance (s : Fin 2) : ClosedOff (off1 s) := ⟨off1 s, rfl⟩
instance (s : Fin 2) : ClosedOff (off3 s) := ⟨off3 s, rfl⟩

/-! ## Blocks, slots, semaphores -/

/-- Of the rows of `x`: block `b` in the array. -/
def xB (b : Fin 8) : Memref sig .tc .hbm S2048x4096 .bf16 :=
  (Memref.whole main_arg0).slice (Rect.unit (s := S16384x4096) (offX b) S2048x4096.size (offX_in b)) (fun _ => rfl)
/-- The slot `s` it is staged in. -/
def xS (s : Fin 2) : Memref sig .tc .vmem S2048x4096 .bf16 :=
  ((Memref.whole cc0_scoped0).slice (Rect.unit (s := S2x2048x4096) (off3 s) S1x2048x4096.size (off3_in_S2048x4096 s)) (fun _ => rfl)).squeeze S2048x4096 squeezes_S1x2048x4096_S2048x4096
/-- That slot's semaphore. -/
def xC (s : Fin 2) : DmaSems sig S_ :=
  (cc0_scoped1.slice (Rect.unit (s := S2) (off1 s) S1.size (off1_in s))).squeeze S_ squeezes_S1_S_
theorem xB_congr {off : Fin 2 → ℕ} {b : Fin 8} (e : off = offX b) (h h') :
    (Memref.whole main_arg0 : Memref sig .tc .hbm S16384x4096 .bf16).slice (Rect.unit (s := S16384x4096) off S2048x4096.size h) h' = xB b :=
  Memref.slice_unit_congr _ e _ _ _ (fun _ => rfl)
theorem xS_congr {off : Fin 3 → ℕ} {s : Fin 2} (e : off = off3 s) (h h') :
    ((Memref.whole cc0_scoped0 : Memref sig .tc .vmem S2x2048x4096 .bf16).slice (Rect.unit (s := S2x2048x4096) off S1x2048x4096.size h) h').squeeze S2048x4096 squeezes_S1x2048x4096_S2048x4096 = xS s :=
  congrArg (fun M : Memref sig .tc .vmem S1x2048x4096 .bf16 => M.squeeze S2048x4096 squeezes_S1x2048x4096_S2048x4096) (Memref.slice_unit_congr _ e _ _ _ _)
theorem xC_congr {off : Fin 1 → ℕ} {s : Fin 2} (e : off = off1 s) (h) :
    (cc0_scoped1.slice (Rect.unit (s := S2) off S1.size h)).squeeze S_ squeezes_S1_S_ = xC s :=
  congrArg (fun A : DmaSems sig S1 => A.squeeze S_ squeezes_S1_S_) (SemArray.slice_unit_congr _ e _ _)
/-- Of the gate weights' columns: block `b` in the array. -/
def gB (b : Fin 43) : Memref sig .tc .hbm S4096x256 .f32 :=
  (Memref.whole main_v0).slice (Rect.unit (s := S4096x11008) (offG b) S4096x256.size (offG_in b)) (fun _ => rfl)
/-- The slot `s` it is staged in. -/
def gS (s : Fin 2) : Memref sig .tc .vmem S4096x256 .f32 :=
  ((Memref.whole cc0_scoped2).slice (Rect.unit (s := S2x4096x256) (off3 s) S1x4096x256.size (off3_in_S4096x256 s)) (fun _ => rfl)).squeeze S4096x256 squeezes_S1x4096x256_S4096x256
/-- That slot's semaphore. -/
def gC (s : Fin 2) : DmaSems sig S_ :=
  (cc0_scoped3.slice (Rect.unit (s := S2) (off1 s) S1.size (off1_in s))).squeeze S_ squeezes_S1_S_
theorem gB_congr {off : Fin 2 → ℕ} {b : Fin 43} (e : off = offG b) (h h') :
    (Memref.whole main_v0 : Memref sig .tc .hbm S4096x11008 .f32).slice (Rect.unit (s := S4096x11008) off S4096x256.size h) h' = gB b :=
  Memref.slice_unit_congr _ e _ _ _ (fun _ => rfl)
theorem gS_congr {off : Fin 3 → ℕ} {s : Fin 2} (e : off = off3 s) (h h') :
    ((Memref.whole cc0_scoped2 : Memref sig .tc .vmem S2x4096x256 .f32).slice (Rect.unit (s := S2x4096x256) off S1x4096x256.size h) h').squeeze S4096x256 squeezes_S1x4096x256_S4096x256 = gS s :=
  congrArg (fun M : Memref sig .tc .vmem S1x4096x256 .f32 => M.squeeze S4096x256 squeezes_S1x4096x256_S4096x256) (Memref.slice_unit_congr _ e _ _ _ _)
theorem gC_congr {off : Fin 1 → ℕ} {s : Fin 2} (e : off = off1 s) (h) :
    (cc0_scoped3.slice (Rect.unit (s := S2) off S1.size h)).squeeze S_ squeezes_S1_S_ = gC s :=
  congrArg (fun A : DmaSems sig S1 => A.squeeze S_ squeezes_S1_S_) (SemArray.slice_unit_congr _ e _ _)
/-- Of the up weights' columns: block `b` in the array. -/
def uB (b : Fin 43) : Memref sig .tc .hbm S4096x256 .f32 :=
  (Memref.whole main_v1).slice (Rect.unit (s := S4096x11008) (offG b) S4096x256.size (offG_in b)) (fun _ => rfl)
/-- The slot `s` it is staged in. -/
def uS (s : Fin 2) : Memref sig .tc .vmem S4096x256 .f32 :=
  ((Memref.whole cc0_scoped4).slice (Rect.unit (s := S2x4096x256) (off3 s) S1x4096x256.size (off3_in_S4096x256 s)) (fun _ => rfl)).squeeze S4096x256 squeezes_S1x4096x256_S4096x256
/-- That slot's semaphore. -/
def uC (s : Fin 2) : DmaSems sig S_ :=
  (cc0_scoped5.slice (Rect.unit (s := S2) (off1 s) S1.size (off1_in s))).squeeze S_ squeezes_S1_S_
theorem uB_congr {off : Fin 2 → ℕ} {b : Fin 43} (e : off = offG b) (h h') :
    (Memref.whole main_v1 : Memref sig .tc .hbm S4096x11008 .f32).slice (Rect.unit (s := S4096x11008) off S4096x256.size h) h' = uB b :=
  Memref.slice_unit_congr _ e _ _ _ (fun _ => rfl)
theorem uS_congr {off : Fin 3 → ℕ} {s : Fin 2} (e : off = off3 s) (h h') :
    ((Memref.whole cc0_scoped4 : Memref sig .tc .vmem S2x4096x256 .f32).slice (Rect.unit (s := S2x4096x256) off S1x4096x256.size h) h').squeeze S4096x256 squeezes_S1x4096x256_S4096x256 = uS s :=
  congrArg (fun M : Memref sig .tc .vmem S1x4096x256 .f32 => M.squeeze S4096x256 squeezes_S1x4096x256_S4096x256) (Memref.slice_unit_congr _ e _ _ _ _)
theorem uC_congr {off : Fin 1 → ℕ} {s : Fin 2} (e : off = off1 s) (h) :
    (cc0_scoped5.slice (Rect.unit (s := S2) off S1.size h)).squeeze S_ squeezes_S1_S_ = uC s :=
  congrArg (fun A : DmaSems sig S1 => A.squeeze S_ squeezes_S1_S_) (SemArray.slice_unit_congr _ e _ _)
/-- Of the down weights (f32): block `b` in the array. -/
def dB (b : Fin 344) : Memref sig .tc .hbm S32x4096 .f32 :=
  (Memref.whole main_v2).slice (Rect.unit (s := S11008x4096) (offD b) S32x4096.size (offD_in b)) (fun _ => rfl)
/-- The slot `s` it is staged in. -/
def dS (s : Fin 2) : Memref sig .tc .vmem S32x4096 .f32 :=
  ((Memref.whole cc0_scoped6).slice (Rect.unit (s := S2x32x4096) (off3 s) S1x32x4096.size (off3_in_S32x4096 s)) (fun _ => rfl)).squeeze S32x4096 squeezes_S1x32x4096_S32x4096
/-- That slot's semaphore. -/
def dC (s : Fin 2) : DmaSems sig S_ :=
  (cc0_scoped7.slice (Rect.unit (s := S2) (off1 s) S1.size (off1_in s))).squeeze S_ squeezes_S1_S_
theorem dB_congr {off : Fin 2 → ℕ} {b : Fin 344} (e : off = offD b) (h h') :
    (Memref.whole main_v2 : Memref sig .tc .hbm S11008x4096 .f32).slice (Rect.unit (s := S11008x4096) off S32x4096.size h) h' = dB b :=
  Memref.slice_unit_congr _ e _ _ _ (fun _ => rfl)
theorem dS_congr {off : Fin 3 → ℕ} {s : Fin 2} (e : off = off3 s) (h h') :
    ((Memref.whole cc0_scoped6 : Memref sig .tc .vmem S2x32x4096 .f32).slice (Rect.unit (s := S2x32x4096) off S1x32x4096.size h) h').squeeze S32x4096 squeezes_S1x32x4096_S32x4096 = dS s :=
  congrArg (fun M : Memref sig .tc .vmem S1x32x4096 .f32 => M.squeeze S32x4096 squeezes_S1x32x4096_S32x4096) (Memref.slice_unit_congr _ e _ _ _ _)
theorem dC_congr {off : Fin 1 → ℕ} {s : Fin 2} (e : off = off1 s) (h) :
    (cc0_scoped7.slice (Rect.unit (s := S2) off S1.size h)).squeeze S_ squeezes_S1_S_ = dC s :=
  congrArg (fun A : DmaSems sig S1 => A.squeeze S_ squeezes_S1_S_) (SemArray.slice_unit_congr _ e _ _)
/-- Of the product: block `b` in the array. -/
def oB (b : Fin 344) : Memref sig .tc .hbm S2048x256 .bf16 :=
  (Memref.whole main_v3_0).slice (Rect.unit (s := S16384x11008) (offO b) S2048x256.size (offO_in b)) (fun _ => rfl)
/-- The slot `s` it is staged in. -/
def oS (s : Fin 2) : Memref sig .tc .vmem S2048x256 .bf16 :=
  ((Memref.whole cc0_scoped8).slice (Rect.unit (s := S2x2048x256) (off3 s) S1x2048x256.size (off3_in_S2048x256 s)) (fun _ => rfl)).squeeze S2048x256 squeezes_S1x2048x256_S2048x256
/-- That slot's semaphore. -/
def oC (s : Fin 2) : DmaSems sig S_ :=
  (cc0_scoped9.slice (Rect.unit (s := S2) (off1 s) S1.size (off1_in s))).squeeze S_ squeezes_S1_S_
theorem oB_congr {off : Fin 2 → ℕ} {b : Fin 344} (e : off = offO b) (h h') :
    (Memref.whole main_v3_0 : Memref sig .tc .hbm S16384x11008 .bf16).slice (Rect.unit (s := S16384x11008) off S2048x256.size h) h' = oB b :=
  Memref.slice_unit_congr _ e _ _ _ (fun _ => rfl)
theorem oS_congr {off : Fin 3 → ℕ} {s : Fin 2} (e : off = off3 s) (h h') :
    ((Memref.whole cc0_scoped8 : Memref sig .tc .vmem S2x2048x256 .bf16).slice (Rect.unit (s := S2x2048x256) off S1x2048x256.size h) h').squeeze S2048x256 squeezes_S1x2048x256_S2048x256 = oS s :=
  congrArg (fun M : Memref sig .tc .vmem S1x2048x256 .bf16 => M.squeeze S2048x256 squeezes_S1x2048x256_S2048x256) (Memref.slice_unit_congr _ e _ _ _ _)
theorem oC_congr {off : Fin 1 → ℕ} {s : Fin 2} (e : off = off1 s) (h) :
    (cc0_scoped9.slice (Rect.unit (s := S2) off S1.size h)).squeeze S_ squeezes_S1_S_ = oC s :=
  congrArg (fun A : DmaSems sig S1 => A.squeeze S_ squeezes_S1_S_) (SemArray.slice_unit_congr _ e _ _)
/-- Of the down weights (bf16): block `b` in the array. -/
def bB (b : Fin 344) : Memref sig .tc .hbm S32x4096 .bf16 :=
  (Memref.whole main_v3_1).slice (Rect.unit (s := S11008x4096) (offD b) S32x4096.size (offD_in b)) (fun _ => rfl)
/-- The slot `s` it is staged in. -/
def bS (s : Fin 2) : Memref sig .tc .vmem S32x4096 .bf16 :=
  ((Memref.whole cc0_scoped10).slice (Rect.unit (s := S2x32x4096) (off3 s) S1x32x4096.size (off3_in_S32x4096 s)) (fun _ => rfl)).squeeze S32x4096 squeezes_S1x32x4096_S32x4096
/-- That slot's semaphore. -/
def bC (s : Fin 2) : DmaSems sig S_ :=
  (cc0_scoped11.slice (Rect.unit (s := S2) (off1 s) S1.size (off1_in s))).squeeze S_ squeezes_S1_S_
theorem bB_congr {off : Fin 2 → ℕ} {b : Fin 344} (e : off = offD b) (h h') :
    (Memref.whole main_v3_1 : Memref sig .tc .hbm S11008x4096 .bf16).slice (Rect.unit (s := S11008x4096) off S32x4096.size h) h' = bB b :=
  Memref.slice_unit_congr _ e _ _ _ (fun _ => rfl)
theorem bS_congr {off : Fin 3 → ℕ} {s : Fin 2} (e : off = off3 s) (h h') :
    ((Memref.whole cc0_scoped10 : Memref sig .tc .vmem S2x32x4096 .bf16).slice (Rect.unit (s := S2x32x4096) off S1x32x4096.size h) h').squeeze S32x4096 squeezes_S1x32x4096_S32x4096 = bS s :=
  congrArg (fun M : Memref sig .tc .vmem S1x32x4096 .bf16 => M.squeeze S32x4096 squeezes_S1x32x4096_S32x4096) (Memref.slice_unit_congr _ e _ _ _ _)
theorem bC_congr {off : Fin 1 → ℕ} {s : Fin 2} (e : off = off1 s) (h) :
    (cc0_scoped11.slice (Rect.unit (s := S2) off S1.size h)).squeeze S_ squeezes_S1_S_ = bC s :=
  congrArg (fun A : DmaSems sig S1 => A.squeeze S_ squeezes_S1_S_) (SemArray.slice_unit_congr _ e _ _)

/-! ## The body's slices at the loop's words -/

section Canon
variable (k : Fin k0_t1_loop.trips)

@[sl_canon] theorem cn5_x (h) : (cc0_scoped1.slice (Rect.unit (s := S2) (k0_off5 (wd (min (k.val / 43 + 1) 8))) S1.size h)).squeeze S_ squeezes_S1_S_ = xC (sl (k.val / 43 + 1)) := xC_congr (off5_eq k) _
@[sl_canon] theorem cn6_x (h h') : ((Memref.whole cc0_scoped0 : Memref sig .tc .vmem S2x2048x4096 .bf16).slice (Rect.unit (s := S2x2048x4096) (k0_off6 (wd (min (k.val / 43 + 1) 8))) S1x2048x4096.size h) h').squeeze S2048x4096 squeezes_S1x2048x4096_S2048x4096 = xS (sl (k.val / 43 + 1)) := xS_congr (off6_eq k) _ _
@[sl_canon] theorem cn7_x (hk : k.val % 43 = 42) (h h') : (Memref.whole main_arg0 : Memref sig .tc .hbm S16384x4096 .bf16).slice (Rect.unit (s := S16384x4096) (k0_off7 (wd (k.val / 43 % 8)) (wd (k.val % 43))) S2048x4096.size h) h' = xB (ixX (k.val / 43 + 1)) := xB_congr (off7_eq k hk) _ _
@[sl_canon] theorem cn8_g (hk : k.val ≠ 343) (h) : (cc0_scoped3.slice (Rect.unit (s := S2) (k0_off8 (wd (min (k.val + 1) 344))) S1.size h)).squeeze S_ squeezes_S1_S_ = gC (sl (k.val + 1)) := gC_congr (off8_eq k hk) _
@[sl_canon] theorem cn9_g (hk : k.val ≠ 343) (h h') : ((Memref.whole cc0_scoped2 : Memref sig .tc .vmem S2x4096x256 .f32).slice (Rect.unit (s := S2x4096x256) (k0_off9 (wd (min (k.val + 1) 344))) S1x4096x256.size h) h').squeeze S4096x256 squeezes_S1x4096x256_S4096x256 = gS (sl (k.val + 1)) := gS_congr (off9_eq k hk) _ _
@[sl_canon] theorem cn10_g (h h') : (Memref.whole main_v0 : Memref sig .tc .hbm S4096x11008 .f32).slice (Rect.unit (s := S4096x11008) (k0_off10 (wd (k.val % 43))) S4096x256.size h) h' = gB (ixG (k.val + 1)) := gB_congr (off10_eq k) _ _
@[sl_canon] theorem cn11_u (hk : k.val ≠ 343) (h) : (cc0_scoped5.slice (Rect.unit (s := S2) (k0_off11 (wd (min (k.val + 1) 344))) S1.size h)).squeeze S_ squeezes_S1_S_ = uC (sl (k.val + 1)) := uC_congr (off11_eq k hk) _
@[sl_canon] theorem cn12_u (hk : k.val ≠ 343) (h h') : ((Memref.whole cc0_scoped4 : Memref sig .tc .vmem S2x4096x256 .f32).slice (Rect.unit (s := S2x4096x256) (k0_off12 (wd (min (k.val + 1) 344))) S1x4096x256.size h) h').squeeze S4096x256 squeezes_S1x4096x256_S4096x256 = uS (sl (k.val + 1)) := uS_congr (off12_eq k hk) _ _
@[sl_canon] theorem cn13_u (h h') : (Memref.whole main_v1 : Memref sig .tc .hbm S4096x11008 .f32).slice (Rect.unit (s := S4096x11008) (k0_off13 (wd (k.val % 43))) S4096x256.size h) h' = uB (ixG (k.val + 1)) := uB_congr (off13_eq k) _ _
@[sl_canon] theorem cn14_d (hk : k.val ≠ 343) (h) : (cc0_scoped7.slice (Rect.unit (s := S2) (k0_off14 (wd (min (k.val + 1) 344))) S1.size h)).squeeze S_ squeezes_S1_S_ = dC (sl (k.val + 1)) := dC_congr (off14_eq k hk) _
@[sl_canon] theorem cn15_d (hk : k.val ≠ 343) (h h') : ((Memref.whole cc0_scoped6 : Memref sig .tc .vmem S2x32x4096 .f32).slice (Rect.unit (s := S2x32x4096) (k0_off15 (wd (min (k.val + 1) 344))) S1x32x4096.size h) h').squeeze S32x4096 squeezes_S1x32x4096_S32x4096 = dS (sl (k.val + 1)) := dS_congr (off15_eq k hk) _ _
@[sl_canon] theorem cn16_d (h h') : (Memref.whole main_v2 : Memref sig .tc .hbm S11008x4096 .f32).slice (Rect.unit (s := S11008x4096) (k0_off16 (wd (k.val / 43 % 8)) (wd (k.val % 43))) S32x4096.size h) h' = dB (ixS (k.val + 1)) := dB_congr (off16_eq k) _ _
@[sl_canon] theorem cn17_x (h) : (cc0_scoped1.slice (Rect.unit (s := S2) (k0_off17 (wd (k.val / 43))) S1.size h)).squeeze S_ squeezes_S1_S_ = xC (sl (k.val / 43)) := xC_congr (off17_eq k) _
@[sl_canon] theorem cn18_x (h h') : ((Memref.whole cc0_scoped0 : Memref sig .tc .vmem S2x2048x4096 .bf16).slice (Rect.unit (s := S2x2048x4096) (k0_off18 (wd (k.val / 43))) S1x2048x4096.size h) h').squeeze S2048x4096 squeezes_S1x2048x4096_S2048x4096 = xS (sl (k.val / 43)) := xS_congr (off18_eq k) _ _
@[sl_canon] theorem cn19_x (h h') : (Memref.whole main_arg0 : Memref sig .tc .hbm S16384x4096 .bf16).slice (Rect.unit (s := S16384x4096) (k0_off19 (wd (k.val / 43 % 8))) S2048x4096.size h) h' = xB (ixX (k.val / 43)) := xB_congr (off19_eq k) _ _
@[sl_canon] theorem cn20_g (h) : (cc0_scoped3.slice (Rect.unit (s := S2) (k0_off20 (wd (k.val))) S1.size h)).squeeze S_ squeezes_S1_S_ = gC (sl k.val) := gC_congr (off20_eq k) _
@[sl_canon] theorem cn21_g (h h') : ((Memref.whole cc0_scoped2 : Memref sig .tc .vmem S2x4096x256 .f32).slice (Rect.unit (s := S2x4096x256) (k0_off21 (wd (k.val))) S1x4096x256.size h) h').squeeze S4096x256 squeezes_S1x4096x256_S4096x256 = gS (sl k.val) := gS_congr (off21_eq k) _ _
@[sl_canon] theorem cn22_g (h h') : (Memref.whole main_v0 : Memref sig .tc .hbm S4096x11008 .f32).slice (Rect.unit (s := S4096x11008) (k0_off22 (wd (k.val % 43))) S4096x256.size h) h' = gB (ixG k.val) := gB_congr (off22_eq k) _ _
@[sl_canon] theorem cn23_u (h) : (cc0_scoped5.slice (Rect.unit (s := S2) (k0_off23 (wd (k.val))) S1.size h)).squeeze S_ squeezes_S1_S_ = uC (sl k.val) := uC_congr (off23_eq k) _
@[sl_canon] theorem cn24_u (h h') : ((Memref.whole cc0_scoped4 : Memref sig .tc .vmem S2x4096x256 .f32).slice (Rect.unit (s := S2x4096x256) (k0_off24 (wd (k.val))) S1x4096x256.size h) h').squeeze S4096x256 squeezes_S1x4096x256_S4096x256 = uS (sl k.val) := uS_congr (off24_eq k) _ _
@[sl_canon] theorem cn25_u (h h') : (Memref.whole main_v1 : Memref sig .tc .hbm S4096x11008 .f32).slice (Rect.unit (s := S4096x11008) (k0_off25 (wd (k.val % 43))) S4096x256.size h) h' = uB (ixG k.val) := uB_congr (off25_eq k) _ _
@[sl_canon] theorem cn26_d (h) : (cc0_scoped7.slice (Rect.unit (s := S2) (k0_off26 (wd (k.val))) S1.size h)).squeeze S_ squeezes_S1_S_ = dC (sl k.val) := dC_congr (off26_eq k) _
@[sl_canon] theorem cn27_d (h h') : ((Memref.whole cc0_scoped6 : Memref sig .tc .vmem S2x32x4096 .f32).slice (Rect.unit (s := S2x32x4096) (k0_off27 (wd (k.val))) S1x32x4096.size h) h').squeeze S32x4096 squeezes_S1x32x4096_S32x4096 = dS (sl k.val) := dS_congr (off27_eq k) _ _
@[sl_canon] theorem cn28_d (h h') : (Memref.whole main_v2 : Memref sig .tc .hbm S11008x4096 .f32).slice (Rect.unit (s := S11008x4096) (k0_off28 (wd (k.val / 43 % 8)) (wd (k.val % 43))) S32x4096.size h) h' = dB (ixS k.val) := dB_congr (off28_eq k) _ _
@[sl_canon] theorem cn35_o (h) : (cc0_scoped9.slice (Rect.unit (s := S2) (k0_off35 (wd (k.val))) S1.size h)).squeeze S_ squeezes_S1_S_ = oC (sl k.val) := oC_congr (off35_eq k) _
@[sl_canon] theorem cn36_o (h h') : (Memref.whole main_v3_0 : Memref sig .tc .hbm S16384x11008 .bf16).slice (Rect.unit (s := S16384x11008) (k0_off36 (wd (k.val / 43 % 8)) (wd (k.val % 43))) S2048x256.size h) h' = oB (ixS k.val) := oB_congr (off36_eq k) _ _
@[sl_canon] theorem cn37_o (h h') : ((Memref.whole cc0_scoped8 : Memref sig .tc .vmem S2x2048x256 .bf16).slice (Rect.unit (s := S2x2048x256) (k0_off37 (wd (k.val))) S1x2048x256.size h) h').squeeze S2048x256 squeezes_S1x2048x256_S2048x256 = oS (sl k.val) := oS_congr (off37_eq k) _ _
@[sl_canon] theorem cn38_b (h) : (cc0_scoped11.slice (Rect.unit (s := S2) (k0_off38 (wd (k.val))) S1.size h)).squeeze S_ squeezes_S1_S_ = bC (sl k.val) := bC_congr (off38_eq k) _
@[sl_canon] theorem cn39_b (h h') : (Memref.whole main_v3_1 : Memref sig .tc .hbm S11008x4096 .bf16).slice (Rect.unit (s := S11008x4096) (k0_off39 (wd (k.val / 43 % 8)) (wd (k.val % 43))) S32x4096.size h) h' = bB (ixS k.val) := bB_congr (off39_eq k) _ _
@[sl_canon] theorem cn40_b (h h') : ((Memref.whole cc0_scoped10 : Memref sig .tc .vmem S2x32x4096 .bf16).slice (Rect.unit (s := S2x32x4096) (k0_off40 (wd (k.val))) S1x32x4096.size h) h').squeeze S32x4096 squeezes_S1x32x4096_S32x4096 = bS (sl k.val) := bS_congr (off40_eq k) _ _
@[sl_canon] theorem cn41_o (hk : k.val ≠ 0) (h) : (cc0_scoped9.slice (Rect.unit (s := S2) (k0_off41 (wd (k.val - 1))) S1.size h)).squeeze S_ squeezes_S1_S_ = oC (sl (k.val + 1)) := oC_congr (off41_eq k hk) _
@[sl_canon] theorem cn42_o (hk : k.val ≠ 0) (h h') : (Memref.whole main_v3_0 : Memref sig .tc .hbm S16384x11008 .bf16).slice (Rect.unit (s := S16384x11008) (k0_off42 (wd (k.val / 43 % 8)) (wd (k.val % 43))) S2048x256.size h) h' = oB (ixS (k.val - 1)) := oB_congr (off42_eq k hk) _ _
@[sl_canon] theorem cn43_o (hk : k.val ≠ 0) (h h') : ((Memref.whole cc0_scoped8 : Memref sig .tc .vmem S2x2048x256 .bf16).slice (Rect.unit (s := S2x2048x256) (k0_off43 (wd (k.val - 1))) S1x2048x256.size h) h').squeeze S2048x256 squeezes_S1x2048x256_S2048x256 = oS (sl (k.val + 1)) := oS_congr (off43_eq k hk) _ _
@[sl_canon] theorem cn44_b (hk : k.val ≠ 0) (h) : (cc0_scoped11.slice (Rect.unit (s := S2) (k0_off44 (wd (k.val - 1))) S1.size h)).squeeze S_ squeezes_S1_S_ = bC (sl (k.val + 1)) := bC_congr (off44_eq k hk) _
@[sl_canon] theorem cn45_b (hk : k.val ≠ 0) (h h') : (Memref.whole main_v3_1 : Memref sig .tc .hbm S11008x4096 .bf16).slice (Rect.unit (s := S11008x4096) (k0_off45 (wd (k.val / 43 % 8)) (wd (k.val % 43))) S32x4096.size h) h' = bB (ixS (k.val - 1)) := bB_congr (off45_eq k hk) _ _
@[sl_canon] theorem cn46_b (hk : k.val ≠ 0) (h h') : ((Memref.whole cc0_scoped10 : Memref sig .tc .vmem S2x32x4096 .bf16).slice (Rect.unit (s := S2x32x4096) (k0_off46 (wd (k.val - 1))) S1x32x4096.size h) h').squeeze S32x4096 squeezes_S1x32x4096_S32x4096 = bS (sl (k.val + 1)) := bS_congr (off46_eq k hk) _ _
instance : ClosedOff (k0_off29 (wd (k.val / 43))) := ⟨off3 (sl (k.val / 43)), off29_eq k⟩
instance : ClosedOff (k0_off30 (wd (k.val))) := ⟨off3 (sl (k.val)), off30_eq k⟩
instance : ClosedOff (k0_off31 (wd (k.val))) := ⟨off3 (sl (k.val)), off31_eq k⟩
instance : ClosedOff (k0_off32 (wd (k.val))) := ⟨off3 (sl (k.val)), off32_eq k⟩
instance : ClosedOff (k0_off33 (wd (k.val))) := ⟨off3 (sl (k.val)), off33_eq k⟩
instance : ClosedOff (k0_off34 (wd (k.val))) := ⟨off3 (sl (k.val)), off34_eq k⟩

end Canon

/-! ## The first blocks' and the last step's -/

@[sl_canon] theorem cn1_x (h) : (cc0_scoped1.slice (Rect.unit (s := S2) k0_off1 S1.size h)).squeeze S_ squeezes_S1_S_ = xC (sl 0) := xC_congr off1_eq _
@[sl_canon] theorem cn2_x (h h') : ((Memref.whole cc0_scoped0 : Memref sig .tc .vmem S2x2048x4096 .bf16).slice (Rect.unit (s := S2x2048x4096) k0_off2 S1x2048x4096.size h) h').squeeze S2048x4096 squeezes_S1x2048x4096_S2048x4096 = xS (sl 0) := xS_congr off2_eq _ _
@[sl_canon] theorem cn0_x (h h') : (Memref.whole main_arg0 : Memref sig .tc .hbm S16384x4096 .bf16).slice (Rect.unit (s := S16384x4096) ![0, 0] S2048x4096.size h) h' = xB 0 := xB_congr (by decide) _ _
@[sl_canon] theorem cn1_g (h) : (cc0_scoped3.slice (Rect.unit (s := S2) k0_off1 S1.size h)).squeeze S_ squeezes_S1_S_ = gC (sl 0) := gC_congr off1_eq _
@[sl_canon] theorem cn3_g (h h') : ((Memref.whole cc0_scoped2 : Memref sig .tc .vmem S2x4096x256 .f32).slice (Rect.unit (s := S2x4096x256) k0_off3 S1x4096x256.size h) h').squeeze S4096x256 squeezes_S1x4096x256_S4096x256 = gS (sl 0) := gS_congr off3_eq _ _
@[sl_canon] theorem cn0_g (h h') : (Memref.whole main_v0 : Memref sig .tc .hbm S4096x11008 .f32).slice (Rect.unit (s := S4096x11008) ![0, 0] S4096x256.size h) h' = gB 0 := gB_congr (by decide) _ _
@[sl_canon] theorem cn1_u (h) : (cc0_scoped5.slice (Rect.unit (s := S2) k0_off1 S1.size h)).squeeze S_ squeezes_S1_S_ = uC (sl 0) := uC_congr off1_eq _
@[sl_canon] theorem cn3_u (h h') : ((Memref.whole cc0_scoped4 : Memref sig .tc .vmem S2x4096x256 .f32).slice (Rect.unit (s := S2x4096x256) k0_off3 S1x4096x256.size h) h').squeeze S4096x256 squeezes_S1x4096x256_S4096x256 = uS (sl 0) := uS_congr off3_eq _ _
@[sl_canon] theorem cn0_u (h h') : (Memref.whole main_v1 : Memref sig .tc .hbm S4096x11008 .f32).slice (Rect.unit (s := S4096x11008) ![0, 0] S4096x256.size h) h' = uB 0 := uB_congr (by decide) _ _
@[sl_canon] theorem cn1_d (h) : (cc0_scoped7.slice (Rect.unit (s := S2) k0_off1 S1.size h)).squeeze S_ squeezes_S1_S_ = dC (sl 0) := dC_congr off1_eq _
@[sl_canon] theorem cn4_d (h h') : ((Memref.whole cc0_scoped6 : Memref sig .tc .vmem S2x32x4096 .f32).slice (Rect.unit (s := S2x32x4096) k0_off4 S1x32x4096.size h) h').squeeze S32x4096 squeezes_S1x32x4096_S32x4096 = dS (sl 0) := dS_congr off4_eq _ _
@[sl_canon] theorem cn0_d (h h') : (Memref.whole main_v2 : Memref sig .tc .hbm S11008x4096 .f32).slice (Rect.unit (s := S11008x4096) ![0, 0] S32x4096.size h) h' = dB 0 := dB_congr (by decide) _ _
@[sl_canon] theorem cn47 (h) : (cc0_scoped9.slice (Rect.unit (s := S2) (k0_off47 (wd (344 - 1))) S1.size h)).squeeze S_ squeezes_S1_S_ = oC (sl 1) := oC_congr off47_eq _
@[sl_canon] theorem cn48 (h h') : (Memref.whole main_v3_0 : Memref sig .tc .hbm S16384x11008 .bf16).slice (Rect.unit (s := S16384x11008) (k0_off48 (wd (344 % 43)) (wd (344 / 43 % 8))) S2048x256.size h) h' = oB (ixS 343) := oB_congr off48_eq _ _
@[sl_canon] theorem cn49 (h h') : ((Memref.whole cc0_scoped8 : Memref sig .tc .vmem S2x2048x256 .bf16).slice (Rect.unit (s := S2x2048x256) (k0_off49 (wd (344 - 1))) S1x2048x256.size h) h').squeeze S2048x256 squeezes_S1x2048x256_S2048x256 = oS (sl 1) := oS_congr off49_eq _ _
@[sl_canon] theorem cn50 (h) : (cc0_scoped11.slice (Rect.unit (s := S2) (k0_off50 (wd (344 - 1))) S1.size h)).squeeze S_ squeezes_S1_S_ = bC (sl 1) := bC_congr off50_eq _
@[sl_canon] theorem cn51 (h h') : (Memref.whole main_v3_1 : Memref sig .tc .hbm S11008x4096 .bf16).slice (Rect.unit (s := S11008x4096) (k0_off51 (wd (344 % 43)) (wd (344 / 43 % 8))) S32x4096.size h) h' = bB (ixS 343) := bB_congr off51_eq _ _
@[sl_canon] theorem cn52 (h h') : ((Memref.whole cc0_scoped10 : Memref sig .tc .vmem S2x32x4096 .bf16).slice (Rect.unit (s := S2x32x4096) (k0_off52 (wd (344 - 1))) S1x32x4096.size h) h').squeeze S32x4096 squeezes_S1x32x4096_S32x4096 = bS (sl 1) := bS_congr off52_eq _ _

end Cert.GateUp
-- ==== Proof.Pieces.lean ====
/-
  What the gate/up pipeline's loop holds: the cells, the slots, the blocks of the operands, a copy in flight.
-/
module

public import proofs.«01_k».proof.Proof.Names

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline's own, beside the counters the body's transfers ride on. -/
abbrev UU (nD : Nat) (τ : Topo) : Type := UR sig nD τ × Counters
local notation "𝕄" => MT nD τ sig Unit (Elt F) ℕ (UU nD τ) ℕ
abbrev 𝒱₀ : Variants := Variants.none

variable (c : Dev nD)

abbrev xCell (s : Fin 2) : sProp 𝕄 := semVal ((c : Thread nD τ), SemLoc.dma (xC s).sem) 0
abbrev xSlot (s : Fin 2) (f : Buf (Elt F) ((xS s).view.loc (c : Thread nD τ))) : sProp 𝕄 :=
  (xS s).view.loc (c : Thread nD τ) ↦[(xS s).view.set]{fullShare} f
abbrev xBlk (XA : Buf (Elt F) ((Memref.whole main_arg0).view.loc (c : Thread nD τ))) (b : Fin 8) : sProp 𝕄 :=
  (xB b).view.loc (c : Thread nD τ) ↦[(xB b).view.set]{fullShare} XA
/-- Block `b` as a payload, and what its copy leaves in slot `s` over `f`. -/
abbrev xPay (XA : Buf (Elt F) ((Memref.whole main_arg0).view.loc (c : Thread nD τ))) (b : Fin 8) : S2048x4096.Idx → Elt F .bf16 :=
  ReadAs.same.apply ((xB b).view.read (Elt F) XA)
abbrev xLanded (XA : Buf (Elt F) ((Memref.whole main_arg0).view.loc (c : Thread nD τ))) (s : Fin 2) (b : Fin 8) (f : Buf (Elt F) ((xS s).view.loc (c : Thread nD τ))) :
    Buf (Elt F) ((xS s).view.loc (c : Thread nD τ)) :=
  (xS s).view.writes (Elt F) f [⟨Rect.whole S2048x4096, xPay c XA b⟩]
/-- Slot `s` in flight with block `b`. -/
abbrev xFly (XA : Buf (Elt F) ((Memref.whole main_arg0).view.loc (c : Thread nD τ))) (s : Fin 2) (b : Fin 8) (f : Buf (Elt F) ((xS s).view.loc (c : Thread nD τ))) : sProp 𝕄 :=
  Transfers.Flight countersEmb (c : Thread nD τ) (SemLoc.dma (xC s).sem) () 524288 iprop(xSlot c s (xLanded c XA s b f) ∗ xBlk c XA b)
abbrev gCell (s : Fin 2) : sProp 𝕄 := semVal ((c : Thread nD τ), SemLoc.dma (gC s).sem) 0
abbrev gSlot (s : Fin 2) (f : Buf (Elt F) ((gS s).view.loc (c : Thread nD τ))) : sProp 𝕄 :=
  (gS s).view.loc (c : Thread nD τ) ↦[(gS s).view.set]{fullShare} f
abbrev gBlk (XA : Buf (Elt F) ((Memref.whole main_v0).view.loc (c : Thread nD τ))) (b : Fin 43) : sProp 𝕄 :=
  (gB b).view.loc (c : Thread nD τ) ↦[(gB b).view.set]{fullShare} XA
/-- Block `b` as a payload, and what its copy leaves in slot `s` over `f`. -/
abbrev gPay (XA : Buf (Elt F) ((Memref.whole main_v0).view.loc (c : Thread nD τ))) (b : Fin 43) : S4096x256.Idx → Elt F .f32 :=
  ReadAs.same.apply ((gB b).view.read (Elt F) XA)
abbrev gLanded (XA : Buf (Elt F) ((Memref.whole main_v0).view.loc (c : Thread nD τ))) (s : Fin 2) (b : Fin 43) (f : Buf (Elt F) ((gS s).view.loc (c : Thread nD τ))) :
    Buf (Elt F) ((gS s).view.loc (c : Thread nD τ)) :=
  (gS s).view.writes (Elt F) f [⟨Rect.whole S4096x256, gPay c XA b⟩]
/-- Slot `s` in flight with block `b`. -/
abbrev gFly (XA : Buf (Elt F) ((Memref.whole main_v0).view.loc (c : Thread nD τ))) (s : Fin 2) (b : Fin 43) (f : Buf (Elt F) ((gS s).view.loc (c : Thread nD τ))) : sProp 𝕄 :=
  Transfers.Flight countersEmb (c : Thread nD τ) (SemLoc.dma (gC s).sem) () 131072 iprop(gSlot c s (gLanded c XA s b f) ∗ gBlk c XA b)
abbrev uCell (s : Fin 2) : sProp 𝕄 := semVal ((c : Thread nD τ), SemLoc.dma (uC s).sem) 0
abbrev uSlot (s : Fin 2) (f : Buf (Elt F) ((uS s).view.loc (c : Thread nD τ))) : sProp 𝕄 :=
  (uS s).view.loc (c : Thread nD τ) ↦[(uS s).view.set]{fullShare} f
abbrev uBlk (XA : Buf (Elt F) ((Memref.whole main_v1).view.loc (c : Thread nD τ))) (b : Fin 43) : sProp 𝕄 :=
  (uB b).view.loc (c : Thread nD τ) ↦[(uB b).view.set]{fullShare} XA
/-- Block `b` as a payload, and what its copy leaves in slot `s` over `f`. -/
abbrev uPay (XA : Buf (Elt F) ((Memref.whole main_v1).view.loc (c : Thread nD τ))) (b : Fin 43) : S4096x256.Idx → Elt F .f32 :=
  ReadAs.same.apply ((uB b).view.read (Elt F) XA)
abbrev uLanded (XA : Buf (Elt F) ((Memref.whole main_v1).view.loc (c : Thread nD τ))) (s : Fin 2) (b : Fin 43) (f : Buf (Elt F) ((uS s).view.loc (c : Thread nD τ))) :
    Buf (Elt F) ((uS s).view.loc (c : Thread nD τ)) :=
  (uS s).view.writes (Elt F) f [⟨Rect.whole S4096x256, uPay c XA b⟩]
/-- Slot `s` in flight with block `b`. -/
abbrev uFly (XA : Buf (Elt F) ((Memref.whole main_v1).view.loc (c : Thread nD τ))) (s : Fin 2) (b : Fin 43) (f : Buf (Elt F) ((uS s).view.loc (c : Thread nD τ))) : sProp 𝕄 :=
  Transfers.Flight countersEmb (c : Thread nD τ) (SemLoc.dma (uC s).sem) () 131072 iprop(uSlot c s (uLanded c XA s b f) ∗ uBlk c XA b)
abbrev dCell (s : Fin 2) : sProp 𝕄 := semVal ((c : Thread nD τ), SemLoc.dma (dC s).sem) 0
abbrev dSlot (s : Fin 2) (f : Buf (Elt F) ((dS s).view.loc (c : Thread nD τ))) : sProp 𝕄 :=
  (dS s).view.loc (c : Thread nD τ) ↦[(dS s).view.set]{fullShare} f
abbrev dBlk (XA : Buf (Elt F) ((Memref.whole main_v2).view.loc (c : Thread nD τ))) (b : Fin 344) : sProp 𝕄 :=
  (dB b).view.loc (c : Thread nD τ) ↦[(dB b).view.set]{fullShare} XA
/-- Block `b` as a payload, and what its copy leaves in slot `s` over `f`. -/
abbrev dPay (XA : Buf (Elt F) ((Memref.whole main_v2).view.loc (c : Thread nD τ))) (b : Fin 344) : S32x4096.Idx → Elt F .f32 :=
  ReadAs.same.apply ((dB b).view.read (Elt F) XA)
abbrev dLanded (XA : Buf (Elt F) ((Memref.whole main_v2).view.loc (c : Thread nD τ))) (s : Fin 2) (b : Fin 344) (f : Buf (Elt F) ((dS s).view.loc (c : Thread nD τ))) :
    Buf (Elt F) ((dS s).view.loc (c : Thread nD τ)) :=
  (dS s).view.writes (Elt F) f [⟨Rect.whole S32x4096, dPay c XA b⟩]
/-- Slot `s` in flight with block `b`. -/
abbrev dFly (XA : Buf (Elt F) ((Memref.whole main_v2).view.loc (c : Thread nD τ))) (s : Fin 2) (b : Fin 344) (f : Buf (Elt F) ((dS s).view.loc (c : Thread nD τ))) : sProp 𝕄 :=
  Transfers.Flight countersEmb (c : Thread nD τ) (SemLoc.dma (dC s).sem) () 16384 iprop(dSlot c s (dLanded c XA s b f) ∗ dBlk c XA b)
abbrev oCell (s : Fin 2) : sProp 𝕄 := semVal ((c : Thread nD τ), SemLoc.dma (oC s).sem) 0
abbrev oSlot (s : Fin 2) (f : Buf (Elt F) ((oS s).view.loc (c : Thread nD τ))) : sProp 𝕄 :=
  (oS s).view.loc (c : Thread nD τ) ↦[(oS s).view.set]{fullShare} f
abbrev oBlk (XA : Buf (Elt F) ((Memref.whole main_v3_0).view.loc (c : Thread nD τ))) (b : Fin 344) : sProp 𝕄 :=
  (oB b).view.loc (c : Thread nD τ) ↦[(oB b).view.set]{fullShare} XA
/-- Block `b` in flight out of slot `s`: delivered at `T`. -/
abbrev oFly (T : Buf (Elt F) ((Memref.whole main_v3_0).view.loc (c : Thread nD τ))) (s : Fin 2) (b : Fin 344) (f : Buf (Elt F) ((oS s).view.loc (c : Thread nD τ))) : sProp 𝕄 :=
  Transfers.Flight countersEmb (c : Thread nD τ) (SemLoc.dma (oC s).sem) () 32768 iprop(oBlk c T b ∗ oSlot c s f)
abbrev bCell (s : Fin 2) : sProp 𝕄 := semVal ((c : Thread nD τ), SemLoc.dma (bC s).sem) 0
abbrev bSlot (s : Fin 2) (f : Buf (Elt F) ((bS s).view.loc (c : Thread nD τ))) : sProp 𝕄 :=
  (bS s).view.loc (c : Thread nD τ) ↦[(bS s).view.set]{fullShare} f
abbrev bBlk (XA : Buf (Elt F) ((Memref.whole main_v3_1).view.loc (c : Thread nD τ))) (b : Fin 344) : sProp 𝕄 :=
  (bB b).view.loc (c : Thread nD τ) ↦[(bB b).view.set]{fullShare} XA
/-- Block `b` in flight out of slot `s`: delivered at `T`. -/
abbrev bFly (T : Buf (Elt F) ((Memref.whole main_v3_1).view.loc (c : Thread nD τ))) (s : Fin 2) (b : Fin 344) (f : Buf (Elt F) ((bS s).view.loc (c : Thread nD τ))) : sProp 𝕄 :=
  Transfers.Flight countersEmb (c : Thread nD τ) (SemLoc.dma (bC s).sem) () 8192 iprop(bBlk c T b ∗ bSlot c s f)

/-- The body's trip on the arrays and scratch the call takes. -/
abbrev trip (k : Fin k0_t1_loop.trips) (acc) :=
  k0_t1_body (F := F) (Memref.whole main_arg0) (Memref.isWhole_whole _) (Memref.whole main_v0) (Memref.isWhole_whole _) (Memref.whole main_v1) (Memref.isWhole_whole _) (Memref.whole main_v2) (Memref.isWhole_whole _) (Memref.whole main_v3_0) (Memref.isWhole_whole _) (Memref.whole main_v3_1) (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9 (Memref.whole cc0_scoped10) (Memref.isWhole_whole _) cc0_scoped11
    (Scalar.addi 0#32 1#32) (Scalar.addi 0#32 1#32) (Scalar.addi 0#32 1#32) 0#32 1#32 k acc

end Cert.GateUp
-- ==== Proof.Tiles.lean ====
/-
  The contents the gate/up pipeline leaves in its two results: each tile of the product from its blocks of `x` and of the
  weights, each slab of the down weights from the slab read; and that what a trip copies out is these.
-/
module

public import proofs.«01_k».proof.Proof.Pieces

@[expose] public section

noncomputable section

namespace Cert.GateUp

open Cert.KernelIdeal Cert.KernelIdeal.Gen
open Idealize.ShloMosaic Idealize.ShloMosaic.TcCoe Idealize.ShloMosaic.Tactic

/-! ## A slot read through its buffer, and stored through it -/

section Generic
variable {Val : EltTy → Type} {sg : RefSig} {κ : Kind} {sp : Space} {s : Shape} {e : EltTy}

theorem readAt_slot (v : View sg κ sp s e) (r : Rect s) (s' : Shape) (h : s'.numel = r.shape.numel)
    (f : v.ty.Contents Val) (x : s'.Idx → Val e) :
    v.readAt Val r.toLoadRect (((v.slice r).reshape s' h).writes Val f [⟨Rect.whole s', x⟩]) = fun y => x ((Shape.reshapeEquiv h).symm y) := by
  funext y
  have e1 := congrFun (View.read_writes_whole ((v.slice r).reshape s' h) f x) ((Shape.reshapeEquiv h).symm y)
  rw [View.readAt_rect, ← e1, View.read_apply, View.read_apply]
  simp only [View.emb_reshape, Function.Embedding.trans_apply, Equiv.coe_toEmbedding, Equiv.apply_symm_apply]

theorem read_store (v : View sg κ sp s e) (r : Rect s) (s' : Shape) (h : s'.numel = r.shape.numel)
    (f : v.ty.Contents Val) (w : r.shape.Idx → Val e) :
    ((v.slice r).reshape s' h).read Val ((v.slice r).write Val f w Finset.univ) = fun z => w (Shape.reshapeEquiv h z) := by
  funext z
  rw [View.read_apply]
  show cast _ ((v.slice r).write Val f w Finset.univ ((v.slice r).emb (Shape.reshapeEquiv h z))) = _
  rw [View.write_emb_of_mem _ _ (Finset.mem_univ _), cast_cast, cast_eq]

/-- What a copy leaves on its destination's elements, where the payload is what `g` reads there. -/
theorem writes_eq_of_read (v : View sg κ sp s e) (f g : v.ty.Contents Val) (w : s.Idx → Val e) (h : ∀ z, v.read Val g z = w z) :
    ∀ i ∈ v.set, v.writes Val f [⟨Rect.whole s, w⟩] i = g i := by
  intro i hi
  obtain ⟨z, -, rfl⟩ := Finset.mem_map.mp hi
  have e1 := congrFun (View.read_writes_whole v f w) z
  rw [← h z, View.read_apply, View.read_apply] at e1
  exact (cast_inj _).1 e1

end Generic

variable {F : FTy → Type} [FloatOps F]

/-! ## The payloads of a trip -/

abbrev liftX (x : S2048x4096.Idx → Elt F .bf16) : S1x2048x4096.Idx → Elt F .bf16 :=
  fun y => x ((Shape.reshapeEquiv (s := S1x2048x4096) (s' := S2048x4096) squeezes_S1x2048x4096_S2048x4096.numel_eq).symm y)
abbrev liftG (x : S4096x256.Idx → Elt F .f32) : S1x4096x256.Idx → Elt F .f32 :=
  fun y => x ((Shape.reshapeEquiv (s := S1x4096x256) (s' := S4096x256) squeezes_S1x4096x256_S4096x256.numel_eq).symm y)
abbrev liftD (x : S32x4096.Idx → Elt F .f32) : S1x32x4096.Idx → Elt F .f32 :=
  fun y => x ((Shape.reshapeEquiv (s := S1x32x4096) (s' := S32x4096) squeezes_S1x32x4096_S32x4096.numel_eq).symm y)

/-- A tile of the product from its block of `x` and its columns of the weights. -/
def oTile (x : S2048x4096.Idx → Elt F .bf16) (g u : S4096x256.Idx → Elt F .f32) : S2048x256.Idx → Elt F .bf16 :=
  fun z => k0_pay2 (k0_pay1 (liftX x)) (liftG g) (liftG u) (Shape.reshapeEquiv (s := S1x2048x256) (s' := S2048x256) squeezes_S1x2048x256_S2048x256.numel_eq z)
/-- A slab of the down weights, narrowed. -/
def bTile (d : S32x4096.Idx → Elt F .f32) : S32x4096.Idx → Elt F .bf16 :=
  fun z => k0_pay3 (liftD d) (Shape.reshapeEquiv (s := S1x32x4096) (s' := S32x4096) squeezes_S1x32x4096_S32x4096.numel_eq z)

section Reads
variable (s : Fin 2) {off : Fin 3 → ℕ} (e : off = off3 s)
include e

theorem xRead (h) (f) (x : S2048x4096.Idx → Elt F .bf16) :
    View.readAt (Elt F) (Memref.whole cc0_scoped0 : Memref sig .tc .vmem S2x2048x4096 .bf16).view (Rect.unit (s := S2x2048x4096) off S1x2048x4096.size h).toLoadRect
      ((xS s).view.writes (Elt F) f [⟨Rect.whole S2048x4096, x⟩]) = liftX x := by
  subst e; exact readAt_slot _ _ _ _ _ _
theorem gRead (h) (f) (x : S4096x256.Idx → Elt F .f32) :
    View.readAt (Elt F) (Memref.whole cc0_scoped2 : Memref sig .tc .vmem S2x4096x256 .f32).view (Rect.unit (s := S2x4096x256) off S1x4096x256.size h).toLoadRect
      ((gS s).view.writes (Elt F) f [⟨Rect.whole S4096x256, x⟩]) = liftG x := by
  subst e; exact readAt_slot _ _ _ _ _ _
theorem uRead (h) (f) (x : S4096x256.Idx → Elt F .f32) :
    View.readAt (Elt F) (Memref.whole cc0_scoped4 : Memref sig .tc .vmem S2x4096x256 .f32).view (Rect.unit (s := S2x4096x256) off S1x4096x256.size h).toLoadRect
      ((uS s).view.writes (Elt F) f [⟨Rect.whole S4096x256, x⟩]) = liftG x := by
  subst e; exact readAt_slot _ _ _ _ _ _
theorem dRead (h) (f) (x : S32x4096.Idx → Elt F .f32) :
    View.readAt (Elt F) (Memref.whole cc0_scoped6 : Memref sig .tc .vmem S2x32x4096 .f32).view (Rect.unit (s := S2x32x4096) off S1x32x4096.size h).toLoadRect
      ((dS s).view.writes (Elt F) f [⟨Rect.whole S32x4096, x⟩]) = liftD x := by
  subst e; exact readAt_slot _ _ _ _ _ _
theorem oStored (h) (f) (w : S1x2048x256.Idx → Elt F .bf16) :
    (oS s).view.read (Elt F) (View.write (Elt F) ((Memref.whole cc0_scoped8 : Memref sig .tc .vmem S2x2048x256 .bf16).access (Rect.unit (s := S2x2048x256) off S1x2048x256.size h)) f w Finset.univ)
      = fun z => w (Shape.reshapeEquiv (s := S1x2048x256) (s' := S2048x256) squeezes_S1x2048x256_S2048x256.numel_eq z) := by
  subst e; exact read_store _ _ _ _ _ _
theorem bStored (h) (f) (w : S1x32x4096.Idx → Elt F .bf16) :
    (bS s).view.read (Elt F) (View.write (Elt F) ((Memref.whole cc0_scoped10 : Memref sig .tc .vmem S2x32x4096 .bf16).access (Rect.unit (s := S2x32x4096) off S1x32x4096.size h)) f w Finset.univ)
      = fun z => w (Shape.reshapeEquiv (s := S1x32x4096) (s' := S32x4096) squeezes_S1x32x4096_S32x4096.numel_eq z) := by
  subst e; exact read_store _ _ _ _ _ _

end Reads

/-! ## The results' contents -/

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))

/-- Step `n`'s tile and slab. -/
abbrev oPay (n : ℕ) : S2048x256.Idx → Elt F .bf16 := oTile (xPay c XX (ixX (n / 43))) (gPay c XG (ixG n)) (uPay c XU (ixG n))
abbrev bPay (n : ℕ) : S32x4096.Idx → Elt F .bf16 := bTile (dPay c XD (ixS n))

/-- An index of the product within its tile, and of the down weights within their slab. -/
def oLoc (i : S16384x11008.Idx) : S2048x256.Idx := fun a => ⟨(i a).val % S2048x256.size a, Nat.mod_lt _ (by fin_cases a <;> decide)⟩
def bLoc (i : S11008x4096.Idx) : S32x4096.Idx := fun a => ⟨(i a).val % S32x4096.size a, Nat.mod_lt _ (by fin_cases a <;> decide)⟩

/-- The product, and the down weights narrowed, as the loop leaves them. -/
def TO : Buf (Elt F) ((Memref.whole main_v3_0).view.loc (c : Thread nD τ)) :=
  fun (i : S16384x11008.Idx) => oPay c XX XG XU ((i 0).val / 2048 * 43 + (i 1).val / 256) (oLoc i)
def TB : Buf (Elt F) ((Memref.whole main_v3_1).view.loc (c : Thread nD τ)) :=
  fun (i : S11008x4096.Idx) => bPay c XD ((i 0).val / 32) (bLoc i)

/-- The element of the array under element `z` of block `b`. -/
abbrev oIx (b : Fin 344) (z : S2048x256.Idx) : S16384x11008.Idx := (oB b).view.emb z
abbrev bIx (b : Fin 344) (z : S32x4096.Idx) : S11008x4096.Idx := (bB b).view.emb z
theorem oB_emb (b : Fin 344) (z : S2048x256.Idx) (a : Fin 2) : (oIx b z a).val = offO b a + (z a).val := by
  show (((Rect.unit (s := S16384x11008) (offO b) S2048x256.size (offO_in b)).emb z) a).val = _
  show _ + 1 * _ = _; rw [Nat.one_mul]; rfl
theorem bB_emb (b : Fin 344) (z : S32x4096.Idx) (a : Fin 2) : (bIx b z a).val = offD b a + (z a).val := by
  show (((Rect.unit (s := S11008x4096) (offD b) S32x4096.size (offD_in b)).emb z) a).val = _
  show _ + 1 * _ = _; rw [Nat.one_mul]; rfl

theorem TO_read (n : ℕ) (hn : n < 344) (z : S2048x256.Idx) : (oB (ixS n)).view.read (Elt F) (TO c XX XG XU) z = oPay c XX XG XU n z := by
  have h0 := oB_emb (ixS n) z 0
  have h1 := oB_emb (ixS n) z 1
  have hv : (ixS n).val = n := Nat.mod_eq_of_lt hn
  have z0 : (z 0).val < 2048 := (z 0).isLt
  have z1 : (z 1).val < 256 := (z 1).isLt
  change _ = 2048 * ((ixS n).val / 43) + _ at h0
  change _ = 256 * ((ixS n).val % 43) + _ at h1
  rw [hv] at h0 h1
  show TO c XX XG XU (oIx (ixS n) z) = _
  have en : (oIx (ixS n) z 0).val / 2048 * 43 + (oIx (ixS n) z 1).val / 256 = n := by omega
  have el : oLoc (oIx (ixS n) z) = z := by
    funext a; apply Fin.ext
    fin_cases a
    · show (oIx (ixS n) z 0).val % 2048 = (z 0).val; omega
    · show (oIx (ixS n) z 1).val % 256 = (z 1).val; omega
  show oPay c XX XG XU _ (oLoc _) = _
  rw [en, el]
theorem TB_read (n : ℕ) (hn : n < 344) (z : S32x4096.Idx) : (bB (ixS n)).view.read (Elt F) (TB c XD) z = bPay c XD n z := by
  have h0 := bB_emb (ixS n) z 0
  have h1 := bB_emb (ixS n) z 1
  have hv : (ixS n).val = n := Nat.mod_eq_of_lt hn
  have z0 : (z 0).val < 32 := (z 0).isLt
  have z1 : (z 1).val < 4096 := (z 1).isLt
  change _ = 32 * (ixS n).val + _ at h0
  change _ = 0 + _ at h1
  rw [hv] at h0
  show TB c XD (bIx (ixS n) z) = _
  have en : (bIx (ixS n) z 0).val / 32 = n := by omega
  have el : bLoc (bIx (ixS n) z) = z := by
    funext a; apply Fin.ext
    fin_cases a
    · show (bIx (ixS n) z 0).val % 32 = (z 0).val; omega
    · show (bIx (ixS n) z 1).val % 4096 = (z 1).val; omega
  show bPay c XD _ (bLoc _) = _
  rw [en, el]

end Cert.GateUp
-- ==== Proof.Res.lean ====
/-
  What the gate/up pipeline's loop holds before each of its trips.
-/
module

public import proofs.«01_k».proof.Proof.Tiles

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

/-! ## Blocks at home -/

theorem erase_pair {B : Type} [Fintype B] [DecidableEq B] (Φ : B → sProp 𝕄) {a b : B} (h : b ≠ a) :
    bigSep (Finset.univ.erase a) Φ = iprop(Φ b ∗ bigSep ((Finset.univ.erase a).erase b) Φ) := by
  have e : Finset.univ.erase a = insert b ((Finset.univ.erase a).erase b) := by
    rw [Finset.insert_erase (Finset.mem_erase.2 ⟨h, Finset.mem_univ _⟩)]
  conv_lhs => rw [e, bigSep_insert (Finset.notMem_erase _ _)]
  rfl
theorem erase_pair' {B : Type} [Fintype B] [DecidableEq B] (Φ : B → sProp 𝕄) {a b : B} (h : b ≠ a) :
    bigSep (Finset.univ.erase b) Φ = iprop(Φ a ∗ bigSep ((Finset.univ.erase a).erase b) Φ) := by
  rw [erase_pair Φ h.symm, Finset.erase_right_comm]
theorem erase_one {B : Type} [Fintype B] [DecidableEq B] (Φ : B → sProp 𝕄) (a : B) :
    bigSep Finset.univ Φ = iprop(Φ a ∗ bigSep (Finset.univ.erase a) Φ) := by
  have e : (Finset.univ : Finset B) = insert a (Finset.univ.erase a) := by rw [Finset.insert_erase (Finset.mem_univ _)]
  conv_lhs => rw [e, bigSep_insert (Finset.notMem_erase _ _)]
  rfl

/-- The steps before step `n`, and the steps from step `n` on. -/
abbrev before (n : ℕ) : Finset (Fin 344) := Finset.univ.filter fun b => b.val < n
abbrev since (n : ℕ) : Finset (Fin 344) := Finset.univ.filter fun b => n ≤ b.val
theorem before_succ (Φ : Fin 344 → sProp 𝕄) {n : ℕ} (h : n < 344) :
    bigSep (before (n + 1)) Φ = iprop(Φ (ixS n) ∗ bigSep (before n) Φ) := by
  have hv : (ixS n).val = n := Nat.mod_eq_of_lt h
  have e : before (n + 1) = insert (ixS n) (before n) := by
    ext b; simp only [Finset.mem_filter, Finset.mem_univ, true_and, Finset.mem_insert, Fin.ext_iff, hv]; omega
  have hn : ixS n ∉ before n := by simp only [Finset.mem_filter, Finset.mem_univ, true_and, hv]; omega
  rw [e, bigSep_insert hn]; rfl
theorem since_here (Φ : Fin 344 → sProp 𝕄) {n : ℕ} (h : n < 344) :
    bigSep (since n) Φ = iprop(Φ (ixS n) ∗ bigSep (since (n + 1)) Φ) := by
  have hv : (ixS n).val = n := Nat.mod_eq_of_lt h
  have e : since n = insert (ixS n) (since (n + 1)) := by
    ext b; simp only [Finset.mem_filter, Finset.mem_univ, true_and, Finset.mem_insert, Fin.ext_iff, hv]; omega
  have hn : ixS n ∉ since (n + 1) := by simp only [Finset.mem_filter, Finset.mem_univ, true_and, hv]; omega
  rw [e, bigSep_insert hn]; rfl
theorem before_zero (Φ : Fin 344 → sProp 𝕄) : bigSep (before 0) Φ = bigSep ∅ Φ := by
  congr 1

theorem sl_two (n : ℕ) : sl (n + 1 + 1) = sl n := Fin.ext (by show (n + 1 + 1) % 2 = n % 2; omega)

/-! ## The rings -/

/-- `x`'s ring over row block `i`: the block's copy in flight; the block landed; nothing held. -/
def xFlight (i : ℕ) : sProp 𝕄 := iprop((∃ f, xFly c XX (sl i) (ixX i) f) ∗ bigSep (Finset.univ.erase (ixX i)) (xBlk c XX)
  ∗ (∃ f, xSlot c (sl (i + 1)) f) ∗ xCell c (sl (i + 1)))
def xHeld (i : ℕ) : sProp 𝕄 := iprop((∃ f, xSlot c (sl i) (xLanded c XX (sl i) (ixX i) f)) ∗ xCell c (sl i) ∗ bigSep Finset.univ (xBlk c XX)
  ∗ (∃ f, xSlot c (sl (i + 1)) f) ∗ xCell c (sl (i + 1)))
def xFree (i : ℕ) : sProp 𝕄 := iprop((∃ f, xSlot c (sl i) f) ∗ xCell c (sl i) ∗ bigSep Finset.univ (xBlk c XX)
  ∗ (∃ f, xSlot c (sl (i + 1)) f) ∗ xCell c (sl (i + 1)))
/-- `x`'s ring before trip `k`. -/
def xRes (k : ℕ) : sProp 𝕄 := if k = 344 then xFree c XX (k / 43) else if k % 43 = 0 then xFlight c XX (k / 43) else xHeld c XX (k / 43)
theorem xRes_stop {k : ℕ} (h : k = 344) : xRes c XX k = xFree c XX (k / 43) := if_pos h
theorem xRes_first {k : ℕ} (h : k ≠ 344) (h' : k % 43 = 0) : xRes c XX k = xFlight c XX (k / 43) := by rw [xRes, if_neg h, if_pos h']
theorem xRes_later {k : ℕ} (h : k ≠ 344) (h' : k % 43 ≠ 0) : xRes c XX k = xHeld c XX (k / 43) := by rw [xRes, if_neg h, if_neg h']

def gFlight (k : ℕ) : sProp 𝕄 := iprop((∃ f, gFly c XG (sl k) (ixG k) f) ∗ bigSep (Finset.univ.erase (ixG k)) (gBlk c XG)
  ∗ (∃ f, gSlot c (sl (k + 1)) f) ∗ gCell c (sl (k + 1)))
def gFree (k : ℕ) : sProp 𝕄 := iprop((∃ f, gSlot c (sl k) f) ∗ gCell c (sl k) ∗ bigSep Finset.univ (gBlk c XG)
  ∗ (∃ f, gSlot c (sl (k + 1)) f) ∗ gCell c (sl (k + 1)))
def gRes (k : ℕ) : sProp 𝕄 := if k = 344 then gFree c XG k else gFlight c XG k
theorem gRes_stop {k : ℕ} (h : k = 344) : gRes c XG k = gFree c XG k := if_pos h
theorem gRes_lt {k : ℕ} (h : k ≠ 344) : gRes c XG k = gFlight c XG k := if_neg h
def uFlight (k : ℕ) : sProp 𝕄 := iprop((∃ f, uFly c XU (sl k) (ixG k) f) ∗ bigSep (Finset.univ.erase (ixG k)) (uBlk c XU)
  ∗ (∃ f, uSlot c (sl (k + 1)) f) ∗ uCell c (sl (k + 1)))
def uFree (k : ℕ) : sProp 𝕄 := iprop((∃ f, uSlot c (sl k) f) ∗ uCell c (sl k) ∗ bigSep Finset.univ (uBlk c XU)
  ∗ (∃ f, uSlot c (sl (k + 1)) f) ∗ uCell c (sl (k + 1)))
def uRes (k : ℕ) : sProp 𝕄 := if k = 344 then uFree c XU k else uFlight c XU k
theorem uRes_stop {k : ℕ} (h : k = 344) : uRes c XU k = uFree c XU k := if_pos h
theorem uRes_lt {k : ℕ} (h : k ≠ 344) : uRes c XU k = uFlight c XU k := if_neg h
def dFlight (k : ℕ) : sProp 𝕄 := iprop((∃ f, dFly c XD (sl k) (ixS k) f) ∗ bigSep (Finset.univ.erase (ixS k)) (dBlk c XD)
  ∗ (∃ f, dSlot c (sl (k + 1)) f) ∗ dCell c (sl (k + 1)))
def dFree (k : ℕ) : sProp 𝕄 := iprop((∃ f, dSlot c (sl k) f) ∗ dCell c (sl k) ∗ bigSep Finset.univ (dBlk c XD)
  ∗ (∃ f, dSlot c (sl (k + 1)) f) ∗ dCell c (sl (k + 1)))
def dRes (k : ℕ) : sProp 𝕄 := if k = 344 then dFree c XD k else dFlight c XD k
theorem dRes_stop {k : ℕ} (h : k = 344) : dRes c XD k = dFree c XD k := if_pos h
theorem dRes_lt {k : ℕ} (h : k ≠ 344) : dRes c XD k = dFlight c XD k := if_neg h

def oRest (k : ℕ) : sProp 𝕄 := iprop(bigSep (before (k - 1)) (oBlk c (TO c XX XG XU)) ∗ bigSep (since k) (oBlk c OO))
def oFlight (k : ℕ) : sProp 𝕄 := iprop((∃ f, oFly c (TO c XX XG XU) (sl (k + 1)) (ixS (k - 1)) f) ∗ (∃ f, oSlot c (sl k) f) ∗ oCell c (sl k))
def oFree (k : ℕ) : sProp 𝕄 := iprop(((∃ f, oSlot c (sl (k + 1)) f) ∗ oCell c (sl (k + 1))) ∗ (∃ f, oSlot c (sl k) f) ∗ oCell c (sl k))

def bRest (k : ℕ) : sProp 𝕄 := iprop(bigSep (before (k - 1)) (bBlk c (TB c XD)) ∗ bigSep (since k) (bBlk c OB))
def bFlight (k : ℕ) : sProp 𝕄 := iprop((∃ f, bFly c (TB c XD) (sl (k + 1)) (ixS (k - 1)) f) ∗ (∃ f, bSlot c (sl k) f) ∗ bCell c (sl k))
def bFree (k : ℕ) : sProp 𝕄 := iprop(((∃ f, bSlot c (sl (k + 1)) f) ∗ bCell c (sl (k + 1))) ∗ (∃ f, bSlot c (sl k) f) ∗ bCell c (sl k))

def oRes (k : ℕ) : sProp 𝕄 := iprop(oRest c XX XG XU OO k ∗ if k = 0 then oFree c k else oFlight c XX XG XU k)
def bRes (k : ℕ) : sProp 𝕄 := iprop(bRest c XD OB k ∗ if k = 0 then bFree c k else bFlight c XD k)
theorem oRes_first {k : ℕ} (h : k = 0) : oRes c XX XG XU OO k = iprop(oRest c XX XG XU OO k ∗ oFree c k) := by rw [oRes, if_pos h]
theorem bRes_first {k : ℕ} (h : k = 0) : bRes c XD OB k = iprop(bRest c XD OB k ∗ bFree c k) := by rw [bRes, if_pos h]
theorem oRes_pos {k : ℕ} (h : k ≠ 0) : oRes c XX XG XU OO k = iprop(oRest c XX XG XU OO k ∗ oFlight c XX XG XU k) := by rw [oRes, if_neg h]
theorem bRes_pos {k : ℕ} (h : k ≠ 0) : bRes c XD OB k = iprop(bRest c XD OB k ∗ bFlight c XD k) := by rw [bRes, if_neg h]

/-- What the loop holds before trip `k`. -/
def resAt (k : ℕ) : sProp 𝕄 :=
  iprop((∃ W, owes (c : Thread nD τ) 0 W) ∗ xRes c XX k ∗ gRes c XG k ∗ uRes c XU k ∗ dRes c XD k ∗ oRes c XX XG XU OO k ∗ bRes c XD OB k)

end Cert.GateUp
-- ==== Proof.Close.lean ====
/-
  A copy out of a slot delivers the result's own block.
-/
module

public import proofs.«01_k».proof.Proof.Res

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

theorem oTile_of {s sx sg su : Fin 2} {e32 e29 e30 e31 : Fin 3 → ℕ} (h32 : e32 = off3 s) (h29 : e29 = off3 sx) (h30 : e30 = off3 sg) (h31 : e31 = off3 su)
    (i32 i29 i30 i31) (f fx fg fu) (x : S2048x4096.Idx → Elt F .bf16) (g u : S4096x256.Idx → Elt F .f32) (z : S2048x256.Idx) :
    (oS s).view.read (Elt F) (View.write (Elt F) ((Memref.whole cc0_scoped8 : Memref sig .tc .vmem S2x2048x256 .bf16).access (Rect.unit (s := S2x2048x256) e32 S1x2048x256.size i32)) f
      (k0_pay2
        (k0_pay1 (View.readAt (Elt F) (Memref.whole cc0_scoped0 : Memref sig .tc .vmem S2x2048x4096 .bf16).view (Rect.unit (s := S2x2048x4096) e29 S1x2048x4096.size i29).toLoadRect
          ((xS sx).view.writes (Elt F) fx [⟨Rect.whole S2048x4096, x⟩])))
        (View.readAt (Elt F) (Memref.whole cc0_scoped2 : Memref sig .tc .vmem S2x4096x256 .f32).view (Rect.unit (s := S2x4096x256) e30 S1x4096x256.size i30).toLoadRect
          ((gS sg).view.writes (Elt F) fg [⟨Rect.whole S4096x256, g⟩]))
        (View.readAt (Elt F) (Memref.whole cc0_scoped4 : Memref sig .tc .vmem S2x4096x256 .f32).view (Rect.unit (s := S2x4096x256) e31 S1x4096x256.size i31).toLoadRect
          ((uS su).view.writes (Elt F) fu [⟨Rect.whole S4096x256, u⟩]))) Finset.univ) z = oTile x g u z := by
  rw [oStored s h32, xRead sx h29, gRead sg h30, uRead su h31]; rfl
theorem bTile_of {s sd : Fin 2} {e34 e33 : Fin 3 → ℕ} (h34 : e34 = off3 s) (h33 : e33 = off3 sd) (i34 i33) (f fd)
    (d : S32x4096.Idx → Elt F .f32) (z : S32x4096.Idx) :
    (bS s).view.read (Elt F) (View.write (Elt F) ((Memref.whole cc0_scoped10 : Memref sig .tc .vmem S2x32x4096 .bf16).access (Rect.unit (s := S2x32x4096) e34 S1x32x4096.size i34)) f
      (k0_pay3
        (View.readAt (Elt F) (Memref.whole cc0_scoped6 : Memref sig .tc .vmem S2x32x4096 .f32).view (Rect.unit (s := S2x32x4096) e33 S1x32x4096.size i33).toLoadRect
          ((dS sd).view.writes (Elt F) fd [⟨Rect.whole S32x4096, d⟩]))) Finset.univ) z = bTile d z := by
  rw [bStored s h34, dRead sd h33]; rfl

theorem oFly_of {n : ℕ} (hn : n < 344) (s : Fin 2) (f) (w : S2048x256.Idx → Elt F .bf16) (hw : ∀ z, w z = oPay c XX XG XU n z) :
    Transfers.Flight countersEmb (c : Thread nD τ) (SemLoc.dma (oC s).sem) () 32768
      iprop(((oB (ixS n)).view.loc (c : Thread nD τ) ↦[(oB (ixS n)).view.set]{fullShare} (oB (ixS n)).view.writes (Elt F) OO [⟨Rect.whole S2048x256, w⟩]) ∗ oSlot c s f)
      ⊢ (oFly c (TO c XX XG XU) s (ixS n) f : sProp 𝕄) := by
  refine Transfers.Flight_mono _ _ ?_
  rw [pointsTo_congr (writes_eq_of_read (oB (ixS n)).view OO (TO c XX XG XU) w fun z => (TO_read c XX XG XU n hn z).trans (hw z).symm)]

theorem bFly_of {n : ℕ} (hn : n < 344) (s : Fin 2) (f) (w : S32x4096.Idx → Elt F .bf16) (hw : ∀ z, w z = bPay c XD n z) :
    Transfers.Flight countersEmb (c : Thread nD τ) (SemLoc.dma (bC s).sem) () 8192
      iprop(((bB (ixS n)).view.loc (c : Thread nD τ) ↦[(bB (ixS n)).view.set]{fullShare} (bB (ixS n)).view.writes (Elt F) OB [⟨Rect.whole S32x4096, w⟩]) ∗ bSlot c s f)
      ⊢ (bFly c (TB c XD) s (ixS n) f : sProp 𝕄) := by
  refine Transfers.Flight_mono _ _ ?_
  rw [pointsTo_congr (writes_eq_of_read (bB (ixS n)).view OB (TB c XD) w fun z => (TB_read c XD n hn z).trans (hw z).symm)]

/-- What a trip's store leaves in slot `s` of the product's ring, and of the down weights'. -/
abbrev oWrote (s sx sg su : Fin 2) {e32 e29 e30 e31 : Fin 3 → ℕ} (i32 : ∀ a, e32 a + S1x2048x256.size a ≤ S2x2048x256.size a) (i29 : ∀ a, e29 a + S1x2048x4096.size a ≤ S2x2048x4096.size a) (i30 : ∀ a, e30 a + S1x4096x256.size a ≤ S2x4096x256.size a) (i31 : ∀ a, e31 a + S1x4096x256.size a ≤ S2x4096x256.size a)
    (f : Buf (Elt F) ((oS s).view.loc (c : Thread nD τ))) (fx : Buf (Elt F) ((xS sx).view.loc (c : Thread nD τ))) (fg : Buf (Elt F) ((gS sg).view.loc (c : Thread nD τ))) (fu : Buf (Elt F) ((uS su).view.loc (c : Thread nD τ))) (x : S2048x4096.Idx → Elt F .bf16) (g u : S4096x256.Idx → Elt F .f32) :
    Buf (Elt F) ((oS s).view.loc (c : Thread nD τ)) :=
  View.write (Elt F) ((Memref.whole cc0_scoped8 : Memref sig .tc .vmem S2x2048x256 .bf16).access (Rect.unit (s := S2x2048x256) e32 S1x2048x256.size i32)) f
      (k0_pay2
        (k0_pay1 (View.readAt (Elt F) (Memref.whole cc0_scoped0 : Memref sig .tc .vmem S2x2048x4096 .bf16).view (Rect.unit (s := S2x2048x4096) e29 S1x2048x4096.size i29).toLoadRect
          ((xS sx).view.writes (Elt F) fx [⟨Rect.whole S2048x4096, x⟩])))
        (View.readAt (Elt F) (Memref.whole cc0_scoped2 : Memref sig .tc .vmem S2x4096x256 .f32).view (Rect.unit (s := S2x4096x256) e30 S1x4096x256.size i30).toLoadRect
          ((gS sg).view.writes (Elt F) fg [⟨Rect.whole S4096x256, g⟩]))
        (View.readAt (Elt F) (Memref.whole cc0_scoped4 : Memref sig .tc .vmem S2x4096x256 .f32).view (Rect.unit (s := S2x4096x256) e31 S1x4096x256.size i31).toLoadRect
          ((uS su).view.writes (Elt F) fu [⟨Rect.whole S4096x256, u⟩]))) Finset.univ
abbrev bWrote (s sd : Fin 2) {e34 e33 : Fin 3 → ℕ} (i34 : ∀ a, e34 a + S1x32x4096.size a ≤ S2x32x4096.size a) (i33 : ∀ a, e33 a + S1x32x4096.size a ≤ S2x32x4096.size a)
    (f : Buf (Elt F) ((bS s).view.loc (c : Thread nD τ))) (fd : Buf (Elt F) ((dS sd).view.loc (c : Thread nD τ))) (d : S32x4096.Idx → Elt F .f32) : Buf (Elt F) ((bS s).view.loc (c : Thread nD τ)) :=
  View.write (Elt F) ((Memref.whole cc0_scoped10 : Memref sig .tc .vmem S2x32x4096 .bf16).access (Rect.unit (s := S2x32x4096) e34 S1x32x4096.size i34)) f
      (k0_pay3
        (View.readAt (Elt F) (Memref.whole cc0_scoped6 : Memref sig .tc .vmem S2x32x4096 .f32).view (Rect.unit (s := S2x32x4096) e33 S1x32x4096.size i33).toLoadRect
          ((dS sd).view.writes (Elt F) fd [⟨Rect.whole S32x4096, d⟩]))) Finset.univ

theorem oFly_tile {n : ℕ} (hn : n < 344) {s sx sg su : Fin 2} {e32 e29 e30 e31 : Fin 3 → ℕ} (h32 : e32 = off3 s) (h29 : e29 = off3 sx) (h30 : e30 = off3 sg) (h31 : e31 = off3 su)
    (i32 : ∀ a, e32 a + S1x2048x256.size a ≤ S2x2048x256.size a) (i29 : ∀ a, e29 a + S1x2048x4096.size a ≤ S2x2048x4096.size a) (i30 : ∀ a, e30 a + S1x4096x256.size a ≤ S2x4096x256.size a) (i31 : ∀ a, e31 a + S1x4096x256.size a ≤ S2x4096x256.size a)
    (f : Buf (Elt F) ((oS s).view.loc (c : Thread nD τ))) (fx : Buf (Elt F) ((xS sx).view.loc (c : Thread nD τ))) (fg : Buf (Elt F) ((gS sg).view.loc (c : Thread nD τ))) (fu : Buf (Elt F) ((uS su).view.loc (c : Thread nD τ))) :
    Transfers.Flight countersEmb (c : Thread nD τ) (SemLoc.dma (oC s).sem) () 32768
      iprop(((oB (ixS n)).view.loc (c : Thread nD τ) ↦[(oB (ixS n)).view.set]{fullShare} (oB (ixS n)).view.writes (Elt F) OO [⟨Rect.whole S2048x256, ReadAs.same.apply
          ((oS s).view.read (Elt F) (oWrote c s sx sg su (e32 := e32) (e29 := e29) (e30 := e30) (e31 := e31) i32 i29 i30 i31 f fx fg fu (xPay c XX (ixX (n / 43))) (gPay c XG (ixG n)) (uPay c XU (ixG n))))⟩])
        ∗ oSlot c s (oWrote c s sx sg su (e32 := e32) (e29 := e29) (e30 := e30) (e31 := e31) i32 i29 i30 i31 f fx fg fu (xPay c XX (ixX (n / 43))) (gPay c XG (ixG n)) (uPay c XU (ixG n))))
      ⊢ (oFly c (TO c XX XG XU) s (ixS n) (oWrote c s sx sg su (e32 := e32) (e29 := e29) (e30 := e30) (e31 := e31) i32 i29 i30 i31 f fx fg fu (xPay c XX (ixX (n / 43))) (gPay c XG (ixG n)) (uPay c XU (ixG n))) : sProp 𝕄) :=
  oFly_of c XX XG XU OO hn s _ _ fun z => oTile_of h32 h29 h30 h31 _ _ _ _ _ _ _ _ _ _ _ z
theorem bFly_tile {n : ℕ} (hn : n < 344) {s sd : Fin 2} {e34 e33 : Fin 3 → ℕ} (h34 : e34 = off3 s) (h33 : e33 = off3 sd) (i34 : ∀ a, e34 a + S1x32x4096.size a ≤ S2x32x4096.size a) (i33 : ∀ a, e33 a + S1x32x4096.size a ≤ S2x32x4096.size a)
    (f : Buf (Elt F) ((bS s).view.loc (c : Thread nD τ))) (fd : Buf (Elt F) ((dS sd).view.loc (c : Thread nD τ))) :
    Transfers.Flight countersEmb (c : Thread nD τ) (SemLoc.dma (bC s).sem) () 8192
      iprop(((bB (ixS n)).view.loc (c : Thread nD τ) ↦[(bB (ixS n)).view.set]{fullShare} (bB (ixS n)).view.writes (Elt F) OB [⟨Rect.whole S32x4096, ReadAs.same.apply
          ((bS s).view.read (Elt F) (bWrote c s sd (e34 := e34) (e33 := e33) i34 i33 f fd (dPay c XD (ixS n))))⟩])
        ∗ bSlot c s (bWrote c s sd (e34 := e34) (e33 := e33) i34 i33 f fd (dPay c XD (ixS n))))
      ⊢ (bFly c (TB c XD) s (ixS n) (bWrote c s sd (e34 := e34) (e33 := e33) i34 i33 f fd (dPay c XD (ixS n))) : sProp 𝕄) :=
  bFly_of c XD OB hn s _ _ fun z => bTile_of h34 h33 _ _ _ _ _ z

end Cert.GateUp
-- ==== Proof.TripA.lean ====
/-
  The pipeline's loop: the first trip.
-/
module

public import proofs.«01_k».proof.Proof.Close

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

set_option maxRecDepth 4000 in
set_option maxHeartbeats 1000000 in
theorem tripA (k : Fin k0_t1_loop.trips) (hk0 : k.val = 0) :
    resAt c XX XG XU XD OO OB k.val ⊢ wp frame (wpE (defs₀ (F := F)) 𝒱₀ (c : Thread nD τ) none) Set.univ (trip k (accAt k.val))
      (fun r => iprop(⌜r = accAt (k.val + 1)⌝ ∗ resAt c XX XG XU XD OO OB (k.val + 1))) := by
  have hlt : k.val < 344 := k.isLt
  have h0 : k.val % 43 = 0 := by omega
  have h42 : k.val % 43 ≠ 42 := by omega
  have hk : k.val ≠ 343 := by omega
  have c1 : ¬ k0_cond1 k (wd (k.val / 43 % 8)) (wd (k.val % 43)) = 1#1 := fun h => h42 ((cond1_iff k).1 h).1
  have c2 : k0_cond2 k (wd (k.val % 43)) = 1#1 := (cond2_iff k).2 hk
  have c3 : k0_cond3 k (wd (k.val % 43)) = 1#1 := (cond3_iff k).2 hk
  have c4 : k0_cond4 k (wd (k.val / 43 % 8)) (wd (k.val % 43)) = 1#1 := (cond4_iff k).2 hk
  have c5 : k0_cond5 k (wd (k.val / 43 % 8)) (wd (k.val % 43)) = 1#1 := (cond5_iff k).2 h0
  have c6 := cond6 k
  have c7 := cond7 k
  have c8 := cond8 k
  have c15 := cond15 k
  have c16 := cond16 k
  have c21 : ¬ k0_cond21 k (wd (k.val / 43 % 8)) (wd (k.val % 43)) = 1#1 := fun h => (cond21_iff k).1 h hk0
  have c22 : ¬ k0_cond22 k (wd (k.val / 43 % 8)) (wd (k.val % 43)) = 1#1 := fun h => (cond22_iff k).1 h hk0
  have w7 := chk7 k
  have w6 := chk6 k
  have w5 := chk5 k
  have w4 := chk4 k
  have w3 := chk3 k
  have w2 := chk2 k
  have w1 := chk1 k
  have hn : k.val ≠ 344 := by omega
  have hs : k.val + 1 ≠ 0 := Nat.succ_ne_zero _
  have hn1 : k.val + 1 ≠ 344 := by omega
  have hoT : (ixS k.val).val = k.val := Nat.mod_eq_of_lt hlt
  have eG : ixG (k.val + 1) ≠ ixG k.val := fun h => by have : (k.val + 1) % 43 = k.val % 43 := congrArg Fin.val h; omega
  have eS : ixS (k.val + 1) ≠ ixS k.val := fun h => by have : (k.val + 1) % 344 = k.val % 344 := congrArg Fin.val h; omega
  have eD : (k.val + 1) / 43 = k.val / 43 := by omega
  rw [resAt, xRes_first c XX hn h0, xFlight, gRes_lt c XG hn, gFlight, uRes_lt c XU hn, uFlight, dRes_lt c XD hn, dFlight, oRes_first c XX XG XU OO hk0, oFree, bRes_first c XD OB hk0, bFree, oRest, bRest, since_here (oBlk c OO) hlt, since_here (bBlk c OB) hlt,
    erase_pair (gBlk c XG) eG, erase_pair (uBlk c XU) eG, erase_pair (dBlk c XD) eS]
  rw [resAt, xRes_later c XX hn1 (by omega), xHeld, eD, erase_one (xBlk c XX) (ixX (k.val / 43)), gRes_lt c XG hn1, gFlight, uRes_lt c XU hn1, uFlight, dRes_lt c XD hn1, dFlight, sl_two,
    erase_pair' (gBlk c XG) eG, erase_pair' (uBlk c XU) eG, erase_pair' (dBlk c XD) eS, oRes_pos c XX XG XU OO hs, oFlight, bRes_pos c XD OB hs, bFlight, oRest, bRest, sl_two, Nat.add_sub_cancel]
  have eB : before (k.val - 1) = before k.val := by rw [hk0]
  rw [eB]
  iintro ⟨⟨%W, HW⟩, ⟨⟨%fx, HxF⟩, HxH, ⟨%fx1, HxS⟩, HxC⟩, ⟨⟨%fg, HgF⟩, ⟨HgB, HgH⟩, ⟨%fg1, HgS⟩, HgC⟩, ⟨⟨%fu, HuF⟩, ⟨HuB, HuH⟩, ⟨%fu1, HuS⟩, HuC⟩, ⟨⟨%fd, HdF⟩, ⟨HdB, HdH⟩, ⟨%fd1, HdS⟩, HdC⟩, ⟨⟨HoD, HoB, HoT⟩, ⟨⟨%fo, HoS1⟩, HoC1⟩, ⟨%fo1, HoS⟩, HoC⟩, ⟨⟨HbD, HbB, HbT⟩, ⟨⟨%fb, HbS1⟩, HbC1⟩, ⟨%fb1, HbS⟩, HbC⟩⟩
  dsimp only [trip, accAt]
  sl_unfold [k0_t1_body]
  sl_exec
  sl_step
  isplitr
  · ipureintro
    clear * - k
    simp only [Prod.mk.injEq]
    refine ⟨?_, ?_, ?_, ?_, ?_, ?_, ?_, ?_, ?_, ?_, ?_, ?_, ?_, ?_⟩ <;> revert k <;> decide +kernel
  isplitl [HW]
  · iexists _; iexact HW
  isplitl [HxF_dst HxF HxF_src HxH HxS HxC]
  · isplitl [HxF_dst]; · iexists _; iexact HxF_dst
    isplitl [HxF]; · iexact HxF
    isplitl [HxF_src HxH]
    · isplitl [HxF_src]; · iexact HxF_src
      iexact HxH
    isplitl [HxS]; · iexists _; iexact HxS
    iexact HxC
  isplitl [HgC HgF_src HgH HgF_dst HgF]
  · isplitl [HgC]; · iexists _; iexact HgC
    isplitl [HgF_src HgH]
    · isplitl [HgF_src]; · iexact HgF_src
      iexact HgH
    isplitl [HgF_dst]; · iexists _; iexact HgF_dst
    iexact HgF
  isplitl [HuC HuF_src HuH HuF_dst HuF]
  · isplitl [HuC]; · iexists _; iexact HuC
    isplitl [HuF_src HuH]
    · isplitl [HuF_src]; · iexact HuF_src
      iexact HuH
    isplitl [HuF_dst]; · iexists _; iexact HuF_dst
    iexact HuF
  isplitl [HdC HdF_src HdH HdF_dst HdF]
  · isplitl [HdC]; · iexists _; iexact HdC
    isplitl [HdF_src HdH]
    · isplitl [HdF_src]; · iexact HdF_src
      iexact HdH
    isplitl [HdF_dst]; · iexists _; iexact HdF_dst
    iexact HdF
  isplitl [HoD HoT HoC HoS1 HoC1]
  · isplitl [HoD HoT]
    · isplitl [HoD]; · iexact HoD
      iexact HoT
    isplitl [HoC]; · iexists _; iapply (oFly_tile c XX XG XU OO hlt (off32_eq k) (off29_eq k) (off30_eq k) (off31_eq k) _ _ _ _ _ _ _ _); iexact HoC
    isplitl [HoS1]; · iexists _; iexact HoS1
    iexact HoC1
  isplitl [HbD HbT]
  · isplitl [HbD]; · iexact HbD
    iexact HbT
  isplitl [HbC]; · iexists _; iapply (bFly_tile c XD OB hlt (off34_eq k) (off33_eq k) _ _ _ _); iexact HbC
  isplitl [HbS1]; · iexists _; iexact HbS1
  iexact HbC1

end Cert.GateUp
-- ==== Proof.TripB.lean ====
/-
  The pipeline's loop: the first trip of a later row of tiles.
-/
module

public import proofs.«01_k».proof.Proof.Close

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

set_option maxRecDepth 4000 in
set_option maxHeartbeats 1000000 in
theorem tripB (k : Fin k0_t1_loop.trips) (h0 : k.val % 43 = 0) (hk0 : k.val ≠ 0) :
    resAt c XX XG XU XD OO OB k.val ⊢ wp frame (wpE (defs₀ (F := F)) 𝒱₀ (c : Thread nD τ) none) Set.univ (trip k (accAt k.val))
      (fun r => iprop(⌜r = accAt (k.val + 1)⌝ ∗ resAt c XX XG XU XD OO OB (k.val + 1))) := by
  have hlt : k.val < 344 := k.isLt
  have h42 : k.val % 43 ≠ 42 := by omega
  have hk : k.val ≠ 343 := by omega
  have c1 : ¬ k0_cond1 k (wd (k.val / 43 % 8)) (wd (k.val % 43)) = 1#1 := fun h => h42 ((cond1_iff k).1 h).1
  have c2 : k0_cond2 k (wd (k.val % 43)) = 1#1 := (cond2_iff k).2 hk
  have c3 : k0_cond3 k (wd (k.val % 43)) = 1#1 := (cond3_iff k).2 hk
  have c4 : k0_cond4 k (wd (k.val / 43 % 8)) (wd (k.val % 43)) = 1#1 := (cond4_iff k).2 hk
  have c5 : k0_cond5 k (wd (k.val / 43 % 8)) (wd (k.val % 43)) = 1#1 := (cond5_iff k).2 h0
  have c6 := cond6 k
  have c7 := cond7 k
  have c8 := cond8 k
  have c15 := cond15 k
  have c16 := cond16 k
  have c21 : k0_cond21 k (wd (k.val / 43 % 8)) (wd (k.val % 43)) = 1#1 := (cond21_iff k).2 hk0
  have c22 : k0_cond22 k (wd (k.val / 43 % 8)) (wd (k.val % 43)) = 1#1 := (cond22_iff k).2 hk0
  have w7 := chk7 k
  have w6 := chk6 k
  have w5 := chk5 k
  have w4 := chk4 k
  have w3 := chk3 k
  have w2 := chk2 k
  have w1 := chk1 k
  have hn : k.val ≠ 344 := by omega
  have hs : k.val + 1 ≠ 0 := Nat.succ_ne_zero _
  have hn1 : k.val + 1 ≠ 344 := by omega
  have hoT : (ixS k.val).val = k.val := Nat.mod_eq_of_lt hlt
  have eG : ixG (k.val + 1) ≠ ixG k.val := fun h => by have : (k.val + 1) % 43 = k.val % 43 := congrArg Fin.val h; omega
  have eS : ixS (k.val + 1) ≠ ixS k.val := fun h => by have : (k.val + 1) % 344 = k.val % 344 := congrArg Fin.val h; omega
  have eD : (k.val + 1) / 43 = k.val / 43 := by omega
  rw [resAt, xRes_first c XX hn h0, xFlight, gRes_lt c XG hn, gFlight, uRes_lt c XU hn, uFlight, dRes_lt c XD hn, dFlight, oRes_pos c XX XG XU OO hk0, oFlight, bRes_pos c XD OB hk0, bFlight, oRest, bRest, since_here (oBlk c OO) hlt, since_here (bBlk c OB) hlt,
    erase_pair (gBlk c XG) eG, erase_pair (uBlk c XU) eG, erase_pair (dBlk c XD) eS]
  rw [resAt, xRes_later c XX hn1 (by omega), xHeld, eD, erase_one (xBlk c XX) (ixX (k.val / 43)), gRes_lt c XG hn1, gFlight, uRes_lt c XU hn1, uFlight, dRes_lt c XD hn1, dFlight, sl_two,
    erase_pair' (gBlk c XG) eG, erase_pair' (uBlk c XU) eG, erase_pair' (dBlk c XD) eS, oRes_pos c XX XG XU OO hs, oFlight, bRes_pos c XD OB hs, bFlight, oRest, bRest, sl_two, Nat.add_sub_cancel]
  have eB : k.val = k.val - 1 + 1 := by omega
  have fO : bigSep (before k.val) (oBlk c (TO c XX XG XU)) = iprop(oBlk c (TO c XX XG XU) (ixS (k.val - 1)) ∗ bigSep (before (k.val - 1)) (oBlk c (TO c XX XG XU))) := by
    conv_lhs => rw [eB]
    exact before_succ _ (by omega)
  have fB : bigSep (before k.val) (bBlk c (TB c XD)) = iprop(bBlk c (TB c XD) (ixS (k.val - 1)) ∗ bigSep (before (k.val - 1)) (bBlk c (TB c XD))) := by
    conv_lhs => rw [eB]
    exact before_succ _ (by omega)
  rw [fO, fB]
  iintro ⟨⟨%W, HW⟩, ⟨⟨%fx, HxF⟩, HxH, ⟨%fx1, HxS⟩, HxC⟩, ⟨⟨%fg, HgF⟩, ⟨HgB, HgH⟩, ⟨%fg1, HgS⟩, HgC⟩, ⟨⟨%fu, HuF⟩, ⟨HuB, HuH⟩, ⟨%fu1, HuS⟩, HuC⟩, ⟨⟨%fd, HdF⟩, ⟨HdB, HdH⟩, ⟨%fd1, HdS⟩, HdC⟩, ⟨⟨HoD, HoB, HoT⟩, ⟨%fo, HoF⟩, ⟨%fo1, HoS⟩, HoC⟩, ⟨⟨HbD, HbB, HbT⟩, ⟨%fb, HbF⟩, ⟨%fb1, HbS⟩, HbC⟩⟩
  dsimp only [trip, accAt]
  sl_unfold [k0_t1_body]
  sl_exec
  sl_step
  isplitr
  · ipureintro
    clear * - k
    simp only [Prod.mk.injEq]
    refine ⟨?_, ?_, ?_, ?_, ?_, ?_, ?_, ?_, ?_, ?_, ?_, ?_, ?_, ?_⟩ <;> revert k <;> decide +kernel
  isplitl [HW]
  · iexists _; iexact HW
  isplitl [HxF_dst HxF HxF_src HxH HxS HxC]
  · isplitl [HxF_dst]; · iexists _; iexact HxF_dst
    isplitl [HxF]; · iexact HxF
    isplitl [HxF_src HxH]
    · isplitl [HxF_src]; · iexact HxF_src
      iexact HxH
    isplitl [HxS]; · iexists _; iexact HxS
    iexact HxC
  isplitl [HgC HgF_src HgH HgF_dst HgF]
  · isplitl [HgC]; · iexists _; iexact HgC
    isplitl [HgF_src HgH]
    · isplitl [HgF_src]; · iexact HgF_src
      iexact HgH
    isplitl [HgF_dst]; · iexists _; iexact HgF_dst
    iexact HgF
  isplitl [HuC HuF_src HuH HuF_dst HuF]
  · isplitl [HuC]; · iexists _; iexact HuC
    isplitl [HuF_src HuH]
    · isplitl [HuF_src]; · iexact HuF_src
      iexact HuH
    isplitl [HuF_dst]; · iexists _; iexact HuF_dst
    iexact HuF
  isplitl [HdC HdF_src HdH HdF_dst HdF]
  · isplitl [HdC]; · iexists _; iexact HdC
    isplitl [HdF_src HdH]
    · isplitl [HdF_src]; · iexact HdF_src
      iexact HdH
    isplitl [HdF_dst]; · iexists _; iexact HdF_dst
    iexact HdF
  isplitl [HoF_dst HoD HoT HoC HoF_src HoF]
  · isplitl [HoF_dst HoD HoT]
    · isplitl [HoF_dst HoD]
      · isplitl [HoF_dst]; · iexact HoF_dst
        iexact HoD
      iexact HoT
    isplitl [HoC]; · iexists _; iapply (oFly_tile c XX XG XU OO hlt (off32_eq k) (off29_eq k) (off30_eq k) (off31_eq k) _ _ _ _ _ _ _ _); iexact HoC
    isplitl [HoF_src]; · iexists _; iexact HoF_src
    iexact HoF
  isplitl [HbF_dst HbD HbT]
  · isplitl [HbF_dst HbD]
    · isplitl [HbF_dst]; · iexact HbF_dst
      iexact HbD
    iexact HbT
  isplitl [HbC]; · iexists _; iapply (bFly_tile c XD OB hlt (off34_eq k) (off33_eq k) _ _ _ _); iexact HbC
  isplitl [HbF_src]; · iexists _; iexact HbF_src
  iexact HbF

end Cert.GateUp
-- ==== Proof.TripC.lean ====
/-
  The pipeline's loop: a trip in the middle of a row of tiles.
-/
module

public import proofs.«01_k».proof.Proof.Close

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

set_option maxRecDepth 4000 in
set_option maxHeartbeats 1000000 in
theorem tripC (k : Fin k0_t1_loop.trips) (h0 : k.val % 43 ≠ 0) (h42 : k.val % 43 ≠ 42) :
    resAt c XX XG XU XD OO OB k.val ⊢ wp frame (wpE (defs₀ (F := F)) 𝒱₀ (c : Thread nD τ) none) Set.univ (trip k (accAt k.val))
      (fun r => iprop(⌜r = accAt (k.val + 1)⌝ ∗ resAt c XX XG XU XD OO OB (k.val + 1))) := by
  have hlt : k.val < 344 := k.isLt
  have hk0 : k.val ≠ 0 := by omega
  have hk : k.val ≠ 343 := by omega
  have c1 : ¬ k0_cond1 k (wd (k.val / 43 % 8)) (wd (k.val % 43)) = 1#1 := fun h => h42 ((cond1_iff k).1 h).1
  have c2 : k0_cond2 k (wd (k.val % 43)) = 1#1 := (cond2_iff k).2 hk
  have c3 : k0_cond3 k (wd (k.val % 43)) = 1#1 := (cond3_iff k).2 hk
  have c4 : k0_cond4 k (wd (k.val / 43 % 8)) (wd (k.val % 43)) = 1#1 := (cond4_iff k).2 hk
  have c5 : ¬ k0_cond5 k (wd (k.val / 43 % 8)) (wd (k.val % 43)) = 1#1 := fun h => h0 ((cond5_iff k).1 h)
  have c6 := cond6 k
  have c7 := cond7 k
  have c8 := cond8 k
  have c15 := cond15 k
  have c16 := cond16 k
  have c21 : k0_cond21 k (wd (k.val / 43 % 8)) (wd (k.val % 43)) = 1#1 := (cond21_iff k).2 hk0
  have c22 : k0_cond22 k (wd (k.val / 43 % 8)) (wd (k.val % 43)) = 1#1 := (cond22_iff k).2 hk0
  have w7 := chk7 k
  have w6 := chk6 k
  have w5 := chk5 k
  have w4 := chk4 k
  have w3 := chk3 k
  have w2 := chk2 k
  have w1 := chk1 k
  have hn : k.val ≠ 344 := by omega
  have hs : k.val + 1 ≠ 0 := Nat.succ_ne_zero _
  have hn1 : k.val + 1 ≠ 344 := by omega
  have hoT : (ixS k.val).val = k.val := Nat.mod_eq_of_lt hlt
  have eG : ixG (k.val + 1) ≠ ixG k.val := fun h => by have : (k.val + 1) % 43 = k.val % 43 := congrArg Fin.val h; omega
  have eS : ixS (k.val + 1) ≠ ixS k.val := fun h => by have : (k.val + 1) % 344 = k.val % 344 := congrArg Fin.val h; omega
  have eD : (k.val + 1) / 43 = k.val / 43 := by omega
  rw [resAt, xRes_later c XX hn h0, xHeld, gRes_lt c XG hn, gFlight, uRes_lt c XU hn, uFlight, dRes_lt c XD hn, dFlight, oRes_pos c XX XG XU OO hk0, oFlight, bRes_pos c XD OB hk0, bFlight, oRest, bRest, since_here (oBlk c OO) hlt, since_here (bBlk c OB) hlt,
    erase_pair (gBlk c XG) eG, erase_pair (uBlk c XU) eG, erase_pair (dBlk c XD) eS]
  rw [resAt, xRes_later c XX hn1 (by omega), xHeld, eD, gRes_lt c XG hn1, gFlight, uRes_lt c XU hn1, uFlight, dRes_lt c XD hn1, dFlight, sl_two,
    erase_pair' (gBlk c XG) eG, erase_pair' (uBlk c XU) eG, erase_pair' (dBlk c XD) eS, oRes_pos c XX XG XU OO hs, oFlight, bRes_pos c XD OB hs, bFlight, oRest, bRest, sl_two, Nat.add_sub_cancel]
  have eB : k.val = k.val - 1 + 1 := by omega
  have fO : bigSep (before k.val) (oBlk c (TO c XX XG XU)) = iprop(oBlk c (TO c XX XG XU) (ixS (k.val - 1)) ∗ bigSep (before (k.val - 1)) (oBlk c (TO c XX XG XU))) := by
    conv_lhs => rw [eB]
    exact before_succ _ (by omega)
  have fB : bigSep (before k.val) (bBlk c (TB c XD)) = iprop(bBlk c (TB c XD) (ixS (k.val - 1)) ∗ bigSep (before (k.val - 1)) (bBlk c (TB c XD))) := by
    conv_lhs => rw [eB]
    exact before_succ _ (by omega)
  rw [fO, fB]
  iintro ⟨⟨%W, HW⟩, ⟨⟨%fx, Hx⟩, HxK, HxH, ⟨%fx1, HxS⟩, HxC⟩, ⟨⟨%fg, HgF⟩, ⟨HgB, HgH⟩, ⟨%fg1, HgS⟩, HgC⟩, ⟨⟨%fu, HuF⟩, ⟨HuB, HuH⟩, ⟨%fu1, HuS⟩, HuC⟩, ⟨⟨%fd, HdF⟩, ⟨HdB, HdH⟩, ⟨%fd1, HdS⟩, HdC⟩, ⟨⟨HoD, HoB, HoT⟩, ⟨%fo, HoF⟩, ⟨%fo1, HoS⟩, HoC⟩, ⟨⟨HbD, HbB, HbT⟩, ⟨%fb, HbF⟩, ⟨%fb1, HbS⟩, HbC⟩⟩
  dsimp only [trip, accAt]
  sl_unfold [k0_t1_body]
  sl_exec
  sl_step
  isplitr
  · ipureintro
    clear * - k
    simp only [Prod.mk.injEq]
    refine ⟨?_, ?_, ?_, ?_, ?_, ?_, ?_, ?_, ?_, ?_, ?_, ?_, ?_, ?_⟩ <;> revert k <;> decide +kernel
  isplitl [HW]
  · iexists _; iexact HW
  isplitl [Hx HxK HxH HxS HxC]
  · isplitl [Hx]; · iexists _; iexact Hx
    isplitl [HxK]; · iexact HxK
    isplitl [HxH]; · iexact HxH
    isplitl [HxS]; · iexists _; iexact HxS
    iexact HxC
  isplitl [HgC HgF_src HgH HgF_dst HgF]
  · isplitl [HgC]; · iexists _; iexact HgC
    isplitl [HgF_src HgH]
    · isplitl [HgF_src]; · iexact HgF_src
      iexact HgH
    isplitl [HgF_dst]; · iexists _; iexact HgF_dst
    iexact HgF
  isplitl [HuC HuF_src HuH HuF_dst HuF]
  · isplitl [HuC]; · iexists _; iexact HuC
    isplitl [HuF_src HuH]
    · isplitl [HuF_src]; · iexact HuF_src
      iexact HuH
    isplitl [HuF_dst]; · iexists _; iexact HuF_dst
    iexact HuF
  isplitl [HdC HdF_src HdH HdF_dst HdF]
  · isplitl [HdC]; · iexists _; iexact HdC
    isplitl [HdF_src HdH]
    · isplitl [HdF_src]; · iexact HdF_src
      iexact HdH
    isplitl [HdF_dst]; · iexists _; iexact HdF_dst
    iexact HdF
  isplitl [HoF_dst HoD HoT HoC HoF_src HoF]
  · isplitl [HoF_dst HoD HoT]
    · isplitl [HoF_dst HoD]
      · isplitl [HoF_dst]; · iexact HoF_dst
        iexact HoD
      iexact HoT
    isplitl [HoC]; · iexists _; iapply (oFly_tile c XX XG XU OO hlt (off32_eq k) (off29_eq k) (off30_eq k) (off31_eq k) _ _ _ _ _ _ _ _); iexact HoC
    isplitl [HoF_src]; · iexists _; iexact HoF_src
    iexact HoF
  isplitl [HbF_dst HbD HbT]
  · isplitl [HbF_dst HbD]
    · isplitl [HbF_dst]; · iexact HbF_dst
      iexact HbD
    iexact HbT
  isplitl [HbC]; · iexists _; iapply (bFly_tile c XD OB hlt (off34_eq k) (off33_eq k) _ _ _ _); iexact HbC
  isplitl [HbF_src]; · iexists _; iexact HbF_src
  iexact HbF

end Cert.GateUp
-- ==== Proof.TripD.lean ====
/-
  The pipeline's loop: the last trip of a row of tiles but the last.
-/
module

public import proofs.«01_k».proof.Proof.Close

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

set_option maxRecDepth 4000 in
set_option maxHeartbeats 1000000 in
theorem tripD (k : Fin k0_t1_loop.trips) (h42 : k.val % 43 = 42) (hk : k.val ≠ 343) :
    resAt c XX XG XU XD OO OB k.val ⊢ wp frame (wpE (defs₀ (F := F)) 𝒱₀ (c : Thread nD τ) none) Set.univ (trip k (accAt k.val))
      (fun r => iprop(⌜r = accAt (k.val + 1)⌝ ∗ resAt c XX XG XU XD OO OB (k.val + 1))) := by
  have hlt : k.val < 344 := k.isLt
  have h0 : k.val % 43 ≠ 0 := by omega
  have hk0 : k.val ≠ 0 := by omega
  have c1 : k0_cond1 k (wd (k.val / 43 % 8)) (wd (k.val % 43)) = 1#1 := (cond1_iff k).2 ⟨h42, hk⟩
  have c2 : k0_cond2 k (wd (k.val % 43)) = 1#1 := (cond2_iff k).2 hk
  have c3 : k0_cond3 k (wd (k.val % 43)) = 1#1 := (cond3_iff k).2 hk
  have c4 : k0_cond4 k (wd (k.val / 43 % 8)) (wd (k.val % 43)) = 1#1 := (cond4_iff k).2 hk
  have c5 : ¬ k0_cond5 k (wd (k.val / 43 % 8)) (wd (k.val % 43)) = 1#1 := fun h => h0 ((cond5_iff k).1 h)
  have c6 := cond6 k
  have c7 := cond7 k
  have c8 := cond8 k
  have c15 := cond15 k
  have c16 := cond16 k
  have c21 : k0_cond21 k (wd (k.val / 43 % 8)) (wd (k.val % 43)) = 1#1 := (cond21_iff k).2 hk0
  have c22 : k0_cond22 k (wd (k.val / 43 % 8)) (wd (k.val % 43)) = 1#1 := (cond22_iff k).2 hk0
  have w7 := chk7 k
  have w6 := chk6 k
  have w5 := chk5 k
  have w4 := chk4 k
  have w3 := chk3 k
  have w2 := chk2 k
  have w1 := chk1 k
  have hn : k.val ≠ 344 := by omega
  have hs : k.val + 1 ≠ 0 := Nat.succ_ne_zero _
  have hn1 : k.val + 1 ≠ 344 := by omega
  have hoT : (ixS k.val).val = k.val := Nat.mod_eq_of_lt hlt
  have eG : ixG (k.val + 1) ≠ ixG k.val := fun h => by have : (k.val + 1) % 43 = k.val % 43 := congrArg Fin.val h; omega
  have eS : ixS (k.val + 1) ≠ ixS k.val := fun h => by have : (k.val + 1) % 344 = k.val % 344 := congrArg Fin.val h; omega
  have eD : (k.val + 1) / 43 = k.val / 43 + 1 := by omega
  rw [resAt, xRes_later c XX hn h0, xHeld, gRes_lt c XG hn, gFlight, uRes_lt c XU hn, uFlight, dRes_lt c XD hn, dFlight, oRes_pos c XX XG XU OO hk0, oFlight, bRes_pos c XD OB hk0, bFlight, oRest, bRest, since_here (oBlk c OO) hlt, since_here (bBlk c OB) hlt,
    erase_pair (gBlk c XG) eG, erase_pair (uBlk c XU) eG, erase_pair (dBlk c XD) eS, erase_one (xBlk c XX) (ixX (k.val / 43 + 1))]
  rw [resAt, xRes_first c XX hn1 (by omega), xFlight, eD, sl_two, gRes_lt c XG hn1, gFlight, uRes_lt c XU hn1, uFlight, dRes_lt c XD hn1, dFlight, sl_two,
    erase_pair' (gBlk c XG) eG, erase_pair' (uBlk c XU) eG, erase_pair' (dBlk c XD) eS, oRes_pos c XX XG XU OO hs, oFlight, bRes_pos c XD OB hs, bFlight, oRest, bRest, sl_two, Nat.add_sub_cancel]
  have eB : k.val = k.val - 1 + 1 := by omega
  have fO : bigSep (before k.val) (oBlk c (TO c XX XG XU)) = iprop(oBlk c (TO c XX XG XU) (ixS (k.val - 1)) ∗ bigSep (before (k.val - 1)) (oBlk c (TO c XX XG XU))) := by
    conv_lhs => rw [eB]
    exact before_succ _ (by omega)
  have fB : bigSep (before k.val) (bBlk c (TB c XD)) = iprop(bBlk c (TB c XD) (ixS (k.val - 1)) ∗ bigSep (before (k.val - 1)) (bBlk c (TB c XD))) := by
    conv_lhs => rw [eB]
    exact before_succ _ (by omega)
  rw [fO, fB]
  iintro ⟨⟨%W, HW⟩, ⟨⟨%fx, Hx⟩, HxK, ⟨HxB, HxH⟩, ⟨%fx1, HxS⟩, HxC⟩, ⟨⟨%fg, HgF⟩, ⟨HgB, HgH⟩, ⟨%fg1, HgS⟩, HgC⟩, ⟨⟨%fu, HuF⟩, ⟨HuB, HuH⟩, ⟨%fu1, HuS⟩, HuC⟩, ⟨⟨%fd, HdF⟩, ⟨HdB, HdH⟩, ⟨%fd1, HdS⟩, HdC⟩, ⟨⟨HoD, HoB, HoT⟩, ⟨%fo, HoF⟩, ⟨%fo1, HoS⟩, HoC⟩, ⟨⟨HbD, HbB, HbT⟩, ⟨%fb, HbF⟩, ⟨%fb1, HbS⟩, HbC⟩⟩
  dsimp only [trip, accAt]
  sl_unfold [k0_t1_body]
  sl_exec
  sl_step
  isplitr
  · ipureintro
    clear * - k
    simp only [Prod.mk.injEq]
    refine ⟨?_, ?_, ?_, ?_, ?_, ?_, ?_, ?_, ?_, ?_, ?_, ?_, ?_, ?_⟩ <;> revert k <;> decide +kernel
  isplitl [HW]
  · iexists _; iexact HW
  isplitl [HxC HxH Hx HxK]
  · isplitl [HxC]; · iexists _; iexact HxC
    isplitl [HxH]; · iexact HxH
    isplitl [Hx]; · iexists _; iexact Hx
    iexact HxK
  isplitl [HgC HgF_src HgH HgF_dst HgF]
  · isplitl [HgC]; · iexists _; iexact HgC
    isplitl [HgF_src HgH]
    · isplitl [HgF_src]; · iexact HgF_src
      iexact HgH
    isplitl [HgF_dst]; · iexists _; iexact HgF_dst
    iexact HgF
  isplitl [HuC HuF_src HuH HuF_dst HuF]
  · isplitl [HuC]; · iexists _; iexact HuC
    isplitl [HuF_src HuH]
    · isplitl [HuF_src]; · iexact HuF_src
      iexact HuH
    isplitl [HuF_dst]; · iexists _; iexact HuF_dst
    iexact HuF
  isplitl [HdC HdF_src HdH HdF_dst HdF]
  · isplitl [HdC]; · iexists _; iexact HdC
    isplitl [HdF_src HdH]
    · isplitl [HdF_src]; · iexact HdF_src
      iexact HdH
    isplitl [HdF_dst]; · iexists _; iexact HdF_dst
    iexact HdF
  isplitl [HoF_dst HoD HoT HoC HoF_src HoF]
  · isplitl [HoF_dst HoD HoT]
    · isplitl [HoF_dst HoD]
      · isplitl [HoF_dst]; · iexact HoF_dst
        iexact HoD
      iexact HoT
    isplitl [HoC]; · iexists _; iapply (oFly_tile c XX XG XU OO hlt (off32_eq k) (off29_eq k) (off30_eq k) (off31_eq k) _ _ _ _ _ _ _ _); iexact HoC
    isplitl [HoF_src]; · iexists _; iexact HoF_src
    iexact HoF
  isplitl [HbF_dst HbD HbT]
  · isplitl [HbF_dst HbD]
    · isplitl [HbF_dst]; · iexact HbF_dst
      iexact HbD
    iexact HbT
  isplitl [HbC]; · iexists _; iapply (bFly_tile c XD OB hlt (off34_eq k) (off33_eq k) _ _ _ _); iexact HbC
  isplitl [HbF_src]; · iexists _; iexact HbF_src
  iexact HbF

end Cert.GateUp
-- ==== Proof.TripE.lean ====
/-
  The pipeline's loop: the last trip.
-/
module

public import proofs.«01_k».proof.Proof.Close

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

set_option maxRecDepth 4000 in
set_option maxHeartbeats 1000000 in
theorem tripE (k : Fin k0_t1_loop.trips) (hk : k.val = 343) :
    resAt c XX XG XU XD OO OB k.val ⊢ wp frame (wpE (defs₀ (F := F)) 𝒱₀ (c : Thread nD τ) none) Set.univ (trip k (accAt k.val))
      (fun r => iprop(⌜r = accAt (k.val + 1)⌝ ∗ resAt c XX XG XU XD OO OB (k.val + 1))) := by
  have hlt : k.val < 344 := k.isLt
  have h0 : k.val % 43 ≠ 0 := by omega
  have hk0 : k.val ≠ 0 := by omega
  have c1 : ¬ k0_cond1 k (wd (k.val / 43 % 8)) (wd (k.val % 43)) = 1#1 := fun h => ((cond1_iff k).1 h).2 hk
  have c2 : ¬ k0_cond2 k (wd (k.val % 43)) = 1#1 := fun h => (cond2_iff k).1 h hk
  have c3 : ¬ k0_cond3 k (wd (k.val % 43)) = 1#1 := fun h => (cond3_iff k).1 h hk
  have c4 : ¬ k0_cond4 k (wd (k.val / 43 % 8)) (wd (k.val % 43)) = 1#1 := fun h => (cond4_iff k).1 h hk
  have c5 : ¬ k0_cond5 k (wd (k.val / 43 % 8)) (wd (k.val % 43)) = 1#1 := fun h => h0 ((cond5_iff k).1 h)
  have c6 := cond6 k
  have c7 := cond7 k
  have c8 := cond8 k
  have c15 := cond15 k
  have c16 := cond16 k
  have c21 : k0_cond21 k (wd (k.val / 43 % 8)) (wd (k.val % 43)) = 1#1 := (cond21_iff k).2 hk0
  have c22 : k0_cond22 k (wd (k.val / 43 % 8)) (wd (k.val % 43)) = 1#1 := (cond22_iff k).2 hk0
  have w7 := chk7 k
  have w6 := chk6 k
  have w5 := chk5 k
  have w4 := chk4 k
  have w3 := chk3 k
  have w2 := chk2 k
  have w1 := chk1 k
  have hn : k.val ≠ 344 := by omega
  have hs : k.val + 1 ≠ 0 := Nat.succ_ne_zero _
  have hoT : (ixS k.val).val = k.val := Nat.mod_eq_of_lt hlt
  have eD : (k.val + 1) / 43 = k.val / 43 + 1 := by omega
  have e344 : k.val + 1 = 344 := by omega
  rw [resAt, xRes_later c XX hn h0, xHeld, gRes_lt c XG hn, gFlight, uRes_lt c XU hn, uFlight, dRes_lt c XD hn, dFlight, oRes_pos c XX XG XU OO hk0, oFlight, bRes_pos c XD OB hk0, bFlight, oRest, bRest, since_here (oBlk c OO) hlt, since_here (bBlk c OB) hlt]
  rw [resAt, xRes_stop c XX e344, xFree, eD, sl_two, gRes_stop c XG e344, gFree, uRes_stop c XU e344, uFree, dRes_stop c XD e344, dFree, sl_two,
    erase_one (gBlk c XG) (ixG k.val), erase_one (uBlk c XU) (ixG k.val), erase_one (dBlk c XD) (ixS k.val), oRes_pos c XX XG XU OO hs, oFlight, bRes_pos c XD OB hs, bFlight, oRest, bRest, sl_two, Nat.add_sub_cancel]
  have eB : k.val = k.val - 1 + 1 := by omega
  have fO : bigSep (before k.val) (oBlk c (TO c XX XG XU)) = iprop(oBlk c (TO c XX XG XU) (ixS (k.val - 1)) ∗ bigSep (before (k.val - 1)) (oBlk c (TO c XX XG XU))) := by
    conv_lhs => rw [eB]
    exact before_succ _ (by omega)
  have fB : bigSep (before k.val) (bBlk c (TB c XD)) = iprop(bBlk c (TB c XD) (ixS (k.val - 1)) ∗ bigSep (before (k.val - 1)) (bBlk c (TB c XD))) := by
    conv_lhs => rw [eB]
    exact before_succ _ (by omega)
  rw [fO, fB]
  iintro ⟨⟨%W, HW⟩, ⟨⟨%fx, Hx⟩, HxK, HxH, ⟨%fx1, HxS⟩, HxC⟩, ⟨⟨%fg, HgF⟩, HgH, ⟨%fg1, HgS⟩, HgC⟩, ⟨⟨%fu, HuF⟩, HuH, ⟨%fu1, HuS⟩, HuC⟩, ⟨⟨%fd, HdF⟩, HdH, ⟨%fd1, HdS⟩, HdC⟩, ⟨⟨HoD, HoB, HoT⟩, ⟨%fo, HoF⟩, ⟨%fo1, HoS⟩, HoC⟩, ⟨⟨HbD, HbB, HbT⟩, ⟨%fb, HbF⟩, ⟨%fb1, HbS⟩, HbC⟩⟩
  dsimp only [trip, accAt]
  sl_unfold [k0_t1_body]
  sl_exec
  sl_step
  isplitr
  · ipureintro
    clear * - k
    simp only [Prod.mk.injEq]
    refine ⟨?_, ?_, ?_, ?_, ?_, ?_, ?_, ?_, ?_, ?_, ?_, ?_, ?_, ?_⟩ <;> revert k <;> decide +kernel
  isplitl [HW]
  · iexists _; iexact HW
  isplitl [HxS HxC HxH Hx HxK]
  · isplitl [HxS]; · iexists _; iexact HxS
    isplitl [HxC]; · iexact HxC
    isplitl [HxH]; · iexact HxH
    isplitl [Hx]; · iexists _; iexact Hx
    iexact HxK
  isplitl [HgS HgC HgF_src HgH HgF_dst HgF]
  · isplitl [HgS]; · iexists _; iexact HgS
    isplitl [HgC]; · iexact HgC
    isplitl [HgF_src HgH]
    · isplitl [HgF_src]; · iexact HgF_src
      iexact HgH
    isplitl [HgF_dst]; · iexists _; iexact HgF_dst
    iexact HgF
  isplitl [HuS HuC HuF_src HuH HuF_dst HuF]
  · isplitl [HuS]; · iexists _; iexact HuS
    isplitl [HuC]; · iexact HuC
    isplitl [HuF_src HuH]
    · isplitl [HuF_src]; · iexact HuF_src
      iexact HuH
    isplitl [HuF_dst]; · iexists _; iexact HuF_dst
    iexact HuF
  isplitl [HdS HdC HdF_src HdH HdF_dst HdF]
  · isplitl [HdS]; · iexists _; iexact HdS
    isplitl [HdC]; · iexact HdC
    isplitl [HdF_src HdH]
    · isplitl [HdF_src]; · iexact HdF_src
      iexact HdH
    isplitl [HdF_dst]; · iexists _; iexact HdF_dst
    iexact HdF
  isplitl [HoF_dst HoD HoT HoC HoF_src HoF]
  · isplitl [HoF_dst HoD HoT]
    · isplitl [HoF_dst HoD]
      · isplitl [HoF_dst]; · iexact HoF_dst
        iexact HoD
      iexact HoT
    isplitl [HoC]; · iexists _; iapply (oFly_tile c XX XG XU OO hlt (off32_eq k) (off29_eq k) (off30_eq k) (off31_eq k) _ _ _ _ _ _ _ _); iexact HoC
    isplitl [HoF_src]; · iexists _; iexact HoF_src
    iexact HoF
  isplitl [HbF_dst HbD HbT]
  · isplitl [HbF_dst HbD]
    · isplitl [HbF_dst]; · iexact HbF_dst
      iexact HbD
    iexact HbT
  isplitl [HbC]; · iexists _; iapply (bFly_tile c XD OB hlt (off34_eq k) (off33_eq k) _ _ _ _); iexact HbC
  isplitl [HbF_src]; · iexists _; iexact HbF_src
  iexact HbF

end Cert.GateUp
-- ==== Proof.Loop.lean ====
/-
  The pipeline's loop: its invariant.
-/
module

public import proofs.«01_k».proof.Proof.TripA
public import proofs.«01_k».proof.Proof.TripB
public import proofs.«01_k».proof.Proof.TripC
public import proofs.«01_k».proof.Proof.TripD
public import proofs.«01_k».proof.Proof.TripE

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

/-- One trip, whichever it is. -/
theorem trip_step (k : Fin k0_t1_loop.trips) :
    resAt c XX XG XU XD OO OB k.val ⊢ wp frame (wpE (defs₀ (F := F)) 𝒱₀ (c : Thread nD τ) none) Set.univ (trip k (accAt k.val))
      (fun r => iprop(⌜r = accAt (k.val + 1)⌝ ∗ resAt c XX XG XU XD OO OB (k.val + 1))) := by
  by_cases hA : k.val = 0
  · exact tripA c XX XG XU XD OO OB k hA
  by_cases hE : k.val = 343
  · exact tripE c XX XG XU XD OO OB k hE
  by_cases hB : k.val % 43 = 0
  · exact tripB c XX XG XU XD OO OB k hB hA
  by_cases hD : k.val % 43 = 42
  · exact tripD c XX XG XU XD OO OB k hD hE
  exact tripC c XX XG XU XD OO OB k hB hD

abbrev LoopTy (init) := LoopInvTy_k0_t1 (F := F) Unit ℕ (UU nD τ) ℕ 𝒱₀ c none Set.univ
    (Memref.whole main_arg0) (Memref.isWhole_whole _) (Memref.whole main_v0) (Memref.isWhole_whole _) (Memref.whole main_v1) (Memref.isWhole_whole _) (Memref.whole main_v2) (Memref.isWhole_whole _) (Memref.whole main_v3_0) (Memref.isWhole_whole _) (Memref.whole main_v3_1) (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9 (Memref.whole cc0_scoped10) (Memref.isWhole_whole _) cc0_scoped11
    (Scalar.addi 0#32 1#32) (Scalar.addi 0#32 1#32) (Scalar.addi 0#32 1#32) 0#32 1#32 init

set_option warn.classDefReducibility false in
def loopInv (init) : LoopTy (F := F) c init where
  inv k acc := iprop(⌜acc = accAt k⌝ ∗ resAt c XX XG XU XD OO OB k)
  step k acc := by
    iintro ⟨%e, H⟩
    rw [e]
    iapply (trip_step c XX XG XU XD OO OB k)
    iexact H

end Cert.GateUp
-- ==== Proof.Body.lean ====
/-
  The call's body: the first copies, the loop, the last waits.
-/
module

public import proofs.«01_k».proof.Proof.Loop

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

abbrev bodyG : Prog (TpuEff nD τ sig (Elt F) Λ₀ .tc) PUnit :=
  cc0_pipelined (Memref.whole main_arg0) (Memref.isWhole_whole _) (Memref.whole main_v0) (Memref.isWhole_whole _) (Memref.whole main_v1) (Memref.isWhole_whole _) (Memref.whole main_v2) (Memref.isWhole_whole _) (Memref.whole main_v3_0) (Memref.isWhole_whole _) (Memref.whole main_v3_1) (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9 (Memref.whole cc0_scoped10) (Memref.isWhole_whole _) cc0_scoped11

/-- The rings of the operands, nothing in flight; the results' rings and blocks likewise. -/
def idle : sProp 𝕄 := iprop(xFree c XX 0 ∗ gFree c XG 0 ∗ uFree c XU 0 ∗ dFree c XD 0 ∗ oFree c 0 ∗ bFree c 0)

theorem of_eq {P Q : sProp 𝕄} (e : P = Q) : P ⊢ Q := e ▸ .rfl
/-- Before the first trip. -/
theorem resAt_zero : resAt c XX XG XU XD OO OB 0 = iprop((∃ W, owes (c : Thread nD τ) 0 W) ∗ xFlight c XX 0 ∗ gFlight c XG 0 ∗ uFlight c XU 0 ∗ dFlight c XD 0
    ∗ (bigSep Finset.univ (oBlk c OO) ∗ oFree c 0) ∗ (bigSep Finset.univ (bBlk c OB) ∗ bFree c 0)) := by
  have e0 (Φ : Fin 344 → sProp 𝕄) : bigSep (before (0 - 1)) Φ = iprop(emp) := by
    have e : before (0 - 1) = ∅ := by decide
    rw [e, bigSep_empty]; rfl
  have he (P : sProp 𝕄) : iprop(emp ∗ P) = P := equiv_iff.mp BI.emp_sep
  have e1 : since 0 = Finset.univ := by ext b; simp
  rw [resAt, xRes_first c XX (by omega) rfl, gRes_lt c XG (by omega), uRes_lt c XU (by omega), dRes_lt c XD (by omega), oRes_first c XX XG XU OO rfl, bRes_first c XD OB rfl,
    oRest, bRest, e0, e0, e1, he, he]
/-- After the last trip. -/
theorem resAt_end : resAt c XX XG XU XD OO OB 344 = iprop((∃ W, owes (c : Thread nD τ) 0 W) ∗ xFree c XX 0 ∗ gFree c XG 0 ∗ uFree c XU 0 ∗ dFree c XD 0
    ∗ (bigSep (Finset.univ.erase (ixS 343)) (oBlk c (TO c XX XG XU)) ∗ (∃ f, oFly c (TO c XX XG XU) (sl 1) (ixS 343) f) ∗ (∃ f, oSlot c (sl 0) f) ∗ oCell c (sl 0))
    ∗ (bigSep (Finset.univ.erase (ixS 343)) (bBlk c (TB c XD)) ∗ (∃ f, bFly c (TB c XD) (sl 1) (ixS 343) f) ∗ (∃ f, bSlot c (sl 0) f) ∗ bCell c (sl 0))) := by
  have e0 (Φ : Fin 344 → sProp 𝕄) : bigSep (since 344) Φ = iprop(emp) := by
    have e : since 344 = ∅ := by ext b; simp only [Finset.mem_filter, Finset.mem_univ, _root_.true_and, Finset.notMem_empty, iff_false]; omega
    rw [e, bigSep_empty]; rfl
  have he (P : sProp 𝕄) : iprop(P ∗ emp) = P := equiv_iff.mp BI.sep_emp
  have e1 : before (344 - 1) = Finset.univ.erase (ixS 343) := by
    ext b; simp only [Finset.mem_filter, Finset.mem_univ, _root_.true_and, Finset.mem_erase, _root_.and_true, ne_eq, Fin.ext_iff]
    have : (ixS 343).val = 343 := rfl
    omega
  rw [resAt, xRes_stop c XX rfl, gRes_stop c XG rfl, uRes_stop c XU rfl, dRes_stop c XD rfl, oRes_pos c XX XG XU OO (by omega), bRes_pos c XD OB (by omega),
    oRest, bRest, e0, e0, e1, he, he]
  rfl

/-- The loop from its first words and what it holds before the first trip. -/
theorem loop_enter {β : Type} {kk : _ → Prog (TpuEff nD τ sig (Elt F) Λ₀ .tc) β} {Q : β → sProp 𝕄} :
    resAt c XX XG XU XD OO OB 0 ⊢ iprop((∀ acc, (⌜acc = accAt 344⌝ ∗ resAt c XX XG XU XD OO OB 344)
        -∗ wp frame (wpE (defs₀ (F := F)) 𝒱₀ (c : Thread nD τ) none) Set.univ (kk acc) Q)
      -∗ wp frame (wpE (defs₀ (F := F)) 𝒱₀ (c : Thread nD τ) none) Set.univ
        (Scf.for k0_t1_loop.lb k0_t1_loop.ub k0_t1_loop.st k0_t1_ok (1#32, 0#32, 1#32, 0#32, 1#32, 0#32, 1#32, 0#32, 0#32, 0#32, 0#32, 0#32, 0#32, 0#32)
          (k0_t1_body (F := F) (Memref.whole main_arg0) (Memref.isWhole_whole _) (Memref.whole main_v0) (Memref.isWhole_whole _) (Memref.whole main_v1) (Memref.isWhole_whole _) (Memref.whole main_v2) (Memref.isWhole_whole _) (Memref.whole main_v3_0) (Memref.isWhole_whole _) (Memref.whole main_v3_1) (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9 (Memref.whole cc0_scoped10) (Memref.isWhole_whole _) cc0_scoped11
    1#32 1#32 1#32 0#32 1#32) >>= kk) Q) := by
  have e : (1#32 : BitVec 32) = Scalar.addi 0#32 1#32 := by decide
  have hi : ((1#32, 0#32, 1#32, 0#32, 1#32, 0#32, 1#32, 0#32, 0#32, 0#32, 0#32, 0#32, 0#32, 0#32) : BitVec 32 × BitVec 32 × BitVec 32 × BitVec 32 × BitVec 32 × BitVec 32 × BitVec 32 × BitVec 32 × BitVec 32 × BitVec 32 × BitVec 32 × BitVec 32 × BitVec 32 × BitVec 32) = accAt 0 := by
    simp only [accAt, Prod.mk.injEq]
    trivial
  have hT : Scf.trips k0_t1_loop.lb k0_t1_loop.ub k0_t1_loop.st = 344 := by decide +kernel
  have L : iprop(⌜((1#32, 0#32, 1#32, 0#32, 1#32, 0#32, 1#32, 0#32, 0#32, 0#32, 0#32, 0#32, 0#32, 0#32) : BitVec 32 × BitVec 32 × BitVec 32 × BitVec 32 × BitVec 32 × BitVec 32 × BitVec 32 × BitVec 32 × BitVec 32 × BitVec 32 × BitVec 32 × BitVec 32 × BitVec 32 × BitVec 32) = accAt 0⌝ ∗ resAt c XX XG XU XD OO OB 0) ⊢ iprop((∀ acc, (⌜acc = accAt (Scf.trips k0_t1_loop.lb k0_t1_loop.ub k0_t1_loop.st)⌝ ∗ resAt c XX XG XU XD OO OB (Scf.trips k0_t1_loop.lb k0_t1_loop.ub k0_t1_loop.st))
        -∗ wp frame (wpE (defs₀ (F := F)) 𝒱₀ (c : Thread nD τ) none) Set.univ (kk acc) Q)
      -∗ wp frame (wpE (defs₀ (F := F)) 𝒱₀ (c : Thread nD τ) none) Set.univ
        (Scf.for k0_t1_loop.lb k0_t1_loop.ub k0_t1_loop.st k0_t1_ok (1#32, 0#32, 1#32, 0#32, 1#32, 0#32, 1#32, 0#32, 0#32, 0#32, 0#32, 0#32, 0#32, 0#32)
          (k0_t1_body (F := F) (Memref.whole main_arg0) (Memref.isWhole_whole _) (Memref.whole main_v0) (Memref.isWhole_whole _) (Memref.whole main_v1) (Memref.isWhole_whole _) (Memref.whole main_v2) (Memref.isWhole_whole _) (Memref.whole main_v3_0) (Memref.isWhole_whole _) (Memref.whole main_v3_1) (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9 (Memref.whole cc0_scoped10) (Memref.isWhole_whole _) cc0_scoped11
    1#32 1#32 1#32 0#32 1#32) >>= kk) Q) :=
    exec_loop _ _ _ _ _ _ _ _ _ (loopInv c XX XG XU XD OO OB (1#32, 0#32, 1#32, 0#32, 1#32, 0#32, 1#32, 0#32, 0#32, 0#32, 0#32, 0#32, 0#32, 0#32))
  rw [hT] at L
  iintro H
  iapply L
  isplitr; · ipureintro; exact hi
  iexact H

set_option maxRecDepth 4000 in
set_option maxHeartbeats 1000000 in
theorem bodyRun_of (I : sProp 𝕄) (hI : I = idle c XX XG XU XD) (W) (Q : PUnit → sProp 𝕄) :
    iprop((owes (c : Thread nD τ) 0 W ∗ idle c XX XG XU XD ∗ bigSep Finset.univ (oBlk c OO) ∗ bigSep Finset.univ (bBlk c OB))
      ∗ ((∃ W, owes (c : Thread nD τ) 0 W) ∗ I ∗ bigSep Finset.univ (oBlk c (TO c XX XG XU)) ∗ bigSep Finset.univ (bBlk c (TB c XD)) -∗ Q ⟨⟩))
      ⊢ wp frame (wpE (defs₀ (F := F)) 𝒱₀ (c : Thread nD τ) none) Set.univ bodyG Q := by
  rw [idle, xFree, gFree, uFree, dFree, oFree, bFree, erase_one (xBlk c XX) 0, erase_one (gBlk c XG) 0, erase_one (uBlk c XU) 0, erase_one (dBlk c XD) 0]
  iintro ⟨⟨HW, ⟨⟨⟨%fx, HxS⟩, HxC, ⟨HxB, HxH⟩, ⟨%fx1, HxS1⟩, HxC1⟩, ⟨⟨%fg, HgS⟩, HgC, ⟨HgB, HgH⟩, ⟨%fg1, HgS1⟩, HgC1⟩, ⟨⟨%fu, HuS⟩, HuC, ⟨HuB, HuH⟩, ⟨%fu1, HuS1⟩, HuC1⟩, ⟨⟨%fd, HdS⟩, HdC, ⟨HdB, HdH⟩, ⟨%fd1, HdS1⟩, HdC1⟩, Ho, Hb⟩, HoB, HbB⟩, Hk⟩
  sl_exec
  ihave HR : (resAt c XX XG XU XD OO OB 0 : sProp 𝕄) $$ [HW HxC HxH HxS1 HxC1 HgC HgH HgS1 HgC1 HuC HuH HuS1 HuC1 HdC HdH HdS1 HdC1 Ho Hb HoB HbB]
  · rw [resAt_zero, xFlight, gFlight, uFlight, dFlight, oFree, bFree]
    isplitl [HW]; · iexists _; iexact HW
    isplitl [HxC HxH HxS1 HxC1]
    · isplitl [HxC]; · iexists fx; iexact HxC
      isplitl [HxH]; · iexact HxH
      isplitl [HxS1]; · iexists fx1; iexact HxS1
      iexact HxC1
    isplitl [HgC HgH HgS1 HgC1]
    · isplitl [HgC]; · iexists fg; iexact HgC
      isplitl [HgH]; · iexact HgH
      isplitl [HgS1]; · iexists fg1; iexact HgS1
      iexact HgC1
    isplitl [HuC HuH HuS1 HuC1]
    · isplitl [HuC]; · iexists fu; iexact HuC
      isplitl [HuH]; · iexact HuH
      isplitl [HuS1]; · iexists fu1; iexact HuS1
      iexact HuC1
    isplitl [HdC HdH HdS1 HdC1]
    · isplitl [HdC]; · iexists fd; iexact HdC
      isplitl [HdH]; · iexact HdH
      isplitl [HdS1]; · iexists fd1; iexact HdS1
      iexact HdC1
    isplitl [Ho HoB]
    · isplitl [HoB]; · iexact HoB
      iexact Ho
    isplitl [HbB]; · iexact HbB
    iexact Hb
  iapply (loop_enter c XX XG XU XD OO OB) $$ HR
  iintro %acc ⟨%hacc, HR⟩
  subst hacc
  have w8 := chk8
  have w9 := chk9
  have w10 := chk10
  ihave HR' := (of_eq (resAt_end c XX XG XU XD OO OB)) $$ HR
  icases HR' with ⟨⟨%W', HW⟩, Hx, Hg, Hu, Hd, ⟨HoD, ⟨%fo, HoF⟩, HoS, HoC⟩, ⟨HbD, ⟨%fb, HbF⟩, HbS, HbC⟩⟩
  dsimp only [accAt]
  sl_exec
  sl_step
  iapply Hk
  isplitl [HW]; · iexists _; iexact HW
  irw [hI, idle, oFree, bFree, erase_one (oBlk c (TO c XX XG XU)) (ixS 343), erase_one (bBlk c (TB c XD)) (ixS 343)]
  isplitl [Hx Hg Hu Hd HoF_src HoF HoS HoC HbF_src HbF HbS HbC]
  · isplitl [Hx]; · iexact Hx
    isplitl [Hg]; · iexact Hg
    isplitl [Hu]; · iexact Hu
    isplitl [Hd]; · iexact Hd
    isplitl [HoF_src HoF HoS HoC]
    · isplitl [HoF_src HoF]
      · isplitl [HoF_src]; · iexists _; iexact HoF_src
        iexact HoF
      isplitl [HoS]; · iexact HoS
      iexact HoC
    isplitl [HbF_src HbF]
    · isplitl [HbF_src]; · iexists _; iexact HbF_src
      iexact HbF
    isplitl [HbS]; · iexact HbS
    iexact HbC
  isplitl [HoF_dst HoD]
  · isplitl [HoF_dst]; · iexact HoF_dst
    iexact HoD
  isplitl [HbF_dst]; · iexact HbF_dst
  iexact HbD

theorem bodyRun (W) (Q : PUnit → sProp 𝕄) :
    iprop((owes (c : Thread nD τ) 0 W ∗ idle c XX XG XU XD ∗ bigSep Finset.univ (oBlk c OO) ∗ bigSep Finset.univ (bBlk c OB))
      ∗ ((∃ W, owes (c : Thread nD τ) 0 W) ∗ idle c XX XG XU XD ∗ bigSep Finset.univ (oBlk c (TO c XX XG XU)) ∗ bigSep Finset.univ (bBlk c (TB c XD)) -∗ Q ⟨⟩))
      ⊢ wp frame (wpE (defs₀ (F := F)) 𝒱₀ (c : Thread nD τ) none) Set.univ bodyG Q :=
  bodyRun_of c XX XG XU XD OO OB _ rfl W Q

end Cert.GateUp
-- ==== Proof.Blocks.lean ====
/-
  The arrays as their blocks and the scratch buffers as their slots: whole, each is held piece by piece.
-/
module

public import proofs.«01_k».proof.Proof.Body

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XX : Buf (Elt F) ((Memref.whole main_arg0).view.loc (c : Thread nD τ))) (XG : Buf (Elt F) ((Memref.whole main_v0).view.loc (c : Thread nD τ)))
  (XU : Buf (Elt F) ((Memref.whole main_v1).view.loc (c : Thread nD τ))) (XD : Buf (Elt F) ((Memref.whole main_v2).view.loc (c : Thread nD τ)))
  (OO : Buf (Elt F) ((Memref.whole main_v3_0).view.loc (c : Thread nD τ))) (OB : Buf (Elt F) ((Memref.whole main_v3_1).view.loc (c : Thread nD τ)))

abbrev setX (b : Fin 8) : Finset S16384x4096.Idx := (Rect.unit (s := S16384x4096) (offX b) S2048x4096.size (offX_in b)).set
theorem mem_setX (b : Fin 8) (y : S16384x4096.Idx) : y ∈ setX b ↔ (y 0).val / 2048 = b.val := by
  rw [Rect.mem_set_unit]
  have h0 : (y 0).val < 16384 := (y 0).isLt
  have h1 : (y 1).val < 4096 := (y 1).isLt
  have hb := b.isLt
  constructor
  · intro H
    have a0 : 2048 * b.val ≤ (y 0).val ∧ (y 0).val < 2048 * b.val + 2048 := H 0
    have a1 : 0 ≤ (y 1).val ∧ (y 1).val < 0 + 4096 := H 1
    omega
  · intro H i; fin_cases i
    · show 2048 * b.val ≤ (y 0).val ∧ (y 0).val < 2048 * b.val + 2048; omega
    · show 0 ≤ (y 1).val ∧ (y 1).val < 0 + 4096; omega
theorem setX_disjoint : ∀ b b' : Fin 8, b ≠ b' → Disjoint (setX b) (setX b') := by
  intro b b' hne; rw [Finset.disjoint_left]; intro y hy hy'; rw [mem_setX] at hy hy'
  have hb := b.isLt; have hb' := b'.isLt
  exact hne (Fin.ext (by omega))
theorem setX_cover : (Finset.univ : Finset (Fin 8)).biUnion setX = Finset.univ := by
  ext y; simp only [Finset.mem_biUnion, Finset.mem_univ, _root_.true_and, iff_true]
  have h0 : (y 0).val < 16384 := (y 0).isLt
  have h1 : (y 1).val < 4096 := (y 1).isLt
  exact ⟨⟨(y 0).val / 2048, by omega⟩, by rw [mem_setX]⟩

abbrev setG (b : Fin 43) : Finset S4096x11008.Idx := (Rect.unit (s := S4096x11008) (offG b) S4096x256.size (offG_in b)).set
theorem mem_setG (b : Fin 43) (y : S4096x11008.Idx) : y ∈ setG b ↔ (y 1).val / 256 = b.val := by
  rw [Rect.mem_set_unit]
  have h0 : (y 0).val < 4096 := (y 0).isLt
  have h1 : (y 1).val < 11008 := (y 1).isLt
  have hb := b.isLt
  constructor
  · intro H
    have a0 : 0 ≤ (y 0).val ∧ (y 0).val < 0 + 4096 := H 0
    have a1 : 256 * b.val ≤ (y 1).val ∧ (y 1).val < 256 * b.val + 256 := H 1
    omega
  · intro H i; fin_cases i
    · show 0 ≤ (y 0).val ∧ (y 0).val < 0 + 4096; omega
    · show 256 * b.val ≤ (y 1).val ∧ (y 1).val < 256 * b.val + 256; omega
theorem setG_disjoint : ∀ b b' : Fin 43, b ≠ b' → Disjoint (setG b) (setG b') := by
  intro b b' hne; rw [Finset.disjoint_left]; intro y hy hy'; rw [mem_setG] at hy hy'
  have hb := b.isLt; have hb' := b'.isLt
  exact hne (Fin.ext (by omega))
theorem setG_cover : (Finset.univ : Finset (Fin 43)).biUnion setG = Finset.univ := by
  ext y; simp only [Finset.mem_biUnion, Finset.mem_univ, _root_.true_and, iff_true]
  have h0 : (y 0).val < 4096 := (y 0).isLt
  have h1 : (y 1).val < 11008 := (y 1).isLt
  exact ⟨⟨(y 1).val / 256, by omega⟩, by rw [mem_setG]⟩

abbrev setD (b : Fin 344) : Finset S11008x4096.Idx := (Rect.unit (s := S11008x4096) (offD b) S32x4096.size (offD_in b)).set
theorem mem_setD (b : Fin 344) (y : S11008x4096.Idx) : y ∈ setD b ↔ (y 0).val / 32 = b.val := by
  rw [Rect.mem_set_unit]
  have h0 : (y 0).val < 11008 := (y 0).isLt
  have h1 : (y 1).val < 4096 := (y 1).isLt
  have hb := b.isLt
  constructor
  · intro H
    have a0 : 32 * b.val ≤ (y 0).val ∧ (y 0).val < 32 * b.val + 32 := H 0
    have a1 : 0 ≤ (y 1).val ∧ (y 1).val < 0 + 4096 := H 1
    omega
  · intro H i; fin_cases i
    · show 32 * b.val ≤ (y 0).val ∧ (y 0).val < 32 * b.val + 32; omega
    · show 0 ≤ (y 1).val ∧ (y 1).val < 0 + 4096; omega
theorem setD_disjoint : ∀ b b' : Fin 344, b ≠ b' → Disjoint (setD b) (setD b') := by
  intro b b' hne; rw [Finset.disjoint_left]; intro y hy hy'; rw [mem_setD] at hy hy'
  have hb := b.isLt; have hb' := b'.isLt
  exact hne (Fin.ext (by omega))
theorem setD_cover : (Finset.univ : Finset (Fin 344)).biUnion setD = Finset.univ := by
  ext y; simp only [Finset.mem_biUnion, Finset.mem_univ, _root_.true_and, iff_true]
  have h0 : (y 0).val < 11008 := (y 0).isLt
  have h1 : (y 1).val < 4096 := (y 1).isLt
  exact ⟨⟨(y 0).val / 32, by omega⟩, by rw [mem_setD]⟩

abbrev setO (b : Fin 344) : Finset S16384x11008.Idx := (Rect.unit (s := S16384x11008) (offO b) S2048x256.size (offO_in b)).set
theorem mem_setO (b : Fin 344) (y : S16384x11008.Idx) : y ∈ setO b ↔ (y 0).val / 2048 = b.val / 43 ∧ (y 1).val / 256 = b.val % 43 := by
  rw [Rect.mem_set_unit]
  have h0 : (y 0).val < 16384 := (y 0).isLt
  have h1 : (y 1).val < 11008 := (y 1).isLt
  have hb := b.isLt
  constructor
  · intro H
    have a0 : 2048 * (b.val / 43) ≤ (y 0).val ∧ (y 0).val < 2048 * (b.val / 43) + 2048 := H 0
    have a1 : 256 * (b.val % 43) ≤ (y 1).val ∧ (y 1).val < 256 * (b.val % 43) + 256 := H 1
    omega
  · intro H i; fin_cases i
    · show 2048 * (b.val / 43) ≤ (y 0).val ∧ (y 0).val < 2048 * (b.val / 43) + 2048; omega
    · show 256 * (b.val % 43) ≤ (y 1).val ∧ (y 1).val < 256 * (b.val % 43) + 256; omega
theorem setO_disjoint : ∀ b b' : Fin 344, b ≠ b' → Disjoint (setO b) (setO b') := by
  intro b b' hne; rw [Finset.disjoint_left]; intro y hy hy'; rw [mem_setO] at hy hy'
  have hb := b.isLt; have hb' := b'.isLt
  exact hne (Fin.ext (by omega))
theorem setO_cover : (Finset.univ : Finset (Fin 344)).biUnion setO = Finset.univ := by
  ext y; simp only [Finset.mem_biUnion, Finset.mem_univ, _root_.true_and, iff_true]
  have h0 : (y 0).val < 16384 := (y 0).isLt
  have h1 : (y 1).val < 11008 := (y 1).isLt
  exact ⟨⟨(y 0).val / 2048 * 43 + (y 1).val / 256, by omega⟩, by rw [mem_setO]; constructor <;> simp only <;> omega⟩

abbrev halfx2048x4096 (s : Fin 2) : Finset S2x2048x4096.Idx := (Rect.unit (s := S2x2048x4096) (off3 s) S1x2048x4096.size (off3_in_S2048x4096 s)).set
theorem mem_halfx2048x4096 (s : Fin 2) (y : S2x2048x4096.Idx) : y ∈ halfx2048x4096 s ↔ (y 0).val = s.val := by
  rw [Rect.mem_set_unit]
  have h1 : (y 1).val < 2048 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 4096; omega
theorem halfx2048x4096_disjoint : ∀ s s' : Fin 2, s ≠ s' → Disjoint (halfx2048x4096 s) (halfx2048x4096 s') := by
  intro s s' hne; rw [Finset.disjoint_left]; intro y hy hy'; rw [mem_halfx2048x4096] at hy hy'; exact hne (Fin.ext (hy.symm.trans hy'))
theorem halfx2048x4096_cover : (Finset.univ : Finset (Fin 2)).biUnion halfx2048x4096 = Finset.univ := by
  ext y; simp only [Finset.mem_biUnion, Finset.mem_univ, _root_.true_and, iff_true]; exact ⟨(y 0).cast (by decide), by rw [mem_halfx2048x4096]; rfl⟩

abbrev halfx4096x256 (s : Fin 2) : Finset S2x4096x256.Idx := (Rect.unit (s := S2x4096x256) (off3 s) S1x4096x256.size (off3_in_S4096x256 s)).set
theorem mem_halfx4096x256 (s : Fin 2) (y : S2x4096x256.Idx) : y ∈ halfx4096x256 s ↔ (y 0).val = s.val := by
  rw [Rect.mem_set_unit]
  have h1 : (y 1).val < 4096 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 256; omega
theorem halfx4096x256_disjoint : ∀ s s' : Fin 2, s ≠ s' → Disjoint (halfx4096x256 s) (halfx4096x256 s') := by
  intro s s' hne; rw [Finset.disjoint_left]; intro y hy hy'; rw [mem_halfx4096x256] at hy hy'; exact hne (Fin.ext (hy.symm.trans hy'))
theorem halfx4096x256_cover : (Finset.univ : Finset (Fin 2)).biUnion halfx4096x256 = Finset.univ := by
  ext y; simp only [Finset.mem_biUnion, Finset.mem_univ, _root_.true_and, iff_true]; exact ⟨(y 0).cast (by decide), by rw [mem_halfx4096x256]; rfl⟩

abbrev halfx32x4096 (s : Fin 2) : Finset S2x32x4096.Idx := (Rect.unit (s := S2x32x4096) (off3 s) S1x32x4096.size (off3_in_S32x4096 s)).set
theorem mem_halfx32x4096 (s : Fin 2) (y : S2x32x4096.Idx) : y ∈ halfx32x4096 s ↔ (y 0).val = s.val := by
  rw [Rect.mem_set_unit]
  have h1 : (y 1).val < 32 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 32; omega
    · show 0 ≤ (y 2).val ∧ (y 2).val < 0 + 4096; omega
theorem halfx32x4096_disjoint : ∀ s s' : Fin 2, s ≠ s' → Disjoint (halfx32x4096 s) (halfx32x4096 s') := by
  intro s s' hne; rw [Finset.disjoint_left]; intro y hy hy'; rw [mem_halfx32x4096] at hy hy'; exact hne (Fin.ext (hy.symm.trans hy'))
theorem halfx32x4096_cover : (Finset.univ : Finset (Fin 2)).biUnion halfx32x4096 = Finset.univ := by
  ext y; simp only [Finset.mem_biUnion, Finset.mem_univ, _root_.true_and, iff_true]; exact ⟨(y 0).cast (by decide), by rw [mem_halfx32x4096]; rfl⟩

abbrev halfx2048x256 (s : Fin 2) : Finset S2x2048x256.Idx := (Rect.unit (s := S2x2048x256) (off3 s) S1x2048x256.size (off3_in_S2048x256 s)).set
theorem mem_halfx2048x256 (s : Fin 2) (y : S2x2048x256.Idx) : y ∈ halfx2048x256 s ↔ (y 0).val = s.val := by
  rw [Rect.mem_set_unit]
  have h1 : (y 1).val < 2048 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 256; omega
theorem halfx2048x256_disjoint : ∀ s s' : Fin 2, s ≠ s' → Disjoint (halfx2048x256 s) (halfx2048x256 s') := by
  intro s s' hne; rw [Finset.disjoint_left]; intro y hy hy'; rw [mem_halfx2048x256] at hy hy'; exact hne (Fin.ext (hy.symm.trans hy'))
theorem halfx2048x256_cover : (Finset.univ : Finset (Fin 2)).biUnion halfx2048x256 = Finset.univ := by
  ext y; simp only [Finset.mem_biUnion, Finset.mem_univ, _root_.true_and, iff_true]; exact ⟨(y 0).cast (by decide), by rw [mem_halfx2048x256]; rfl⟩

theorem two (Φ : Fin 2 → sProp 𝕄) : bigSep Finset.univ Φ = iprop(Φ 0 ∗ Φ 1) :=
  bigSep_univ_eq_bigSepL [(0 : Fin 2), (1 : Fin 2)] (by decide) (by decide) Φ

theorem xB_set (b : Fin 8) : (xB b).view.set = setX b := View.set_slice_whole _ _
theorem xS_set (s : Fin 2) : (xS s).view.set = halfx2048x4096 s := (View.set_reshape _ _).trans (View.set_slice_whole _ _)
/-- `main_arg0` whole is its blocks. -/
theorem x_blocks (A : Buf (Elt F) ((Memref.whole main_arg0).view.loc (c : Thread nD τ))) :
    (((c : Thread nD τ).loc main_arg0) ↦{fullShare} A : sProp 𝕄) = bigSep Finset.univ (xBlk c A) := by
  rw [Ring.pointsTo_blocks (ℓ := (c : Thread nD τ).loc main_arg0) setX setX_disjoint setX_cover]
  exact bigSep_congr fun b _ => by rw [← xB_set]; rfl
theorem xSlot_eq (s : Fin 2) (f) : xSlot c s f = (((c : Thread nD τ).loc cc0_scoped0) ↦[halfx2048x4096 s]{fullShare} f : sProp 𝕄) :=
  congrArg (fun S => (_ ↦[S]{fullShare} f : sProp 𝕄)) (xS_set s)
/-- `cc0_scoped0` is its two slots; -/
theorem x_split :
    iprop(∃ f : Buf (Elt F) ((c : Thread nD τ).loc cc0_scoped0), ((c : Thread nD τ).loc cc0_scoped0) ↦{fullShare} f)
      ⊢ (iprop((∃ f, xSlot c 0 f) ∗ ∃ f, xSlot c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped0) halfx2048x4096 halfx2048x4096_disjoint halfx2048x4096_cover f).trans (two _))) $$ H
  icases H2 with ⟨H0, H1⟩
  isplitl [H0]
  · iexists f; iapply (of_eq (xSlot_eq c 0 f).symm); iexact H0
  · iexists f; iapply (of_eq (xSlot_eq c 1 f).symm); iexact H1
/-- and back. -/
theorem x_join :
    iprop((∃ f, xSlot c 0 f) ∗ ∃ f, xSlot c 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) halfx2048x4096 halfx2048x4096_disjoint halfx2048x4096_cover f0)
  irw [two]
  isplitl [H0]
  · iexists f0; iapply (of_eq (xSlot_eq c 0 f0)); iexact H0
  · iexists f1; iapply (of_eq (xSlot_eq c 1 f1)); iexact H1

theorem gB_set (b : Fin 43) : (gB b).view.set = setG b := View.set_slice_whole _ _
theorem gS_set (s : Fin 2) : (gS s).view.set = halfx4096x256 s := (View.set_reshape _ _).trans (View.set_slice_whole _ _)
/-- `main_v0` whole is its blocks. -/
theorem g_blocks (A : Buf (Elt F) ((Memref.whole main_v0).view.loc (c : Thread nD τ))) :
    (((c : Thread nD τ).loc main_v0) ↦{fullShare} A : sProp 𝕄) = bigSep Finset.univ (gBlk c A) := by
  rw [Ring.pointsTo_blocks (ℓ := (c : Thread nD τ).loc main_v0) setG setG_disjoint setG_cover]
  exact bigSep_congr fun b _ => by rw [← gB_set]; rfl
theorem gSlot_eq (s : Fin 2) (f) : gSlot c s f = (((c : Thread nD τ).loc cc0_scoped2) ↦[halfx4096x256 s]{fullShare} f : sProp 𝕄) :=
  congrArg (fun S => (_ ↦[S]{fullShare} f : sProp 𝕄)) (gS_set s)
/-- `cc0_scoped2` is its two slots; -/
theorem g_split :
    iprop(∃ f : Buf (Elt F) ((c : Thread nD τ).loc cc0_scoped2), ((c : Thread nD τ).loc cc0_scoped2) ↦{fullShare} f)
      ⊢ (iprop((∃ f, gSlot c 0 f) ∗ ∃ f, gSlot c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped2) halfx4096x256 halfx4096x256_disjoint halfx4096x256_cover f).trans (two _))) $$ H
  icases H2 with ⟨H0, H1⟩
  isplitl [H0]
  · iexists f; iapply (of_eq (gSlot_eq c 0 f).symm); iexact H0
  · iexists f; iapply (of_eq (gSlot_eq c 1 f).symm); iexact H1
/-- and back. -/
theorem g_join :
    iprop((∃ f, gSlot c 0 f) ∗ ∃ f, gSlot c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) halfx4096x256 halfx4096x256_disjoint halfx4096x256_cover f0)
  irw [two]
  isplitl [H0]
  · iexists f0; iapply (of_eq (gSlot_eq c 0 f0)); iexact H0
  · iexists f1; iapply (of_eq (gSlot_eq c 1 f1)); iexact H1

theorem uB_set (b : Fin 43) : (uB b).view.set = setG b := View.set_slice_whole _ _
theorem uS_set (s : Fin 2) : (uS s).view.set = halfx4096x256 s := (View.set_reshape _ _).trans (View.set_slice_whole _ _)
/-- `main_v1` whole is its blocks. -/
theorem u_blocks (A : Buf (Elt F) ((Memref.whole main_v1).view.loc (c : Thread nD τ))) :
    (((c : Thread nD τ).loc main_v1) ↦{fullShare} A : sProp 𝕄) = bigSep Finset.univ (uBlk c A) := by
  rw [Ring.pointsTo_blocks (ℓ := (c : Thread nD τ).loc main_v1) setG setG_disjoint setG_cover]
  exact bigSep_congr fun b _ => by rw [← uB_set]; rfl
theorem uSlot_eq (s : Fin 2) (f) : uSlot c s f = (((c : Thread nD τ).loc cc0_scoped4) ↦[halfx4096x256 s]{fullShare} f : sProp 𝕄) :=
  congrArg (fun S => (_ ↦[S]{fullShare} f : sProp 𝕄)) (uS_set s)
/-- `cc0_scoped4` is its two slots; -/
theorem u_split :
    iprop(∃ f : Buf (Elt F) ((c : Thread nD τ).loc cc0_scoped4), ((c : Thread nD τ).loc cc0_scoped4) ↦{fullShare} f)
      ⊢ (iprop((∃ f, uSlot c 0 f) ∗ ∃ f, uSlot c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped4) halfx4096x256 halfx4096x256_disjoint halfx4096x256_cover f).trans (two _))) $$ H
  icases H2 with ⟨H0, H1⟩
  isplitl [H0]
  · iexists f; iapply (of_eq (uSlot_eq c 0 f).symm); iexact H0
  · iexists f; iapply (of_eq (uSlot_eq c 1 f).symm); iexact H1
/-- and back. -/
theorem u_join :
    iprop((∃ f, uSlot c 0 f) ∗ ∃ f, uSlot c 1 f)
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) halfx4096x256 halfx4096x256_disjoint halfx4096x256_cover f0)
  irw [two]
  isplitl [H0]
  · iexists f0; iapply (of_eq (uSlot_eq c 0 f0)); iexact H0
  · iexists f1; iapply (of_eq (uSlot_eq c 1 f1)); iexact H1

theorem dB_set (b : Fin 344) : (dB b).view.set = setD b := View.set_slice_whole _ _
theorem dS_set (s : Fin 2) : (dS s).view.set = halfx32x4096 s := (View.set_reshape _ _).trans (View.set_slice_whole _ _)
/-- `main_v2` whole is its blocks. -/
theorem d_blocks (A : Buf (Elt F) ((Memref.whole main_v2).view.loc (c : Thread nD τ))) :
    (((c : Thread nD τ).loc main_v2) ↦{fullShare} A : sProp 𝕄) = bigSep Finset.univ (dBlk c A) := by
  rw [Ring.pointsTo_blocks (ℓ := (c : Thread nD τ).loc main_v2) setD setD_disjoint setD_cover]
  exact bigSep_congr fun b _ => by rw [← dB_set]; rfl
theorem dSlot_eq (s : Fin 2) (f) : dSlot c s f = (((c : Thread nD τ).loc cc0_scoped6) ↦[halfx32x4096 s]{fullShare} f : sProp 𝕄) :=
  congrArg (fun S => (_ ↦[S]{fullShare} f : sProp 𝕄)) (dS_set s)
/-- `cc0_scoped6` is its two slots; -/
theorem d_split :
    iprop(∃ f : Buf (Elt F) ((c : Thread nD τ).loc cc0_scoped6), ((c : Thread nD τ).loc cc0_scoped6) ↦{fullShare} f)
      ⊢ (iprop((∃ f, dSlot c 0 f) ∗ ∃ f, dSlot c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped6) halfx32x4096 halfx32x4096_disjoint halfx32x4096_cover f).trans (two _))) $$ H
  icases H2 with ⟨H0, H1⟩
  isplitl [H0]
  · iexists f; iapply (of_eq (dSlot_eq c 0 f).symm); iexact H0
  · iexists f; iapply (of_eq (dSlot_eq c 1 f).symm); iexact H1
/-- and back. -/
theorem d_join :
    iprop((∃ f, dSlot c 0 f) ∗ ∃ f, dSlot c 1 f)
      ⊢ (iprop(∃ f : Buf (Elt F) ((c : Thread nD τ).loc cc0_scoped6), ((c : Thread nD τ).loc cc0_scoped6) ↦{fullShare} f) : sProp 𝕄) := by
  iintro ⟨⟨%f0, H0⟩, ⟨%f1, H1⟩⟩
  iapply (Ring.pointsTo_blocks_join_exists (ℓ := (c : Thread nD τ).loc cc0_scoped6) halfx32x4096 halfx32x4096_disjoint halfx32x4096_cover f0)
  irw [two]
  isplitl [H0]
  · iexists f0; iapply (of_eq (dSlot_eq c 0 f0)); iexact H0
  · iexists f1; iapply (of_eq (dSlot_eq c 1 f1)); iexact H1

theorem oB_set (b : Fin 344) : (oB b).view.set = setO b := View.set_slice_whole _ _
theorem oS_set (s : Fin 2) : (oS s).view.set = halfx2048x256 s := (View.set_reshape _ _).trans (View.set_slice_whole _ _)
/-- `main_v3_0` whole is its blocks. -/
theorem o_blocks (A : Buf (Elt F) ((Memref.whole main_v3_0).view.loc (c : Thread nD τ))) :
    (((c : Thread nD τ).loc main_v3_0) ↦{fullShare} A : sProp 𝕄) = bigSep Finset.univ (oBlk c A) := by
  rw [Ring.pointsTo_blocks (ℓ := (c : Thread nD τ).loc main_v3_0) setO setO_disjoint setO_cover]
  exact bigSep_congr fun b _ => by rw [← oB_set]; rfl
theorem oSlot_eq (s : Fin 2) (f) : oSlot c s f = (((c : Thread nD τ).loc cc0_scoped8) ↦[halfx2048x256 s]{fullShare} f : sProp 𝕄) :=
  congrArg (fun S => (_ ↦[S]{fullShare} f : sProp 𝕄)) (oS_set s)
/-- `cc0_scoped8` is its two slots; -/
theorem o_split :
    iprop(∃ f : Buf (Elt F) ((c : Thread nD τ).loc cc0_scoped8), ((c : Thread nD τ).loc cc0_scoped8) ↦{fullShare} f)
      ⊢ (iprop((∃ f, oSlot c 0 f) ∗ ∃ f, oSlot c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped8) halfx2048x256 halfx2048x256_disjoint halfx2048x256_cover f).trans (two _))) $$ H
  icases H2 with ⟨H0, H1⟩
  isplitl [H0]
  · iexists f; iapply (of_eq (oSlot_eq c 0 f).symm); iexact H0
  · iexists f; iapply (of_eq (oSlot_eq c 1 f).symm); iexact H1
/-- and back. -/
theorem o_join :
    iprop((∃ f, oSlot c 0 f) ∗ ∃ f, oSlot c 1 f)
      ⊢ (iprop(∃ f : Buf (Elt F) ((c : Thread nD τ).loc cc0_scoped8), ((c : Thread nD τ).loc cc0_scoped8) ↦{fullShare} f) : sProp 𝕄) := by
  iintro ⟨⟨%f0, H0⟩, ⟨%f1, H1⟩⟩
  iapply (Ring.pointsTo_blocks_join_exists (ℓ := (c : Thread nD τ).loc cc0_scoped8) halfx2048x256 halfx2048x256_disjoint halfx2048x256_cover f0)
  irw [two]
  isplitl [H0]
  · iexists f0; iapply (of_eq (oSlot_eq c 0 f0)); iexact H0
  · iexists f1; iapply (of_eq (oSlot_eq c 1 f1)); iexact H1

theorem bB_set (b : Fin 344) : (bB b).view.set = setD b := View.set_slice_whole _ _
theorem bS_set (s : Fin 2) : (bS s).view.set = halfx32x4096 s := (View.set_reshape _ _).trans (View.set_slice_whole _ _)
/-- `main_v3_1` whole is its blocks. -/
theorem b_blocks (A : Buf (Elt F) ((Memref.whole main_v3_1).view.loc (c : Thread nD τ))) :
    (((c : Thread nD τ).loc main_v3_1) ↦{fullShare} A : sProp 𝕄) = bigSep Finset.univ (bBlk c A) := by
  rw [Ring.pointsTo_blocks (ℓ := (c : Thread nD τ).loc main_v3_1) setD setD_disjoint setD_cover]
  exact bigSep_congr fun b _ => by rw [← bB_set]; rfl
theorem bSlot_eq (s : Fin 2) (f) : bSlot c s f = (((c : Thread nD τ).loc cc0_scoped10) ↦[halfx32x4096 s]{fullShare} f : sProp 𝕄) :=
  congrArg (fun S => (_ ↦[S]{fullShare} f : sProp 𝕄)) (bS_set s)
/-- `cc0_scoped10` is its two slots; -/
theorem b_split :
    iprop(∃ f : Buf (Elt F) ((c : Thread nD τ).loc cc0_scoped10), ((c : Thread nD τ).loc cc0_scoped10) ↦{fullShare} f)
      ⊢ (iprop((∃ f, bSlot c 0 f) ∗ ∃ f, bSlot c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped10) halfx32x4096 halfx32x4096_disjoint halfx32x4096_cover f).trans (two _))) $$ H
  icases H2 with ⟨H0, H1⟩
  isplitl [H0]
  · iexists f; iapply (of_eq (bSlot_eq c 0 f).symm); iexact H0
  · iexists f; iapply (of_eq (bSlot_eq c 1 f).symm); iexact H1
/-- and back. -/
theorem b_join :
    iprop((∃ f, bSlot c 0 f) ∗ ∃ f, bSlot c 1 f)
      ⊢ (iprop(∃ f : Buf (Elt F) ((c : Thread nD τ).loc cc0_scoped10), ((c : Thread nD τ).loc cc0_scoped10) ↦{fullShare} f) : sProp 𝕄) := by
  iintro ⟨⟨%f0, H0⟩, ⟨%f1, H1⟩⟩
  iapply (Ring.pointsTo_blocks_join_exists (ℓ := (c : Thread nD τ).loc cc0_scoped10) halfx32x4096 halfx32x4096_disjoint halfx32x4096_cover f0)
  irw [two]
  isplitl [H0]
  · iexists f0; iapply (of_eq (bSlot_eq c 0 f0)); iexact H0
  · iexists f1; iapply (of_eq (bSlot_eq c 1 f1)); iexact H1

end Cert.GateUp
-- ==== Proof.Run.lean ====
/-
  The gate and up projections' launch: @main runs, its results hold the product and the narrowed down weights.
-/
module

public import proofs.«01_k».proof.Proof.Blocks
public import proofs.«01_k».proof.Proof.Gen.KernelIdeal.Frame
public import Idealize.ShloMosaic.Lib.Pipeline.Routed

@[expose] public section

noncomputable section

namespace Cert.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-! ## The twelve semaphores -/

def osem : Fin 12 → SemLoc sig := ![
  .dma (xC 0).sem, .dma (xC 1).sem, .dma (gC 0).sem, .dma (gC 1).sem, .dma (uC 0).sem, .dma (uC 1).sem, .dma (dC 0).sem, .dma (dC 1).sem, .dma (oC 0).sem, .dma (oC 1).sem, .dma (bC 0).sem, .dma (bC 1).sem]
theorem osem_own : Pipeline.OwnSemFacts (cfg0).spec osem := by decide

theorem ownSems0_list (c : Dev nD) : (Pipeline.ownSems0 (Ix := Unit) (Name := ℕ) (U := UU nD τ) (Lvl := ℕ) (Val := Elt F) (τ := τ) osem c : sProp 𝕄)
    = iprop(xCell c 0 ∗ xCell c 1 ∗ gCell c 0 ∗ gCell c 1 ∗ uCell c 0 ∗ uCell c 1 ∗ dCell c 0 ∗ dCell c 1 ∗ oCell c 0 ∗ oCell c 1 ∗ bCell c 0 ∗ bCell c 1) := by
  rw [Pipeline.ownSems0_eq_of_list c osem [0, 1, 2, 3, 4, 5, 6, 7, 8, 9, 10, 11] (by decide) (by decide)]; rfl

/-! ## What the region finds and leaves -/

abbrev VX (c : Dev nD) : Buf (Elt F) ((Memref.whole main_arg0).view.loc (c : Thread nD τ)) := V m c main_arg0
abbrev VG (c : Dev nD) : Buf (Elt F) ((Memref.whole main_v0).view.loc (c : Thread nD τ)) := V m c main_v0
abbrev VU (c : Dev nD) : Buf (Elt F) ((Memref.whole main_v1).view.loc (c : Thread nD τ)) := V m c main_v1
abbrev VD (c : Dev nD) : Buf (Elt F) ((Memref.whole main_v2).view.loc (c : Thread nD τ)) := V m c main_v2
abbrev VO (c : Dev nD) : Buf (Elt F) ((Memref.whole main_v3_0).view.loc (c : Thread nD τ)) := V m c main_v3_0
abbrev VB (c : Dev nD) : Buf (Elt F) ((Memref.whole main_v3_1).view.loc (c : Thread nD τ)) := V m c main_v3_1
/-- The results. -/
abbrev outO (c : Dev nD) : Buf (Elt F) ((Memref.whole main_v3_0).view.loc (c : Thread nD τ)) := TO c (VX m c) (VG m c) (VU m c)
abbrev outB (c : Dev nD) : Buf (Elt F) ((Memref.whole main_v3_1).view.loc (c : Thread nD τ)) := TB c (VD m c)

/-- The buffers the body is given. -/
def RB : Finset (Ref sig .tc) := {main_arg0, main_v0, main_v1, main_v2, main_v3_0, main_v3_1}
theorem RB_sub : RB ⊆ Pipeline.restRefs sig (cfg0).spec := by decide

/-- Their contents after the region. -/
def Y (c : Dev nD) (b : Ref sig .tc) : Buf (Elt F) ((c : Thread nD τ).loc b) :=
  Function.update (Function.update (V m c) main_v3_0 (outO m c)) main_v3_1 (outB m c) b
theorem Y_other (c : Dev nD) {b : Ref sig .tc} (h : b ≠ main_v3_0) (h' : b ≠ main_v3_1) : Y m c b = V m c b := by
  unfold Y; rw [Function.update_of_ne h', Function.update_of_ne h]
theorem Y_o (c : Dev nD) : Y m c main_v3_0 = outO m c := by
  unfold Y; rw [Function.update_of_ne (by decide), Function.update_self]
theorem Y_b (c : Dev nD) : Y m c main_v3_1 = outB m c := by
  unfold Y; rw [Function.update_self]

theorem routed_list (c : Dev nD) (W : (b : Ref sig .tc) → Buf (Elt F) ((c : Thread nD τ).loc b)) :
    (Pipeline.routed RB c W : sProp 𝕄) = iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3_0) ↦{fullShare} W main_v3_0) ∗ (((c : Thread nD τ).loc main_v3_1) ↦{fullShare} W main_v3_1)) :=
  BI.bigSep_eq_bigSepL_of_eq [main_arg0, main_v0, main_v1, main_v2, main_v3_0, main_v3_1] (by decide) (by decide) _

/-- The rings idle, and the results' blocks at the given contents. -/
def held (c : Dev nD) (OO : Buf (Elt F) ((Memref.whole main_v3_0).view.loc (c : Thread nD τ)))
    (OB : Buf (Elt F) ((Memref.whole main_v3_1).view.loc (c : Thread nD τ))) : sProp 𝕄 :=
  iprop((idle c (VX m c) (VG m c) (VU m c) (VD m c) ∗ bigSep Finset.univ (oBlk c OO) ∗ bigSep Finset.univ (bBlk c OB)) ∗ ∃ r, prngReg c r)

set_option backward.isDefEq.respectTransparency.types false in
theorem ends_held (c : Dev nD) (W : (b : Ref sig .tc) → Buf (Elt F) ((c : Thread nD τ).loc b)) (hx : W main_arg0 = VX m c) (hg : W main_v0 = VG m c)
    (hu : W main_v1 = VU m c) (hd : W main_v2 = VD m c) :
    (Pipeline.Ends (Val := Elt F) (cfg0).spec osem RB c W : sProp 𝕄) ⊢ held m c (W main_v3_0) (W main_v3_1) := by
  unfold Pipeline.Ends held idle
  rw [routed_list, ownSems0_list, scopedRest0_eq, hx, hg, hu, hd, xFree, gFree, uFree, dFree, oFree, bFree]
  iintro ⟨⟨Hx, Hg, Hu, Hd, Ho, Hb⟩, ⟨Cx0, Cx1, Cg0, Cg1, Cu0, Cu1, Cd0, Cd1, Co0, Co1, Cb0, Cb1⟩, ⟨Sx, Sg, Su, Sd, So, Sb⟩, HP⟩
  ihave Tx := (x_split c) $$ Sx
  icases Tx with ⟨Sx0, Sx1⟩
  ihave Bx := (of_eq (x_blocks c (VX m c))) $$ Hx
  ihave Tg := (g_split c) $$ Sg
  icases Tg with ⟨Sg0, Sg1⟩
  ihave Bg := (of_eq (g_blocks c (VG m c))) $$ Hg
  ihave Tu := (u_split c) $$ Su
  icases Tu with ⟨Su0, Su1⟩
  ihave Bu := (of_eq (u_blocks c (VU m c))) $$ Hu
  ihave Td := (d_split c) $$ Sd
  icases Td with ⟨Sd0, Sd1⟩
  ihave Bd := (of_eq (d_blocks c (VD m c))) $$ Hd
  ihave To := (o_split c) $$ So
  icases To with ⟨So0, So1⟩
  ihave Bo := (of_eq (o_blocks c (W main_v3_0))) $$ Ho
  ihave Tb := (b_split c) $$ Sb
  icases Tb with ⟨Sb0, Sb1⟩
  ihave Bb := (of_eq (b_blocks c (W main_v3_1))) $$ Hb
  isplitr [HP]
  · isplitr [Bo Bb]
    · isplitl [Sx0 Cx0 Bx Sx1 Cx1]
      · isplitl [Sx0]; · iexact Sx0
        isplitl [Cx0]; · iexact Cx0
        isplitl [Bx]; · iexact Bx
        isplitl [Sx1]; · iexact Sx1
        iexact Cx1
      isplitl [Sg0 Cg0 Bg Sg1 Cg1]
      · isplitl [Sg0]; · iexact Sg0
        isplitl [Cg0]; · iexact Cg0
        isplitl [Bg]; · iexact Bg
        isplitl [Sg1]; · iexact Sg1
        iexact Cg1
      isplitl [Su0 Cu0 Bu Su1 Cu1]
      · isplitl [Su0]; · iexact Su0
        isplitl [Cu0]; · iexact Cu0
        isplitl [Bu]; · iexact Bu
        isplitl [Su1]; · iexact Su1
        iexact Cu1
      isplitl [Sd0 Cd0 Bd Sd1 Cd1]
      · isplitl [Sd0]; · iexact Sd0
        isplitl [Cd0]; · iexact Cd0
        isplitl [Bd]; · iexact Bd
        isplitl [Sd1]; · iexact Sd1
        iexact Cd1
      isplitl [So0 Co0 So1 Co1]
      · isplitl [So1 Co1]
        · isplitl [So1]; · iexact So1
          iexact Co1
        isplitl [So0]; · iexact So0
        iexact Co0
      isplitl [Sb1 Cb1]
      · isplitl [Sb1]; · iexact Sb1
        iexact Cb1
      isplitl [Sb0]; · iexact Sb0
      iexact Cb0
    · isplitl [Bo]; · iexact Bo
      iexact Bb
  · iexact HP

set_option backward.isDefEq.respectTransparency.types false in
theorem held_ends (c : Dev nD) (W : (b : Ref sig .tc) → Buf (Elt F) ((c : Thread nD τ).loc b)) (hx : W main_arg0 = VX m c) (hg : W main_v0 = VG m c)
    (hu : W main_v1 = VU m c) (hd : W main_v2 = VD m c) :
    held m c (W main_v3_0) (W main_v3_1) ⊢ (Pipeline.Ends (Val := Elt F) (cfg0).spec osem RB c W : sProp 𝕄) := by
  unfold Pipeline.Ends held idle
  rw [routed_list, ownSems0_list, scopedRest0_eq, hx, hg, hu, hd, xFree, gFree, uFree, dFree, oFree, bFree]
  iintro ⟨⟨⟨⟨Sx0, Cx0, Bx, Sx1, Cx1⟩, ⟨Sg0, Cg0, Bg, Sg1, Cg1⟩, ⟨Su0, Cu0, Bu, Su1, Cu1⟩, ⟨Sd0, Cd0, Bd, Sd1, Cd1⟩, ⟨⟨So1, Co1⟩, So0, Co0⟩, ⟨Sb1, Cb1⟩, Sb0, Cb0⟩, Bo, Bb⟩, HP⟩
  isplitl [Bx Bg Bu Bd Bo Bb]
  · isplitl [Bx]; · iapply (of_eq (x_blocks c (VX m c)).symm); iexact Bx
    isplitl [Bg]; · iapply (of_eq (g_blocks c (VG m c)).symm); iexact Bg
    isplitl [Bu]; · iapply (of_eq (u_blocks c (VU m c)).symm); iexact Bu
    isplitl [Bd]; · iapply (of_eq (d_blocks c (VD m c)).symm); iexact Bd
    isplitl [Bo]; · iapply (of_eq (o_blocks c (W main_v3_0)).symm); iexact Bo
    iapply (of_eq (b_blocks c (W main_v3_1)).symm); iexact Bb
  isplitl [Cx0 Cx1 Cg0 Cg1 Cu0 Cu1 Cd0 Cd1 Co0 Co1 Cb0 Cb1]
  · isplitl [Cx0]; · iexact Cx0
    isplitl [Cx1]; · iexact Cx1
    isplitl [Cg0]; · iexact Cg0
    isplitl [Cg1]; · iexact Cg1
    isplitl [Cu0]; · iexact Cu0
    isplitl [Cu1]; · iexact Cu1
    isplitl [Cd0]; · iexact Cd0
    isplitl [Cd1]; · iexact Cd1
    isplitl [Co0]; · iexact Co0
    isplitl [Co1]; · iexact Co1
    isplitl [Cb0]; · iexact Cb0
    iexact Cb1
  isplitr [HP]
  · isplitl [Sx0 Sx1]
    · iapply (x_join c); isplitl [Sx0]; · iexact Sx0
      iexact Sx1
    isplitl [Sg0 Sg1]
    · iapply (g_join c); isplitl [Sg0]; · iexact Sg0
      iexact Sg1
    isplitl [Su0 Su1]
    · iapply (u_join c); isplitl [Su0]; · iexact Su0
      iexact Su1
    isplitl [Sd0 Sd1]
    · iapply (d_join c); isplitl [Sd0]; · iexact Sd0
      iexact Sd1
    isplitl [So0 So1]
    · iapply (o_join c); isplitl [So0]; · iexact So0
      iexact So1
    iapply (b_join c); isplitl [Sb0]; · iexact Sb0
    iexact Sb1
  · iexact HP

/-! ## The run -/

/-- The region's invariant before and after its one point. -/
def phi (c : Dev nD) (t : ℕ) : sProp 𝕄 := if t = 0 then held m c (VO m c) (VB m c) else held m c (outO m c) (outB m c)
theorem phi_zero (c : Dev nD) : phi m c 0 = held m c (VO m c) (VB m c) := if_pos rfl
theorem phi_succ (c : Dev nD) (t : ℕ) : phi m c (t + 1) = held m c (outO m c) (outB m c) := if_neg (Nat.succ_ne_zero t)

def dats (p : Fin 1) (c : Dev nD) : Dat τ (Elt F) Unit ℕ (UU nD τ) ℕ (cfgs p) c where
  A w := V m c (Pipeline.arrRef (cfgs p).spec w)
  after w := (Fin.cast (by fin_cases p; rfl : (cfgs p).W = 0) w).elim0
  Φ t := phi m c t.val
  q _ := fullShare
  owed _ := 0

theorem defs_tc : (defs₀ (F := F)) .tc cfg0.body = fun _ => bodyG := rfl
theorem prog_eq (t : Fin cfg0.N) : (defs₀ (F := F)) .tc cfg0.body (cfg0.bodyArgs t (cfg0.slots t)) = bodyG := (congrFun defs_tc _).trans rfl

set_option backward.isDefEq.respectTransparency.types false in
theorem body_obligation (c : Dev nD) : BodyObligation (dats (F := F) m 0 c) (defs₀ (F := F)) 𝒱₀ () Set.univ := fun t => by
  have : IsEmpty (Fin cfg0.W) := Fin.isEmpty'
  rw [Finset.univ_eq_empty, bigSep_empty, bigSep_empty]
  have h0 : t.val = 0 := Nat.lt_one_iff.mp (lt_of_lt_of_eq t.isLt N_0)
  rw [show (dats m 0 c).Φ t.castSucc = held m c (VO m c) (VB m c) from (congrArg (phi m c) h0).trans (phi_zero m c),
    show (dats m 0 c).Φ t.succ = held m c (outO m c) (outB m c) from phi_succ m c t.val]
  unfold Dat.owesAt Pipeline.owesWithin
  rw [show (dats m 0 c).owed t.castSucc = 0 from rfl, show (dats m 0 c).owed t.succ = 0 from rfl]
  unfold held
  iintro ⟨⟨⟨HI, Ho, Hb⟩, HP⟩, ⟨%W, -, HW⟩, -⟩
  sl_rw [prog_eq t]
  iapply (bodyRun c (VX m c) (VG m c) (VU m c) (VD m c) (VO m c) (VB m c) W)
  isplitl [HI Ho Hb HW]
  · isplitl [HW]; · iexact HW
    isplitl [HI]; · iexact HI
    isplitl [Ho]; · iexact Ho
    iexact Hb
  · iintro ⟨⟨%W', HW⟩, HI, Ho, Hb⟩
    isplitl [HI Ho Hb HP]
    · isplitl [HI Ho Hb]
      · isplitl [HI]; · iexact HI
        isplitl [Ho]; · iexact Ho
        iexact Hb
      · iexact HP
    isplitl [HW]
    · iexists W'; isplitr; · ipureintro; exact fun _ _ => Or.inl trivial
      iexact HW
    iempintro

/-- What the run leaves: the results, the arguments as launched, every semaphore at zero. -/
def Post (r : PUnit × MemSt nD τ sig (Elt F)) : Prop :=
  (∀ c : Dev nD, r.2.mem ((c : Thread nD τ).loc main_v3_0) = outO m c ∧ r.2.mem ((c : Thread nD τ).loc main_v3_1) = outB m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

set_option backward.isDefEq.respectTransparency.types false in
theorem run_main : θ_run defs (onTc (τ := τ) (main (F := F))) (s₀ m ρ) (Post m) :=
  Pipeline.θ_run_frame_routed cfgs (dats m) (0 : Fin 1) launch0 osem_own defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := RB) (hR := RB_sub) (Y := Y m)
    (hin := fun c => (ends_held m c (V m c) rfl rfl rfl rfl))
    (hout := fun c => by
      have e := held_ends m c (Y m c) (Y_other m c (by decide) (by decide)) (Y_other m c (by decide) (by decide))
        (Y_other m c (by decide) (by decide)) (Y_other m c (by decide) (by decide))
      rw [Y_o, Y_b] at e
      exact e)
    (Q' := Post m)
    (hQ' := fun r h => ⟨fun c => by
      obtain ⟨-, hY, hV⟩ := h.1 c
      refine ⟨(hY _ (by decide)).trans (Y_o m c), (hY _ (by decide)).trans (Y_b m c),
        ((hY _ (by decide)).trans (Y_other m c (by decide) (by decide))).trans (V_main_arg0 m c), ?_, ?_, ?_⟩
      · exact (hV _ (by decide)).trans (V_main_arg1 m c)
      · exact (hV _ (by decide)).trans (V_main_arg2 m c)
      · exact (hV _ (by decide)).trans (V_main_arg3 m c), h.2⟩)

end Cert.GateUp
-- ==== Proof.Value.lean ====
/-
  The gate and up projections at the extended reals: the tiles the loop leaves are the reference's product.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.KernelVsHost

@[expose] public section

noncomputable section

namespace Cert.GateUp

open Cert.KernelIdeal Cert.KernelIdeal.Gen
open Idealize.ShloMosaic Idealize.ShloMosaic.TcCoe Idealize.ShloMosaic.ValueIdx

/-- The gated product of the two projections' entries. -/
def act (s t : EReal) : EReal :=
  s * Ideal.div (Ideal.ofBits .f32 0x3F800000#32) (Ideal.ofBits .f32 0x3F800000#32 + Ideal.exp (-s)) * t

/-- An entry of a projection. -/
def entry {M K N : ℕ} (x : (⟨2, ![M, K]⟩ : Shape).Idx → EReal) (w : (⟨2, ![K, N]⟩ : Shape).Idx → EReal) (r : Fin M) (q : Fin N) : EReal :=
  ∑ k : Fin K, x (ix2 r k) * w (ix2 k q)

/-! ## A tile -/

theorem pay1_lift (x : S2048x4096.Idx → Elt Ideal .bf16) : k0_pay1 (F := Ideal) (liftX (F := Ideal) x) = x := by
  funext j
  exact congrArg x (Equiv.symm_apply_apply _ j)

theorem cast_liftG (x : S4096x256.Idx → Elt Ideal .f32) : shapeCast S4096x256 (liftG (F := Ideal) x) shapeCasts_S1x4096x256_S4096x256 = x := by
  funext j
  exact congrArg x (Equiv.symm_apply_apply _ j)
theorem cast_liftD (x : S32x4096.Idx → Elt Ideal .f32) : shapeCast S32x4096 (liftD (F := Ideal) x) shapeCasts_S1x32x4096_S32x4096 = x := by
  funext j
  exact congrArg x (Equiv.symm_apply_apply _ j)

theorem tile_dot (x : S2048x4096.Idx → EReal) (g : S4096x256.Idx → EReal) (r : Fin 2048) (q : Fin 256) :
    matmul (F := Ideal) (φ₁ := .bf16) (φ₂ := .bf16) dot_S2048x4096_S4096x256_S2048x256_1_0_0_1_n_n none x g (constant S2048x256 .f32 0x00000000#32) (ix2 r q) = entry x g r q := by
  have h := Ideal.matmul_plain_apply (M := 2048) (K := 4096) (N := 256) (φ₁ := .bf16) (φ₂ := .bf16) none x g (constant S2048x256 .f32 0x00000000#32) r q
  refine h.trans ?_
  show Ideal.ofBits .f32 0x00000000#32 + _ = _
  rw [Ideal.ofBits_zero_f32, zero_add]; rfl

theorem oTile_apply (x : S2048x4096.Idx → Elt Ideal .bf16) (g u : S4096x256.Idx → Elt Ideal .f32) (r : Fin 2048) (q : Fin 256) :
    oTile (F := Ideal) x g u (ix2 r q) = act (entry x g r q) (entry x u r q) := by
  unfold oTile k0_pay2
  rw [pay1_lift, cast_liftG, cast_liftG]
  rw [shapeCast_apply _ shapeCasts_S2048x256_S1x2048x256 _ (ix2 r q) (Shape.rowMajor_reshapeEquiv _ _).symm]
  have hg := tile_dot x g r q
  have hu := tile_dot x u r q
  unfold act
  rw [← hg, ← hu, ← zero_sub, ← Ideal.ofBits_zero_f32]
  rfl

theorem bTile_apply (d : S32x4096.Idx → Elt Ideal .f32) (z : S32x4096.Idx) : bTile (F := Ideal) d z = d z := by
  unfold bTile k0_pay3
  rw [cast_liftD]
  rw [shapeCast_apply _ shapeCasts_S32x4096_S1x32x4096 _ z (Shape.rowMajor_reshapeEquiv _ _).symm]
  rfl

/-! ## The operands' blocks -/

variable (c : Dev nD)

theorem xPay_apply (XX : Buf (Elt Ideal) ((Memref.whole main_arg0).view.loc (c : Thread nD τ))) (b : Fin 8) (r : Fin 2048) (k : Fin 4096) :
    xPay c XX b (ix2 r k) = XX (ix2 (⟨2048 * b.val + r.val, by omega⟩ : Fin 16384) k) := by
  show XX ((xB b).view.emb (ix2 r k)) = _
  refine congrArg XX (funext fun a => Fin.ext ?_)
  fin_cases a
  · show 2048 * b.val + 1 * r.val = 2048 * b.val + r.val; omega
  · show 0 + 1 * k.val = k.val; omega
theorem gPay_apply (XG : Buf (Elt Ideal) ((Memref.whole main_v0).view.loc (c : Thread nD τ))) (b : Fin 43) (k : Fin 4096) (q : Fin 256) :
    gPay c XG b (ix2 k q) = XG (ix2 k (⟨256 * b.val + q.val, by omega⟩ : Fin 11008)) := by
  show XG ((gB b).view.emb (ix2 k q)) = _
  refine congrArg XG (funext fun a => Fin.ext ?_)
  fin_cases a
  · show 0 + 1 * k.val = k.val; omega
  · show 256 * b.val + 1 * q.val = 256 * b.val + q.val; omega
theorem uPay_apply (XU : Buf (Elt Ideal) ((Memref.whole main_v1).view.loc (c : Thread nD τ))) (b : Fin 43) (k : Fin 4096) (q : Fin 256) :
    uPay c XU b (ix2 k q) = XU (ix2 k (⟨256 * b.val + q.val, by omega⟩ : Fin 11008)) := by
  show XU ((uB b).view.emb (ix2 k q)) = _
  refine congrArg XU (funext fun a => Fin.ext ?_)
  fin_cases a
  · show 0 + 1 * k.val = k.val; omega
  · show 256 * b.val + 1 * q.val = 256 * b.val + q.val; omega
theorem dPay_apply (XD : Buf (Elt Ideal) ((Memref.whole main_v2).view.loc (c : Thread nD τ))) (b : Fin 344) (r : Fin 32) (k : Fin 4096) :
    dPay c XD b (ix2 r k) = XD (ix2 (⟨32 * b.val + r.val, by omega⟩ : Fin 11008) k) := by
  show XD ((dB b).view.emb (ix2 r k)) = _
  refine congrArg XD (funext fun a => Fin.ext ?_)
  fin_cases a
  · show 32 * b.val + 1 * r.val = 32 * b.val + r.val; omega
  · show 0 + 1 * k.val = k.val; omega

/-! ## The results -/

theorem TO_apply (XX : Buf (Elt Ideal) ((Memref.whole main_arg0).view.loc (c : Thread nD τ))) (XG : Buf (Elt Ideal) ((Memref.whole main_v0).view.loc (c : Thread nD τ)))
    (XU : Buf (Elt Ideal) ((Memref.whole main_v1).view.loc (c : Thread nD τ))) (i : Fin 16384) (j : Fin 11008) :
    TO c XX XG XU (ix2 i j) = act (entry (M := 16384) (K := 4096) (N := 11008) XX XG i j) (entry (M := 16384) (K := 4096) (N := 11008) XX XU i j) := by
  have hi := i.isLt; have hj := j.isLt
  have el : oLoc (ix2 i j) = ix2 (⟨i.val % 2048, by omega⟩ : Fin 2048) (⟨j.val % 256, by omega⟩ : Fin 256) := by
    funext a; fin_cases a <;> rfl
  have hx : (ixX ((i.val / 2048 * 43 + j.val / 256) / 43)).val = i.val / 2048 := by
    show ((i.val / 2048 * 43 + j.val / 256) / 43) % 8 = _; omega
  have hg : (ixG (i.val / 2048 * 43 + j.val / 256)).val = j.val / 256 := by
    show (i.val / 2048 * 43 + j.val / 256) % 43 = _; omega
  show oPay c XX XG XU (i.val / 2048 * 43 + j.val / 256) (oLoc (ix2 i j)) = _
  rw [el, oPay, oTile_apply]
  have e1 (k : Fin 4096) : xPay c XX (ixX ((i.val / 2048 * 43 + j.val / 256) / 43)) (ix2 (⟨i.val % 2048, by omega⟩ : Fin 2048) k) = XX (ix2 i k) := by
    rw [xPay_apply]
    exact congrArg (fun r : Fin 16384 => XX (ix2 r k)) (Fin.ext (by simp only [hx]; omega))
  have e2 (k : Fin 4096) : gPay c XG (ixG (i.val / 2048 * 43 + j.val / 256)) (ix2 k (⟨j.val % 256, by omega⟩ : Fin 256)) = XG (ix2 k j) := by
    rw [gPay_apply]
    exact congrArg (fun r : Fin 11008 => XG (ix2 k r)) (Fin.ext (by simp only [hg]; omega))
  have e3 (k : Fin 4096) : uPay c XU (ixG (i.val / 2048 * 43 + j.val / 256)) (ix2 k (⟨j.val % 256, by omega⟩ : Fin 256)) = XU (ix2 k j) := by
    rw [uPay_apply]
    exact congrArg (fun r : Fin 11008 => XU (ix2 k r)) (Fin.ext (by simp only [hg]; omega))
  unfold entry
  refine congrArg₂ act (Finset.sum_congr rfl fun k _ => ?_) (Finset.sum_congr rfl fun k _ => ?_)
  · exact congrArg₂ (fun a b : EReal => a * b) (e1 k) (e2 k)
  · exact congrArg₂ (fun a b : EReal => a * b) (e1 k) (e3 k)

theorem TB_apply (XD : Buf (Elt Ideal) ((Memref.whole main_v2).view.loc (c : Thread nD τ))) (i : Fin 11008) (j : Fin 4096) :
    TB c XD (ix2 i j) = XD (ix2 i j) := by
  have hi := i.isLt; have hj := j.isLt
  have el : bLoc (ix2 i j) = ix2 (⟨i.val % 32, by omega⟩ : Fin 32) (⟨j.val % 4096, by omega⟩ : Fin 4096) := by
    funext a; fin_cases a <;> rfl
  have hd : (ixS (i.val / 32)).val = i.val / 32 := by show (i.val / 32) % 344 = _; omega
  show bPay c XD (i.val / 32) (bLoc (ix2 i j)) = _
  rw [el, bPay, bTile_apply, dPay_apply]
  exact congrArg₂ (fun (r : Fin 11008) (k : Fin 4096) => XD (ix2 r k)) (Fin.ext (by simp only [hd]; omega)) (Fin.ext (Nat.mod_eq_of_lt hj))

/-! ## The reference -/

theorem ref_dot (x : Cert.ReferenceIdeal.S16384x4096.Idx → EReal) (w : Cert.ReferenceIdeal.S4096x11008.Idx → EReal) (i : Fin 16384) (j : Fin 11008) :
    Host.dotGeneral (F := Ideal) (φ₁ := .f32) (φ₂ := .f32) Cert.ReferenceIdeal.dot_S16384x4096_S4096x11008_S16384x11008_1_0_0_1_n_n none x w (ix2 i j) = entry x w i j :=
  StackMember.dotGeneral_plain_apply (m := 16384) (k := 4096) (n := 11008) (φ₁ := .f32) (φ₂ := .f32) none x w i j

variable (m : (ℓ : Loc nD τ sig) → Buf (Elt Ideal) ℓ)

theorem VG_eq : VG m c = shapeCast S4096x11008 (m ((c : Thread nD τ).loc main_arg1)) shapeCasts_S1x4096x11008_S4096x11008 := by
  show StableHlo.after hostOps0 _ main_v0 = _
  after_results
  rfl
theorem VU_eq : VU m c = shapeCast S4096x11008 (m ((c : Thread nD τ).loc main_arg2)) shapeCasts_S1x4096x11008_S4096x11008 := by
  show StableHlo.after hostOps0 _ main_v1 = _
  after_results
  rfl
theorem VD_eq : VD m c = shapeCast S11008x4096 (m ((c : Thread nD τ).loc main_arg3)) shapeCasts_S1x11008x4096_S11008x4096 := by
  show StableHlo.after hostOps0 _ main_v2 = _
  after_results
  rfl

/-- A projection as the reference computes it. -/
abbrev refDot (x : FVec Ideal Cert.ReferenceIdeal.S16384x4096 .bf16) (w : FVec Ideal Cert.ReferenceIdeal.S1x4096x11008 .f32) : FVec Ideal Cert.ReferenceIdeal.S16384x11008 .f32 :=
  Host.dotGeneral Cert.ReferenceIdeal.dot_S16384x4096_S4096x11008_S16384x11008_1_0_0_1_n_n none (extf .f32 x Cert.ReferenceIdeal.Gen.bitsLt_bf16_f32)
    (shapeCast Cert.ReferenceIdeal.S4096x11008 w Cert.ReferenceIdeal.Gen.shapeCasts_S1x4096x11008_S4096x11008)
theorem refDot_apply (x : FVec Ideal Cert.ReferenceIdeal.S16384x4096 .bf16) (w : FVec Ideal Cert.ReferenceIdeal.S1x4096x11008 .f32) (i : Fin 16384) (j : Fin 11008) :
    refDot x w (ix2 i j) = entry (M := 16384) (K := 4096) (N := 11008) x (shapeCast S4096x11008 w shapeCasts_S1x4096x11008_S4096x11008) i j :=
  ref_dot _ _ i j

/-- The product, as the reference's composed operations. -/
theorem outO_eq : outO m c = truncf .bf16 (mulf (mulf (refDot (m ((c : Thread nD τ).loc main_arg0)) (m ((c : Thread nD τ).loc main_arg1)))
      (Host.divf (broadcastInDim Cert.ReferenceIdeal.S16384x11008 ![] Cert.ReferenceIdeal.Gen.bcast_S_S16384x11008 (constant Cert.ReferenceIdeal.S_ .f32 0x3F800000#32))
        (addf (broadcastInDim Cert.ReferenceIdeal.S16384x11008 ![] Cert.ReferenceIdeal.Gen.bcast_S_S16384x11008 (constant Cert.ReferenceIdeal.S_ .f32 0x3F800000#32))
          (Host.exp (Host.negf (refDot (m ((c : Thread nD τ).loc main_arg0)) (m ((c : Thread nD τ).loc main_arg1))))))))
      (refDot (m ((c : Thread nD τ).loc main_arg0)) (m ((c : Thread nD τ).loc main_arg2)))) Cert.ReferenceIdeal.Gen.bitsLt_bf16_f32 := by
  funext y
  rw [eq_ix2 (n0 := 16384) (n1 := 11008) y]
  refine (TO_apply c (VX m c) (VG m c) (VU m c) (y 0) (y 1)).trans ?_
  rw [VG_eq, VU_eq, show VX m c = m ((c : Thread nD τ).loc main_arg0) from V_main_arg0 m c]
  exact congrArg₂ act (refDot_apply _ _ (y 0) (y 1)).symm (refDot_apply _ _ (y 0) (y 1)).symm

/-- The narrowed down weights, as the reference's. -/
theorem outB_eq : outB m c = truncf (F := Ideal) (φ := .f32) .bf16 (shapeCast Cert.ReferenceIdeal.S11008x4096 (m ((c : Thread nD τ).loc main_arg3)) Cert.ReferenceIdeal.Gen.shapeCasts_S1x11008x4096_S11008x4096) Cert.ReferenceIdeal.Gen.bitsLt_bf16_f32 := by
  funext y
  rw [eq_ix2 (n0 := 11008) (n1 := 4096) y]
  refine (TB_apply c (VD m c) (y 0) (y 1)).trans ?_
  rw [VD_eq]
  rfl

end Cert.GateUp
-- ==== Proof.Entry.lean ====
/-
  Entries of matrix products at the extended reals.
-/
module

public import Idealize.ShloMosaic.Lib.MatmulPlain
public import Idealize.ShloMosaic.Lib.StackMember
public import Idealize.ShloMosaic.Lib.KernelVsHost

@[expose] public section

noncomputable section

namespace Cert

open Idealize.ShloMosaic Idealize.ShloMosaic.ValueIdx

/-- An entry of the product of `x` and `w`. -/
def entry {M K N : ℕ} (x : (⟨2, ![M, K]⟩ : Shape).Idx → EReal) (w : (⟨2, ![K, N]⟩ : Shape).Idx → EReal) (r : Fin M) (q : Fin N) : EReal :=
  ∑ k : Fin K, x (ix2 r k) * w (ix2 k q)

theorem entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal} {r : Fin M} {r' : Fin M'} {q : Fin N} {q' : Fin N'}
    (hx : ∀ k, x (ix2 r k) = x' (ix2 r' k)) (hw : ∀ k, w (ix2 k q) = w' (ix2 k q')) : entry x w r q = entry x' w' r' q' :=
  Finset.sum_congr rfl fun k _ => congrArg₂ (fun a b : EReal => a * b) (hx k) (hw k)

/-- A kernel's product over a zero accumulator. -/
theorem matmul_entry {M K N : ℕ} {φ₁ φ₂ : FTy} (x : FVec Ideal ⟨2, ![M, K]⟩ φ₁) (w : FVec Ideal ⟨2, ![K, N]⟩ φ₂) (r : Fin M) (q : Fin N) :
    FloatOps.matmul (DotDims.plain M K N) none x w (constant (F := Ideal) ⟨2, ![M, N]⟩ .f32 0x00000000#32) (ix2 r q) = entry x w r q := by
  refine (Ideal.matmul_plain_apply none x w _ r q).trans ?_
  show Ideal.ofBits .f32 0x00000000#32 + _ = _
  rw [Ideal.ofBits_zero_f32, zero_add]; rfl

/-- A host product. -/
theorem dotGeneral_entry {M K N : ℕ} {φ₁ φ₂ : FTy} (x : FVec Ideal ⟨2, ![M, K]⟩ φ₁) (w : FVec Ideal ⟨2, ![K, N]⟩ φ₂) (r : Fin M) (q : Fin N) :
    Host.dotGeneral (DotDims.plain M K N) none x w (ix2 r q) = entry x w r q :=
  StackMember.dotGeneral_plain_apply none x w r q

end Cert
-- ==== Proof.DownValue.lean ====
/-
  The down projection at the extended reals.
-/
module

public import proofs.«01_k».proof.Proof.Entry
public import proofs.«01_k».proof.Proof.Gen.DownIdeal.Value
public import proofs.«01_k».proof.Proof.Gen.DownReferenceIdeal.Run
public import proofs.«01_k».proof.Defs
public import Idealize.ShloMosaic.Lib.Pipeline.ValueKit.Geometry
public import Idealize.ShloMosaic.Lib.Pipeline.ValueKit.Acc

@[expose] public section

noncomputable section

namespace Cert.DownIdeal.Hand

open Cert.DownIdeal Cert.DownIdeal.Gen
open Idealize.ShloMosaic Idealize.SL.Sem Idealize.ShloMosaic.TcCoe Idealize.ShloMosaic.ValueIdx

/-- A tile of the product. -/
theorem pay_apply (x : FVec Ideal S512x11008 .bf16) (w : FVec Ideal S11008x512 .bf16) (r : Fin 512) (q : Fin 512) :
    k0_pay1 (F := Ideal) x w (ix2 r q) = entry x w r q :=
  matmul_entry (M := 512) (K := 11008) (N := 512) x w r q

/-- The product, as the reference writes it. -/
abbrev ref (x : FVec Ideal Cert.DownReferenceIdeal.S16384x11008 .bf16) (w : FVec Ideal Cert.DownReferenceIdeal.S11008x4096 .bf16) :
    FVec Ideal Cert.DownReferenceIdeal.S16384x4096 .bf16 :=
  truncf .bf16 (Host.dotGeneral Cert.DownReferenceIdeal.dot_S16384x11008_S11008x4096_S16384x4096_1_0_0_1_n_n none
    (extf .f32 x Cert.DownReferenceIdeal.Gen.bitsLt_bf16_f32) (extf .f32 w Cert.DownReferenceIdeal.Gen.bitsLt_bf16_f32)) Cert.DownReferenceIdeal.Gen.bitsLt_bf16_f32
theorem ref_apply (x : FVec Ideal Cert.DownReferenceIdeal.S16384x11008 .bf16) (w : FVec Ideal Cert.DownReferenceIdeal.S11008x4096 .bf16) (i : Fin 16384) (j : Fin 4096) :
    ref x w (ix2 i j) = entry x w i j :=
  dotGeneral_entry (M := 16384) (K := 11008) (N := 4096) (φ₁ := .f32) (φ₂ := .f32) x w i j

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

variable (m : (ℓ : Loc nD τ sig) → Buf (Elt Ideal) ℓ)

/-- The array after the run is the reference's product. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg (k0_pay1 (F := Ideal) (iblk m c 0 t) (iblk m c 1 t)) (eq_ix2 (n0 := 512) (n1 := 512) y)).trans ((pay_apply (iblk m c 0 t) (iblk m c 1 t) (y 0) (y 1)).trans ?_)
  refine Eq.trans ?_ ((congrArg (ref _ _) (eq_ix2 (n0 := 16384) (n1 := 4096) _)).trans (ref_apply _ _ _ _)).symm
  refine entry_congr (fun k => ?_) (fun k => ?_)
  · refine congrArg (m ((c : Thread nD τ).loc main_arg0)) ?_
    refine Shape.idx_ext₂ ?_ ?_
    · show (((win0_0.blk t).view.emb (ix2 (y 0) k)) 0).val = (((win0_2.blk t).view.emb y) 0).val
      blk_simp [idx0, idx2]; rfl
    · show (((win0_0.blk t).view.emb (ix2 (y 0) k)) 1).val = k.val
      blk_simp [idx0]; rfl
  · refine congrArg (m ((c : Thread nD τ).loc main_arg1)) ?_
    refine Shape.idx_ext₂ ?_ ?_
    · show (((win0_1.blk t).view.emb (ix2 k (y 1))) 0).val = k.val
      blk_simp [idx1]; rfl
    · show (((win0_1.blk t).view.emb (ix2 k (y 1))) 1).val = (((win0_2.blk t).view.emb y) 1).val
      blk_simp [idx1, idx2]; rfl

theorem frame_reference : Cert.quiescent_DownReferenceIdeal (hDownReferenceIdeal := Cert.DownReferenceIdeal.Gen.facts) := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The down projection's result is the reference's. -/
theorem values : Cert.algebraic_DownIdeal_DownReferenceIdeal (hDownIdeal := Cert.DownIdeal.Gen.facts) (hDownReferenceIdeal := Cert.DownReferenceIdeal.Gen.facts) := by
  intro m ρ m' ρ' _ hagree
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m ρ),
    (θ_run Cert.DownReferenceIdeal.defs _ _).mono (fun r h c => ⟨(h c).1.trans ?_, (h c).2⟩) (Cert.DownReferenceIdeal.Value.run (F := Ideal) m' ρ')⟩
  obtain ⟨a0, a1⟩ := hagree c
  rw [a0, a1]

end Cert.DownIdeal.Hand
-- ==== Proof.NormRow.lean ====
/-
  A row scaled by its root mean square, at the extended reals: an entry of the kernels' text and of the reference's.
-/
module

public import Idealize.ShloMosaic.Lib.Pipeline.Value
public import Idealize.ShloMosaic.Lib.IdealHost
public import Idealize.ShloMosaic.Lib.KernelVsHost

@[expose] public section

noncomputable section

namespace Cert

open Idealize.ShloMosaic Idealize.ShloMosaic.ValueIdx

/-- The reciprocal of the root mean square of a row whose squares sum to `s`. -/
def invRms (s : EReal) : EReal :=
  FloatOps.rsqrt (F := Ideal) (φ := .f32) (FloatOps.addf (F := Ideal) (φ := .f32)
    (FloatOps.divf (F := Ideal) (φ := .f32) s (Scalar.ofBits (F := Ideal) .f32 0x45800000#32)) (Scalar.ofBits (F := Ideal) .f32 0x358637BD#32))

/-- An entry of a scaled row. -/
def normEntry {M : ℕ} (x : (⟨2, ![M, 4096]⟩ : Shape).Idx → EReal) (g : Fin 4096 → EReal) (r : Fin M) (q : Fin 4096) : EReal :=
  x (ix2 r q) * invRms (∑ k : Fin 4096, x (ix2 r k) * x (ix2 r k)) * g q

theorem normEntry_congr {M M' : ℕ} {x : (⟨2, ![M, 4096]⟩ : Shape).Idx → EReal} {x' : (⟨2, ![M', 4096]⟩ : Shape).Idx → EReal} {g g' : Fin 4096 → EReal}
    {r : Fin M} {r' : Fin M'} {q q' : Fin 4096} (hx : ∀ k, x (ix2 r k) = x' (ix2 r' k)) (hg : g q = g' q') (hq : q = q') :
    normEntry x g r q = normEntry x' g' r' q' := by
  subst hq
  unfold normEntry
  rw [hx q, hg, Finset.sum_congr rfl fun k _ => by rw [hx k]]

/-- The weight of a half-step. -/
def half : EReal := Scalar.ofBits (F := Ideal) .f32 0x3F000000#32

/-- An entry of a residual sum: half a scaled row added to a row. -/
def postEntry {M : ℕ} (h f : (⟨2, ![M, 4096]⟩ : Shape).Idx → EReal) (g : Fin 4096 → EReal) (r : Fin M) (q : Fin 4096) : EReal :=
  h (ix2 r q) + half * normEntry f g r q

theorem postEntry_congr {M M' : ℕ} {h f : (⟨2, ![M, 4096]⟩ : Shape).Idx → EReal} {h' f' : (⟨2, ![M', 4096]⟩ : Shape).Idx → EReal} {g g' : Fin 4096 → EReal}
    {r : Fin M} {r' : Fin M'} {q q' : Fin 4096} (hh : ∀ k, h (ix2 r k) = h' (ix2 r' k)) (hf : ∀ k, f (ix2 r k) = f' (ix2 r' k)) (hg : g q = g' q') (hq : q = q') :
    postEntry h f g r q = postEntry h' f' g' r' q' := by
  subst hq
  exact congrArg₂ (fun a b : EReal => a + half * b) (hh q) (normEntry_congr hf hg rfl)

section Kernel

variable (hr : (⟨2, ![512, 4096]⟩ : Shape).Reduces [1] ⟨1, ![512]⟩) (hc : (⟨1, ![512]⟩ : Shape).ShapeCasts ⟨2, ![512, 1]⟩)
  (hb : (⟨2, ![512, 1]⟩ : Shape).Broadcasts ⟨2, ![512, 4096]⟩) (hi : (⟨2, ![1, 4096]⟩ : Shape).ShapeCasts ⟨2, ![1, 4096]⟩)
  (hg : (⟨2, ![1, 4096]⟩ : Shape).Broadcasts ⟨2, ![512, 4096]⟩)

/-- A block of scaled rows, as the kernels write it. -/
abbrev kNorm (x : FVec Ideal ⟨2, ![512, 4096]⟩ .f32) (g : FVec Ideal ⟨2, ![1, 4096]⟩ .f32) : FVec Ideal ⟨2, ![512, 4096]⟩ .f32 :=
  mulf (mulf x (broadcastTo ⟨2, ![512, 4096]⟩ (rsqrt (addf (divf (shapeCast ⟨2, ![512, 1]⟩ (multiReduction .add [1] ⟨1, ![512]⟩ (mulf x x) 0x00000000#32 hr (.inl rfl) rfl) hc)
    (broadcast ⟨2, ![512, 1]⟩ (Scalar.ofBits .f32 0x45800000#32))) (broadcast ⟨2, ![512, 1]⟩ (Scalar.ofBits .f32 0x358637BD#32)))) hb))
    (broadcastTo ⟨2, ![512, 4096]⟩ (shapeCast ⟨2, ![1, 4096]⟩ g hi) hg)

theorem kNorm_apply (x : FVec Ideal ⟨2, ![512, 4096]⟩ .f32) (g : FVec Ideal ⟨2, ![1, 4096]⟩ .f32) (r : Fin 512) (q : Fin 4096) :
    kNorm hr hc hb hi hg x g (ix2 r q) = normEntry x (fun k => g (ix2 0 k)) r q := by
  have e1 : broadcastTo ⟨2, ![512, 4096]⟩ (shapeCast ⟨2, ![1, 4096]⟩ g hi) hg (ix2 r q) = g (ix2 0 q) := by
    rw [shapeCast_self]
    exact broadcastTo_apply g hg (ix2 r q) (ix2 0 q) (fun a => match a with | ⟨0, _⟩ => rfl | ⟨1, _⟩ => rfl)
  have e2 : broadcastTo ⟨2, ![512, 4096]⟩ (rsqrt (addf (divf (shapeCast ⟨2, ![512, 1]⟩ (multiReduction .add [1] ⟨1, ![512]⟩ (mulf x x) 0x00000000#32 hr (.inl rfl) rfl) hc)
      (broadcast ⟨2, ![512, 1]⟩ (Scalar.ofBits .f32 0x45800000#32))) (broadcast ⟨2, ![512, 1]⟩ (Scalar.ofBits .f32 0x358637BD#32)))) hb (ix2 r q)
      = invRms (∑ k : Fin 4096, x (ix2 r k) * x (ix2 r k)) := by
    refine (broadcastTo_apply _ hb (ix2 r q) (ix2 r 0) (fun a => match a with | ⟨0, _⟩ => rfl | ⟨1, _⟩ => rfl)).trans ?_
    refine congrArg invRms ?_
    refine (shapeCast_apply _ hc (ix2 r 0) (ix1 r) (by rw [Shape.rowMajor_val_one, Shape.rowMajor_val_two]; show r.val = r.val * 1 + 0; omega)).trans ?_
    refine (Ideal.multiReduction_add_single (mulf x x) _ hr (.inl rfl) rfl (ix1 r)).trans ?_
    refine Finset.sum_congr rfl fun k _ => ?_
    have e : hr.lift (ix1 r) k = (ix2 r k : (⟨2, ![512, 4096]⟩ : Shape).Idx) := Shape.idx_ext₂ rfl rfl
    rw [e]; rfl
  exact congrArg₂ (fun a b : EReal => x (ix2 r q) * a * b) e2 e1

end Kernel

section Reference

variable (hr : (⟨2, ![16384, 4096]⟩ : Shape).ReducesTo [1] ⟨1, ![16384]⟩) (hu : 0 < (⟨0, ![]⟩ : Shape).numel) (hs : (⟨1, ![16384]⟩ : Shape).BroadcastsInDim ⟨2, ![16384, 1]⟩ ![0])
  (h0 : (⟨0, ![]⟩ : Shape).BroadcastsInDim ⟨2, ![16384, 1]⟩ ![]) (hb : (⟨2, ![16384, 1]⟩ : Shape).BroadcastsInDim ⟨2, ![16384, 4096]⟩ ![0, 1])
  (hv : (⟨1, ![4096]⟩ : Shape).BroadcastsInDim ⟨2, ![1, 4096]⟩ ![1]) (hg : (⟨2, ![1, 4096]⟩ : Shape).BroadcastsInDim ⟨2, ![16384, 4096]⟩ ![0, 1])

/-- The scaled rows, as the reference writes them. -/
abbrev hNorm (x : FVec Ideal ⟨2, ![16384, 4096]⟩ .f32) (g : FVec Ideal ⟨1, ![4096]⟩ .f32) : FVec Ideal ⟨2, ![16384, 4096]⟩ .f32 :=
  mulf (mulf x (broadcastInDim ⟨2, ![16384, 4096]⟩ ![0, 1] hb (Host.rsqrt (addf (Host.divf (broadcastInDim ⟨2, ![16384, 1]⟩ ![0] hs
    (Host.reduceAdd (mulf x x) (constant ⟨0, ![]⟩ .f32 0x00000000#32) hr hu)) (broadcastInDim ⟨2, ![16384, 1]⟩ ![] h0 (constant ⟨0, ![]⟩ .f32 0x45800000#32)))
    (broadcastInDim ⟨2, ![16384, 1]⟩ ![] h0 (constant ⟨0, ![]⟩ .f32 0x358637BD#32))))))
    (broadcastInDim ⟨2, ![16384, 4096]⟩ ![0, 1] hg (broadcastInDim ⟨2, ![1, 4096]⟩ ![1] hv g))

theorem hNorm_apply (x : FVec Ideal ⟨2, ![16384, 4096]⟩ .f32) (g : FVec Ideal ⟨1, ![4096]⟩ .f32) (i : Fin 16384) (q : Fin 4096) :
    hNorm hr hu hs h0 hb hv hg x g (ix2 i q) = normEntry x (fun k => g (ix1 k)) i q := by
  have e1 : broadcastInDim ⟨2, ![16384, 4096]⟩ ![0, 1] hg (broadcastInDim ⟨2, ![1, 4096]⟩ ![1] hv g) (ix2 i q) = g (ix1 q) :=
    (broadcastInDim_apply _ hg _ (ix2 i q) (ix2 0 q) (fun a => match a with | ⟨0, _⟩ => rfl | ⟨1, _⟩ => rfl)).trans
      (broadcastInDim_apply _ hv g (ix2 0 q) (ix1 q) (fun a => match a with | ⟨0, _⟩ => rfl))
  have e2 : broadcastInDim ⟨2, ![16384, 4096]⟩ ![0, 1] hb (Host.rsqrt (addf (Host.divf (broadcastInDim ⟨2, ![16384, 1]⟩ ![0] hs
      (Host.reduceAdd (mulf x x) (constant ⟨0, ![]⟩ .f32 0x00000000#32) hr hu)) (broadcastInDim ⟨2, ![16384, 1]⟩ ![] h0 (constant ⟨0, ![]⟩ .f32 0x45800000#32)))
      (broadcastInDim ⟨2, ![16384, 1]⟩ ![] h0 (constant ⟨0, ![]⟩ .f32 0x358637BD#32)))) (ix2 i q)
      = invRms (∑ k : Fin 4096, x (ix2 i k) * x (ix2 i k)) := by
    refine (broadcastInDim_apply _ hb _ (ix2 i q) (ix2 i 0) (fun a => match a with | ⟨0, _⟩ => rfl | ⟨1, _⟩ => rfl)).trans ?_
    refine congrArg invRms ?_
    refine (broadcastInDim_apply _ hs _ (ix2 i 0) (ix1 i) (fun a => match a with | ⟨0, _⟩ => rfl)).trans ?_
    refine (hostReduceAdd_apply _ _ hr hu _).trans ((Ideal.hostReduceAdd_single hr (by decide) _ _ (ix1 i)).trans ?_)
    show Ideal.ofBits .f32 0x00000000#32 + _ = _
    rw [Ideal.ofBits_zero_f32, zero_add]
    refine Finset.sum_congr rfl fun k _ => ?_
    have e : (show (⟨2, ![16384, 4096]⟩ : Shape).Reduces [1] ⟨1, ![16384]⟩ by decide).lift (ix1 i) k = (ix2 i k : (⟨2, ![16384, 4096]⟩ : Shape).Idx) := Shape.idx_ext₂ rfl rfl
    exact congrArg (mulf x x) e
  exact congrArg₂ (fun a b : EReal => x (ix2 i q) * a * b) e2 e1

end Reference

/-- A vector laid out as a row. -/
theorem row_cast (g : FVec Ideal ⟨1, ![4096]⟩ .f32) (h : (⟨1, ![4096]⟩ : Shape).ShapeCasts ⟨2, ![1, 4096]⟩) (k : Fin 4096) :
    shapeCast ⟨2, ![1, 4096]⟩ g h (ix2 0 k) = g (ix1 k) :=
  shapeCast_apply g h (ix2 0 k) (ix1 k) (by rw [Shape.rowMajor_val_one, Shape.rowMajor_val_two]; show k.val = 0 * 4096 + k.val; omega)

end Cert
-- ==== Proof.PostValue.lean ====
/-
  The residual sum of the last half-step, at the extended reals.
-/
module

public import proofs.«01_k».proof.Proof.NormRow
public import proofs.«01_k».proof.Proof.Gen.PostIdeal.Value
public import proofs.«01_k».proof.Proof.Gen.PostReferenceIdeal.Run
public import proofs.«01_k».proof.Defs
public import Idealize.ShloMosaic.Lib.Pipeline.ValueKit.Geometry
public import Idealize.ShloMosaic.Lib.Pipeline.ValueKit.Acc

@[expose] public section

noncomputable section

namespace Cert.PostIdeal.Hand

open Cert.PostIdeal Cert.PostIdeal.Gen
open Idealize.ShloMosaic Idealize.SL.Sem Idealize.ShloMosaic.TcCoe Idealize.ShloMosaic.ValueIdx

/-- A block of the residual sum. -/
theorem pay_apply (h : FVec Ideal S512x4096 .f32) (f : FVec Ideal S512x4096 .bf16) (g : FVec Ideal S1x4096 .f32) (r : Fin 512) (q : Fin 4096) :
    k0_pay1 (F := Ideal) h f g (ix2 r q) = postEntry h f (fun k => g (ix2 0 k)) r q :=
  congrArg (fun a : EReal => h (ix2 r q) + half * a)
    (kNorm_apply reduces_S512x4096_S512 shapeCasts_S512_S512x1 broadcasts_S512x1_S512x4096 shapeCasts_S1x4096_S1x4096 broadcasts_S1x4096_S512x4096 f g r q)

/-- The residual sum, as the reference writes it. -/
abbrev ref (h : FVec Ideal S16384x4096 .f32) (f : FVec Ideal S16384x4096 .bf16) (g : FVec Ideal S4096 .f32) : FVec Ideal S16384x4096 .f32 :=
  addf h (mulf (broadcastInDim S16384x4096 ![] Cert.PostReferenceIdeal.Gen.bcast_S_S16384x4096 (constant Cert.PostReferenceIdeal.S_ .f32 0x3F000000#32))
    (hNorm Cert.PostReferenceIdeal.Gen.reducesTo_S16384x4096_S16384_d1 Cert.PostReferenceIdeal.Gen.h_S_ Cert.PostReferenceIdeal.Gen.bcast_S16384_S16384x1_0 Cert.PostReferenceIdeal.Gen.bcast_S_S16384x1 Cert.PostReferenceIdeal.Gen.bcast_S16384x1_S16384x4096_0_1 Cert.PostReferenceIdeal.Gen.bcast_S4096_S1x4096_1 Cert.PostReferenceIdeal.Gen.bcast_S1x4096_S16384x4096_0_1 (extf .f32 f Cert.PostReferenceIdeal.Gen.bitsLt_bf16_f32) g))
theorem ref_apply (h : FVec Ideal S16384x4096 .f32) (f : FVec Ideal S16384x4096 .bf16) (g : FVec Ideal S4096 .f32) (i : Fin 16384) (j : Fin 4096) :
    ref h f g (ix2 i j) = postEntry h f (fun k => g (ix1 k)) i j :=
  congrArg (fun a : EReal => h (ix2 i j) + half * a)
    (hNorm_apply Cert.PostReferenceIdeal.Gen.reducesTo_S16384x4096_S16384_d1 Cert.PostReferenceIdeal.Gen.h_S_ Cert.PostReferenceIdeal.Gen.bcast_S16384_S16384x1_0 Cert.PostReferenceIdeal.Gen.bcast_S_S16384x1 Cert.PostReferenceIdeal.Gen.bcast_S16384x1_S16384x4096_0_1 Cert.PostReferenceIdeal.Gen.bcast_S4096_S1x4096_1 Cert.PostReferenceIdeal.Gen.bcast_S1x4096_S16384x4096_0_1 f g i j)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, 0] := (by decide +kernel : ∀ t : Fin grid0.N, _)

variable (m : (ℓ : Loc nD τ sig) → Buf (Elt Ideal) ℓ)

/-- A row of input window 0's block is the array's row under the output block. -/
theorem read0_3 (c : Dev nD) (t : Fin cfg0.N) (r : Fin 512) (q k : Fin 4096) :
    iblk m c 0 t (ix2 r k) = m ((c : Thread nD τ).loc main_arg0) (ix2 (((win0_3.blk t).view.emb (ix2 r q)) 0) k) := by
  refine (congrFun (V_main_arg0 m c) _).trans (congrArg (m ((c : Thread nD τ).loc main_arg0)) ?_)
  refine Shape.idx_ext₂ ?_ ?_
  · show (((win0_0.blk t).view.emb (ix2 r k)) 0).val = (((win0_3.blk t).view.emb (ix2 r q)) 0).val
    blk_simp [idx0, idx3]; rfl
  · show (((win0_0.blk t).view.emb (ix2 r k)) 1).val = k.val
    blk_simp [idx0]; rfl

/-- A row of input window 1's block is the array's row under the output block. -/
theorem read1_3 (c : Dev nD) (t : Fin cfg0.N) (r : Fin 512) (q k : Fin 4096) :
    iblk m c 1 t (ix2 r k) = m ((c : Thread nD τ).loc main_arg1) (ix2 (((win0_3.blk t).view.emb (ix2 r q)) 0) k) := by
  refine (congrFun (V_main_arg1 m c) _).trans (congrArg (m ((c : Thread nD τ).loc main_arg1)) ?_)
  refine Shape.idx_ext₂ ?_ ?_
  · show (((win0_1.blk t).view.emb (ix2 r k)) 0).val = (((win0_3.blk t).view.emb (ix2 r q)) 0).val
    blk_simp [idx1, idx3]; rfl
  · show (((win0_1.blk t).view.emb (ix2 r k)) 1).val = k.val
    blk_simp [idx1]; rfl

theorem V_2 (c : Dev nD) : V m c main_v1 = shapeCast S1x4096 (shapeCast S4096 (m ((c : Thread nD τ).loc main_arg2)) shapeCasts_S1x4096_S4096) shapeCasts_S4096_S1x4096 := by
  show StableHlo.after hostOps0 _ main_v1 = _
  after_results
  rfl

/-- The block of gains is the vector of gains. -/
theorem gain2 (c : Dev nD) (t : Fin cfg0.N) (k : Fin 4096) :
    iblk m c 2 t (ix2 0 k) = shapeCast S4096 (m ((c : Thread nD τ).loc main_arg2)) shapeCasts_S1x4096_S4096 (ix1 k) := by
  refine (congrFun (V_2 m c) _).trans ?_
  refine Eq.trans (congrArg (shapeCast S1x4096 (shapeCast S4096 (m ((c : Thread nD τ).loc main_arg2)) shapeCasts_S1x4096_S4096) shapeCasts_S4096_S1x4096) ?_) (row_cast _ _ k)
  refine Shape.idx_ext₂ ?_ ?_
  · show (((win0_2.blk t).view.emb (ix2 0 k)) 0).val = 0
    blk_simp [idx2]
  · show (((win0_2.blk t).view.emb (ix2 0 k)) 1).val = k.val
    blk_simp [idx2]; rfl

theorem col3 (t : Fin cfg0.N) (r : Fin 512) (q : Fin 4096) : q = ((win0_3.blk t).view.emb (ix2 r q)) 1 := by
  apply Fin.ext
  show q.val = (((win0_3.blk t).view.emb (ix2 r q)) 1).val
  blk_simp [idx3]; rfl

/-- The array after the run is the reference's. -/
theorem final (c : Dev nD) : (dats m 0 c).arrAt 3 cfg0.N = ref (m ((c : Thread nD τ).loc main_arg0)) (m ((c : Thread nD τ).loc main_arg1)) (shapeCast S4096 (m ((c : Thread nD τ).loc main_arg2)) shapeCasts_S1x4096_S4096) := by
  refine (dats m 0 c).arrAt_eq_of_covers 3 _ (by decide +kernel) fun t hf y => ?_
  blk_simp
  rw [after0_3]; frame_out
  show k0_pay1 (F := Ideal) (iblk m c 0 t) (iblk m c 1 t) (iblk m c 2 t) y = ref _ _ _ ((win0_3.blk t).view.emb y)
  obtain ⟨r, q, rfl⟩ : ∃ (r : Fin 512) (q : Fin 4096), y = ix2 r q := ⟨y 0, y 1, eq_ix2 y⟩
  refine (pay_apply _ _ _ r q).trans (Eq.trans ?_ ((congrArg (ref _ _ _) (eq_ix2 (n0 := 16384) (n1 := 4096) _)).trans (ref_apply _ _ _ _ _)).symm)
  exact postEntry_congr (read0_3 m c t r q) (read1_3 m c t r q) ((gain2 m c t q).trans (congrArg (fun k => (shapeCast S4096 (m ((c : Thread nD τ).loc main_arg2)) shapeCasts_S1x4096_S4096) (ix1 k)) (col3 t r q))) (col3 t r q)

theorem frame_reference : Cert.quiescent_PostReferenceIdeal (hPostReferenceIdeal := Cert.PostReferenceIdeal.Gen.facts) := fun m ρ _ =>
  (θ_run Cert.PostReferenceIdeal.defs _ _).mono (fun r h => ⟨fun c => (h c).2, sem_eq_zero_of_no_sems (by decide) r.2⟩)
    (Cert.PostReferenceIdeal.Value.run (F := Ideal) m ρ)

/-- The layer's result is the reference's. -/
theorem values : Cert.algebraic_PostIdeal_PostReferenceIdeal (hPostIdeal := Cert.PostIdeal.Gen.facts) (hPostReferenceIdeal := Cert.PostReferenceIdeal.Gen.facts) := by
  intro m ρ m' ρ' _ hagree
  refine ⟨fun c => ref (m ((c : Thread nD τ).loc main_arg0)) (m ((c : Thread nD τ).loc main_arg1)) (shapeCast S4096 (m ((c : Thread nD τ).loc main_arg2)) shapeCasts_S1x4096_S4096),
    (θ_run defs _ _).mono (fun _ h c => ⟨(h c).1.trans (final m c), (h c).2⟩) (Value.run_blocks (F := Ideal) m ρ),
    (θ_run Cert.PostReferenceIdeal.defs _ _).mono (fun r h c => ⟨(h c).1.trans ?_, (h c).2⟩) (Cert.PostReferenceIdeal.Value.run (F := Ideal) m' ρ')⟩
  obtain ⟨a0, a1, a2⟩ := hagree c
  rw [a0, a1, a2]

end Cert.PostIdeal.Hand
-- ==== Proof.CastRun.lean ====
/-
  The first half-step's down projection, which casts the input weights beside it: the run.

  The cast weights are written in slabs of 96 rows, of which the last overhangs the array by 80 rows. What the buffers hold
  past the array's end is left open, so two of the windows are stated on the rows inside the array only. Once the slabs are
  used up, the last one is cast again at each of the remaining points.
-/
module

public import proofs.«01_k».proof.Proof.Gen.CastIdeal.Frame
public import proofs.«01_k».proof.Proof.Gen.CastIdeal.Skeleton
public import proofs.«01_k».proof.Defs
public import Idealize.ShloMosaic.Lib.Claim
public import Idealize.ShloMosaic.Lib.Pipeline.ValueKit.Geometry
public import Idealize.ShloMosaic.Lib.Pipeline.ValueKit.Acc

@[expose] public section

set_option maxRecDepth 16384

noncomputable section

namespace Cert.CastIdeal.Hand

open Cert.CastIdeal Cert.CastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

abbrev boxHid : Rect S512x11008 := Rect.unit (s := S512x11008) ![0, 0] S512x11008.size inb_S512x11008_S512x11008_0_0
abbrev boxDown : Rect S11008x512 := Rect.unit (s := S11008x512) ![0, 0] S11008x512.size inb_S11008x512_S11008x512_0_0
abbrev boxTile : Rect S512x512 := Rect.unit (s := S512x512) ![0, 0] S512x512.size inb_S512x512_S512x512_0_0
abbrev boxSlab : Rect S96x4096 := Rect.unit (s := S96x4096) ![0, 0] S96x4096.size inb_S96x4096_S96x4096_0_0

/-- The buffer of the product after its store. -/
def tile (x : Vec F S512x11008 .bf16) (w : Vec F S11008x512 .bf16) : Vec F S512x512 .bf16 :=
  View.canon [⟨boxTile, k0_pay1 (View.ld x boxHid) (View.ld w boxDown)⟩]
/-- The buffer of the cast slab after its store. -/
def narrowed (x : Vec F S96x4096 .f32) : Vec F S96x4096 .bf16 :=
  View.canon [⟨boxSlab, k0_pay2 (View.ld x boxSlab)⟩]

theorem narrowed_eq (x : Vec F S96x4096 .f32) : narrowed x = truncf .bf16 x bitsLt_bf16_f32 := by
  unfold narrowed
  rw [View.canon_cons_unit_lit _ _ _ (by intro a; fin_cases a <;> rfl), View.ld_unit_lit _ _ (by intro a; fin_cases a <;> rfl)]
  show truncf .bf16 (shapeCast S96x4096 x _) _ = _
  rw [shapeCast_self]

theorem cover_tile (p : Vec F S512x512 .bf16) (y : S512x512.Idx) : ∃ q ∈ ([⟨boxTile, p⟩] : List (View.Piece (Elt F) S512x512 .bf16)), y ∈ q.1.set :=
  View.cover_of_tiled [⟨boxTile, p⟩] S512x512.size (by rfl) y
theorem cover_slab (p : Vec F S96x4096 .bf16) (y : S96x4096.Idx) : ∃ q ∈ ([⟨boxSlab, p⟩] : List (View.Piece (Elt F) S96x4096 .bf16)), y ∈ q.1.set :=
  View.cover_of_tiled [⟨boxSlab, p⟩] S96x4096.size (by rfl) y

set_option maxHeartbeats 1000000 in
/-- The body: the product's tile and the cast slab are stored whole; what the three inputs hold stays. -/
theorem body_runs (c : Dev nD) (E : Set ℕ) (i : grid0.Coords) (a0 : Memref sig .tc .vmem S512x11008 .bf16) (h0 : a0.IsWhole)
    (a1 : Memref sig .tc .vmem S11008x512 .bf16) (h1 : a1.IsWhole) (a2 : Memref sig .tc .vmem S96x4096 .f32) (h2 : a2.IsWhole)
    (a3 : Memref sig .tc .vmem S512x512 .bf16) (h3 : a3.IsWhole) (a4 : Memref sig .tc .vmem S96x4096 .bf16) (h4 : a4.IsWhole)
    (x : Vec F S512x11008 .bf16) (w : Vec F S11008x512 .bf16) (s : Vec F S96x4096 .f32) (K : PUnit → sProp 𝕄) :
    iprop(owns (c : Thread nD τ) a0 fullShare x ∗ owns (c : Thread nD τ) a1 fullShare w ∗ owns (c : Thread nD τ) a2 fullShare s
        ∗ (∃ d, owns (c : Thread nD τ) a3 fullShare d) ∗ (∃ d, owns (c : Thread nD τ) a4 fullShare d)
        ∗ (iprop(owns (c : Thread nD τ) a0 fullShare x ∗ owns (c : Thread nD τ) a1 fullShare w ∗ owns (c : Thread nD τ) a2 fullShare s
            ∗ owns (c : Thread nD τ) a3 fullShare (tile x w) ∗ owns (c : Thread nD τ) a4 fullShare (narrowed s)) -∗ K ⟨⟩))
      ⊢ wp frame (wpE (defs₀ (F := F)) Variants.none c none) E (cc0__matmul_cast_kernel i a0 h0 a1 h1 a2 h2 a3 h3 a4 h4) K := by
  simp only [cc0__matmul_cast_kernel_eq_skeleton]; unfold cc0__matmul_cast_kernel_skel
  unfold owns
  iintro ⟨⟨%f0, %e0, H0⟩, ⟨%f1, %e1, H1⟩, ⟨%f2, %e2, H2⟩, ⟨%d3, %f3, -, H3⟩, ⟨%d4, %f4, -, H4⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_tile _)
  iexists _; isplitr
  swap; · iexact H4
  ipureintro
  exact View.read_writes_eq_canon _ _ _ (cover_slab _)

variable (m : (ℓ : Loc nD τ sig) → Buf (Elt F) ℓ) (ρ : Dev nD → PrngReg)

/-- The slab of point `t` where it lies inside the array, filled up with zeros. -/
def slab (c : Dev nD) (t : Fin cfg0.N) : Vec F S96x4096 .f32 :=
  win0_2.fill (grid0.coords t) (fun _ => Scalar.ofBits .f32 0#32) (iblk m c 2 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slab m c t
    | ⟨3, _⟩ => tile (iblk m c 0 t) (iblk m c 1 t)
    | ⟨4, _⟩ => narrowed (slab m c t)
  Φ _ := Pipeline.ΦA spec0 c
  q _ := fullShare
  owed _ := 0

theorem arrays (c : Dev nD) (w : Fin cfg0.W) : (dats m 0 c).A w = V m c (Pipeline.arrRef spec0 w) := by
  dsimp only [dats]

theorem after_hid (c : Dev nD) (t : Fin cfg0.N) : (dats m 0 c).after 0 t = iblk m c 0 t := by dsimp only [dats]
theorem after_down (c : Dev nD) (t : Fin cfg0.N) : (dats m 0 c).after 1 t = iblk m c 1 t := by dsimp only [dats]
theorem after_slab (c : Dev nD) (t : Fin cfg0.N) : (dats m 0 c).after 2 t = slab m c t := by dsimp only [dats]
theorem after_tile (c : Dev nD) (t : Fin cfg0.N) : (dats m 0 c).after 3 t = tile (iblk m c 0 t) (iblk m c 1 t) := by dsimp only [dats]
theorem after_cast (c : Dev nD) (t : Fin cfg0.N) : (dats m 0 c).after 4 t = narrowed (slab m c t) := by dsimp only [dats]

theorem before_hid (c : Dev nD) (t : Fin cfg0.N) (d) : (dats m 0 c).before 0 t d = iblk m c 0 t :=
  before0_0_of m (dats m 0 c) (arrays m c 0) (after_hid m c) t d
theorem before_down (c : Dev nD) (t : Fin cfg0.N) (d) : (dats m 0 c).before 1 t d = iblk m c 1 t :=
  before0_1_of m (dats m 0 c) (arrays m c 1) (after_down m c) t d

theorem slab_inside (c : Dev nD) (t : Fin cfg0.N) : win0_2.cut (grid0.coords t) (slab m c t) = iblk m c 2 t :=
  win0_2.cut_fill _ _ _

/-- How much of a slab lies inside the array depends on the slab alone. -/
theorem cuts_alike (t t' : Fin cfg0.N) (h : win0_2.index t = win0_2.index t') : win0_2.clip (grid0.coords t) = win0_2.clip (grid0.coords t') := by
  funext a
  exact congrArg (fun ix : Fin 2 → Nat => Pipeline.Clip.of (ix a) (S96x4096.size a) (S21232x4096.size a)) h

/-- The slab's buffer holds the slab where it lies inside the array, just copied in or not. -/
theorem before_slab (c : Dev nD) (t : Fin cfg0.N) (d) : (dats m 0 c).before 2 t d = win0_2.fill (grid0.coords t) d (iblk m c 2 t) :=
  ((dats m 0 c).before_in_eq_fetched 2 rfl (fun _ => rfl) cuts_alike
    (fun t => by rw [after_slab]; refine (slab_inside m c t).trans ?_; unfold Dat.blockOf iblk; rw [arrays]) t d).trans
    (by unfold Dat.fetched Dat.blockOf iblk; rw [arrays])

/-- Rows inside the array are cast alike, whatever lies past its end. -/
theorem cast_inside (c : Dev nD) (t : Fin cfg0.N) (d : Vec F S96x4096 .f32) :
    win0_4.cut (grid0.coords t) (narrowed (win0_2.fill (grid0.coords t) d (iblk m c 2 t))) = win0_4.cut (grid0.coords t) (narrowed (slab m c t)) := by
  rw [narrowed_eq, narrowed_eq]
  funext j
  exact congrArg (fun e : F .f32 => FloatOps.truncf .bf16 bitsLt_bf16_f32 e)
    ((win0_2.fill_xinj (grid0.coords t) d (iblk m c 2 t) j).trans (win0_2.fill_xinj (grid0.coords t) _ (iblk m c 2 t) j).symm)

/-! ## The run -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t)))))

theorem point_runs (c : Dev nD) (t : Fin cfg0.N) :
    pre m c t ⊢ wp frame (wpE (defs₀ (F := F)) Variants.none c none) Set.univ (bodyAt0 t) (fun _ => post m c t) := by
  unfold pre post bodyAt0
  simp only [before_hid, before_down, before_slab]
  rw [show (dats m 0 c).Φ t.succ = (dats m 0 c).Φ t.castSucc from rfl,
    show (dats m 0 c).owesAt () t.succ = (dats m 0 c).owesAt () t.castSucc from rfl,
    after_hid, after_down, after_slab, after_tile, after_cast, slab_inside]
  iintro ⟨HΦ, Ho, ⟨%d0, H0⟩, ⟨%d1, H1⟩, ⟨%d2, H2⟩, ⟨%d3, H3⟩, ⟨%d4, H4⟩⟩
  iapply (body_runs c Set.univ (grid0.coords t) _ _ _ _ _ _ _ _ _ _ (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexists d2; iexact H2
  isplitl [H3]; · iexact H3
  iexists narrowed (win0_2.fill (grid0.coords t) d2 (iblk m c 2 t))
  rw [show win0_4.fill (grid0.coords t) (narrowed (win0_2.fill (grid0.coords t) d2 (iblk m c 2 t))) (win0_4.cut (grid0.coords t) (narrowed (slab m c t)))
    = narrowed (win0_2.fill (grid0.coords t) d2 (iblk m c 2 t)) from win0_4.fill_congr_cut _ (cast_inside m c t d2)]
  iexact H4

theorem row (t : Fin cfg0.N) : defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ := fun t => by
  rw [bigSep_W0, bigSep_W0, row]
  exact triple_restated (point_runs m c t) rfl .rfl fun _ => .rfl

set_option backward.isDefEq.respectTransparency.types false in
set_option maxHeartbeats 800000 in
/-- Every array ends as the blocks say, every semaphore at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := arrays m) (hΦ := fun _ _ => rfl)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (arrays m) ((θ_run defs _ _).mono (fun _ h => h.1) (run m ρ))

/-- The arguments stay as they were and the semaphores end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (run m ρ))

end Cert.CastIdeal.Hand
-- ==== Proof.CastValue.lean ====
/-
  The first half-step's down projection and the cast input weights at the extended reals.
-/
module

public import proofs.«01_k».proof.Proof.Entry
public import proofs.«01_k».proof.Proof.CastRun
public import proofs.«01_k».proof.Proof.Gen.Cast
public import proofs.«01_k».proof.Proof.Gen.CastReferenceIdeal.Run
public import Idealize.ShloMosaic.Lib.Tactic

@[expose] public section

noncomputable section

namespace Cert.CastIdeal.Hand

open Cert.CastIdeal Cert.CastIdeal.Gen
open Idealize.ShloMosaic Idealize.SL.Sem Idealize.ShloMosaic.TcCoe Idealize.ShloMosaic.ValueIdx

theorem tile_eq (x : Vec Ideal S512x11008 .bf16) (w : Vec Ideal S11008x512 .bf16) : tile (F := Ideal) x w = k0_pay1 (F := Ideal) x w := by
  unfold tile
  rw [View.canon_cons_unit_lit _ _ _ (by intro a; fin_cases a <;> rfl), View.ld_unit_lit _ _ (by intro a; fin_cases a <;> rfl),
    View.ld_unit_lit _ _ (by intro a; fin_cases a <;> rfl)]

/-- A tile of the product. -/
theorem tile_apply (x : FVec Ideal S512x11008 .bf16) (w : FVec Ideal S11008x512 .bf16) (r : Fin 512) (q : Fin 512) :
    tile (F := Ideal) x w (ix2 r q) = entry x w r q :=
  (congrFun (tile_eq x w) _).trans (matmul_entry (M := 512) (K := 11008) (N := 512) x w r q)

/-- The product, as the reference writes it. -/
abbrev product (x : FVec Ideal Cert.CastReferenceIdeal.S16384x11008 .bf16) (w : FVec Ideal Cert.CastReferenceIdeal.S11008x4096 .bf16) :
    FVec Ideal Cert.CastReferenceIdeal.S16384x4096 .bf16 :=
  truncf .bf16 (Host.dotGeneral Cert.CastReferenceIdeal.dot_S16384x11008_S11008x4096_S16384x4096_1_0_0_1_n_n none
    (extf .f32 x Cert.CastReferenceIdeal.Gen.bitsLt_bf16_f32) (extf .f32 w Cert.CastReferenceIdeal.Gen.bitsLt_bf16_f32)) Cert.CastReferenceIdeal.Gen.bitsLt_bf16_f32
theorem product_apply (x : FVec Ideal Cert.CastReferenceIdeal.S16384x11008 .bf16) (w : FVec Ideal Cert.CastReferenceIdeal.S11008x4096 .bf16)
    (i : Fin 16384) (j : Fin 4096) : product x w (ix2 i j) = entry x w i j :=
  dotGeneral_entry (M := 16384) (K := 11008) (N := 4096) (φ₁ := .f32) (φ₂ := .f32) x w i j

/-- The weights turned and cast. -/
abbrev turned (w : FVec Ideal Cert.CastReferenceIdeal.S1x4096x21232 .f32) : FVec Ideal Cert.CastReferenceIdeal.S21232x4096 .bf16 :=
  truncf .bf16 (transpose Cert.CastReferenceIdeal.S21232x4096 [1, 0]
    (shapeCast _ w Cert.CastReferenceIdeal.Gen.shapeCasts_S1x4096x21232_S4096x21232) Cert.CastReferenceIdeal.Gen.transposes_S4096x21232_S21232x4096_1_0)
    Cert.CastReferenceIdeal.Gen.bitsLt_bf16_f32

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx3 : ∀ t : Fin cfg0.N, win0_3.index t = ![(grid0.coords t 0).val, (grid0.coords t 1).val] := (by decide +kernel : ∀ t : Fin grid0.N, _)

variable (m : (ℓ : Loc nD τ sig) → Buf (Elt Ideal) ℓ)

theorem final_product (c : Dev nD) : (dats m 0 c).arrAt 3 cfg0.N = product (V m c main_arg0) (V m c main_arg1) := by
  refine (dats m 0 c).arrAt_eq_of_covers 3 _ (by decide +kernel) fun t hf y => ?_
  blk_simp
  rw [after_tile]
  refine (congrArg (tile (F := Ideal) (iblk m c 0 t) (iblk m c 1 t)) (eq_ix2 (n0 := 512) (n1 := 512) y)).trans ((tile_apply (iblk m c 0 t) (iblk m c 1 t) (y 0) (y 1)).trans ?_)
  refine Eq.trans ?_ ((congrArg (product _ _) (eq_ix2 (n0 := 16384) (n1 := 4096) _)).trans (product_apply _ _ _ _)).symm
  refine entry_congr (fun k => ?_) (fun k => ?_)
  · refine congrArg (V m c main_arg0) ?_
    refine Shape.idx_ext₂ ?_ ?_
    · show (((win0_0.blk t).view.emb (ix2 (y 0) k)) 0).val = (((win0_3.blk t).view.emb y) 0).val
      blk_simp [idx0, idx3]; rfl
    · show (((win0_0.blk t).view.emb (ix2 (y 0) k)) 1).val = k.val
      blk_simp [idx0]; rfl
  · refine congrArg (V m c main_arg1) ?_
    refine Shape.idx_ext₂ ?_ ?_
    · show (((win0_1.blk t).view.emb (ix2 k (y 1))) 0).val = k.val
      blk_simp [idx1]; rfl
    · show (((win0_1.blk t).view.emb (ix2 k (y 1))) 1).val = (((win0_3.blk t).view.emb y) 1).val
      blk_simp [idx1, idx3]; rfl

theorem V_turned (c : Dev nD) : V m c main_v1 = transpose S21232x4096 [1, 0]
    (shapeCast S4096x21232 (m ((c : Thread nD τ).loc main_arg2)) shapeCasts_S1x4096x21232_S4096x21232) transposes_S4096x21232_S21232x4096_1_0 := by
  unfold V hostOps0
  after_results
  rfl

theorem final_cast (c : Dev nD) : (dats m 0 c).arrAt 4 cfg0.N = turned (m ((c : Thread nD τ).loc main_arg2)) := by
  refine (dats m 0 c).arrAt_eq_of_covers 4 _ (by decide +kernel) fun t hf y => ?_
  rw [after_cast, narrowed_eq]
  refine (cast_eq _ _).trans ?_
  have inside : slab m c t (win0_2.xinj (grid0.coords t) y) = iblk m c 2 t y := by
    unfold slab; exact win0_2.fill_xinj (grid0.coords t) _ (iblk m c 2 t) y
  refine Eq.trans (b := (slab m c t (win0_2.xinj (grid0.coords t) y) : EReal)) rfl (inside.trans ?_)
  exact congrFun (V_turned m c) _

/-- The kernel and its reading at the extended reals have the same bodies. -/
theorem defs_eq {F : FTy → Type} [FloatOps F] : Cert.Cast.defs (F := F) = Cert.CastIdeal.defs (F := F) := by sl_kernel_rfl

theorem frame_kernel : Cert.quiescent_Cast (hCast := Cert.Cast.Gen.facts) := fun m ρ _ => by
  rw [defs_eq]
  exact frame (F := Bits) m ρ

theorem frame_ideal : Cert.quiescent_CastIdeal (hCastIdeal := Cert.CastIdeal.Gen.facts) := fun m ρ _ => frame (F := Ideal) m ρ

theorem frame_reference : Cert.quiescent_CastReferenceIdeal (hCastReferenceIdeal := Cert.CastReferenceIdeal.Gen.facts) := fun m ρ _ =>
  (θ_run Cert.CastReferenceIdeal.defs _ _).mono (fun r h => ⟨fun c => (h c).2.2, sem_eq_zero_of_no_sems (by decide) r.2⟩)
    (Cert.CastReferenceIdeal.Value.run (F := Ideal) m ρ)

/-- The kernel's run with its two results. -/
theorem run_values (ρ : Dev nD → PrngReg) :
    θ_run defs (onTc (τ := τ) (main (F := Ideal))) ⟨m, fun _ => 0, ρ⟩ fun r => ∀ c : Dev nD,
      r.2.mem ((c.tc : Thread nD τ).loc main_v2_0) = product (m ((c : Thread nD τ).loc main_arg0)) (m ((c : Thread nD τ).loc main_arg1))
      ∧ r.2.mem ((c.tc : Thread nD τ).loc main_v2_1) = turned (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1.1 c).1 3).trans ((final_product m c).trans (congrArg₂ (fun x w => product x w) (V_main_arg0 m c) (V_main_arg1 m c))),
      ((h.1.1 c).1 4).trans (final_cast m c), h.2 c⟩)
    (θ_run_and (run m ρ) (kept m ρ))

/-- Both results are the reference's. -/
theorem values : Cert.algebraic_CastIdeal_CastReferenceIdeal (hCastIdeal := Cert.CastIdeal.Gen.facts) (hCastReferenceIdeal := Cert.CastReferenceIdeal.Gen.facts) := by
  intro m ρ m' ρ' _ hagree
  refine ⟨fun c => product (m ((c : Thread nD τ).loc main_arg0)) (m ((c : Thread nD τ).loc main_arg1)),
    fun c => turned (m ((c : Thread nD τ).loc main_arg2)), run_values m ρ,
    (θ_run Cert.CastReferenceIdeal.defs _ _).mono (fun r h c => ⟨(h c).1.trans ?_, (h c).2.1.trans ?_, (h c).2.2⟩) (Cert.CastReferenceIdeal.Value.run (F := Ideal) m' ρ')⟩
  · obtain ⟨a0, a1, a2⟩ := hagree c
    exact congrArg₂ (fun x w => product x w) a0 a1
  · obtain ⟨a0, a1, a2⟩ := hagree c
    exact congrArg (fun w => turned w) a2

end Cert.CastIdeal.Hand
-- ==== Proof.ProjTable.lean ====
/-
  The input projection's table of first rows, and the blocks of the weights it names.
-/
module

public import proofs.«01_k».proof.Proof.Gen.ProjIdeal.Frame

@[expose] public section

noncomputable section

namespace Cert.ProjIdeal.Hand

open Cert.ProjIdeal Cert.ProjIdeal.Gen
open Idealize.ShloMosaic Idealize.SL.Sem Idealize.ShloMosaic.TcCoe

variable {F : FTy → Type} [FloatOps F]

/-- The first row of the weights that the `k`-th block of columns multiplies. -/
def start (k : Fin 85) : ℕ := (lit0 k).toNat

/-- The number of block `b` of the step `j`. -/
def blockNo (j : Fin 17) (b : Fin 5) : Fin 85 := ⟨j.val * 5 + b.val, by omega⟩

/-- The table's contents: the constant the host writes. -/
def table : pre0.Contents (Elt F)
  | 0 => fun i => lit0 (S85.rowMajor i)

theorem tbl_eq (m : (ℓ : Loc nD τ sig) → Buf (Elt F) ℓ) : tbl m = table := by
  funext j
  obtain rfl : j = 0 := Subsingleton.elim _ _
  show StableHlo.after hostOps0 _ main_c = _
  after_results
  rfl

/-- The place in the table that a window's index map reads. -/
theorem place : ∀ (j : Fin 17) (b : Fin 5),
    (Scalar.indexCast (Scalar.addi (Scalar.muli (BitVec.ofNat 32 j.val) 5#32) (BitVec.ofNat 32 b.val)) : Index).toNat = j.val * 5 + b.val := by
  decide +kernel

/-- The table read at the place of block `b` of the step `j`. -/
theorem read_table (j : Fin 17) (b : Fin 5) (i : S85.Idx) (hi : (i 0).val = j.val * 5 + b.val) :
    lit0 (S85.rowMajor i) = lit0 (blockNo j b) :=
  congrArg lit0 (Fin.ext ((Shape.rowMajor_val_one i).trans hi))

theorem at_eq (j : Fin 17) (b : Fin 5) (off : Fin 1 → ℕ) (h0 : off 0 = j.val * 5 + b.val) (h : ∀ a, off a + S1.size a ≤ S85.size a) (h1 : S1.numel = 1) :
    (table (F := F)).at 0 (Rect.unit (s := S85) off S1.size h) h1 = lit0 (blockNo j b) :=
  read_table j b _ (by show off 0 + 1 * 0 = _; omega)

theorem atD_eq (j : Fin 17) (b : Fin 5) (n : ℕ) (h0 : n = j.val * 5 + b.val) :
    (table (F := F)).atD 0 ![n] = lit0 (blockNo j b) := by
  have hlt : ∀ a, (![n] : Fin 1 → ℕ) a + 1 ≤ S85.size a := by
    intro a
    obtain rfl : a = 0 := Subsingleton.elim _ _
    have := j.isLt; have := b.isLt
    show n + 1 ≤ 85
    omega
  refine (dif_pos hlt).trans (read_table j b _ ?_)
  exact h0

theorem map1 (i : grid0.Coords) : cc0_transform_1 k0_off1_inb numel1_S1 (table (F := F)) i = ![start (blockNo (i 1) 0), 0] :=
  congrArg (fun v : BitVec 32 => (![v.toNat, 0] : Fin 2 → ℕ)) (at_eq (i 1) 0 _ (place (i 1) 0) _ _)
theorem map2 (i : grid0.Coords) : cc0_transform_2 k0_off1_inb numel1_S1 (table (F := F)) i = ![start (blockNo (i 1) 1), 0] :=
  congrArg (fun v : BitVec 32 => (![v.toNat, 0] : Fin 2 → ℕ)) (at_eq (i 1) 1 _ (place (i 1) 1) _ _)
theorem map3 (i : grid0.Coords) : cc0_transform_3 k0_off1_inb numel1_S1 (table (F := F)) i = ![start (blockNo (i 1) 2), 0] :=
  congrArg (fun v : BitVec 32 => (![v.toNat, 0] : Fin 2 → ℕ)) (at_eq (i 1) 2 _ (place (i 1) 2) _ _)
theorem map4 (i : grid0.Coords) : cc0_transform_4 k0_off1_inb numel1_S1 (table (F := F)) i = ![start (blockNo (i 1) 3), 0] :=
  congrArg (fun v : BitVec 32 => (![v.toNat, 0] : Fin 2 → ℕ)) (at_eq (i 1) 3 _ (place (i 1) 3) _ _)
theorem map5 (i : grid0.Coords) : cc0_transform_5 k0_off1_inb numel1_S1 (table (F := F)) i = ![start (blockNo (i 1) 4), 0] :=
  congrArg (fun v : BitVec 32 => (![v.toNat, 0] : Fin 2 → ℕ)) (at_eq (i 1) 4 _ (place (i 1) 4) _ _)

/-- Every entry of the table is a multiple of sixteen, -/
theorem dvd_lit : ∀ k : Fin 85, (16 : Int) ∣ (lit0 k).toInt := by decide +kernel
theorem dvd_start : ∀ k : Fin 85, 2 ∣ start k := by unfold start; decide +kernel
/-- and the block that begins there lies inside the weights. -/
theorem start_le : ∀ k : Fin 85, start k + 256 ≤ 21232 := by unfold start; decide +kernel

/-- A block of the weights lies inside them and is moved in whole words. -/
theorem block_ok (f : Fin 2 → ℕ) (k : Fin 85) (hf : f = ![start k, 0]) :
    ∃ h : (∀ a, f a + S256x4096.size a ≤ S21232x4096.size a),
      EltTy.bits .bf16 = 32 ∨ (Rect.unit (s := S21232x4096) f S256x4096.size h).WholeWords (EltTy.packing .bf16) := by
  subst hf
  refine ⟨fun a => ?_, .inr (Affine.words_of_packed (Affine.packed_dvd (by decide) ?_ (by decide)))⟩
  · match a with
    | 0 => exact start_le k
    | 1 => exact Nat.le_refl 4096
  · exact dvd_start k

theorem ok_table : ok0 (table (F := F)) :=
  ⟨fun i => (congrArg (fun v : BitVec 32 => (16 : Int) ∣ v.toInt) (atD_eq (F := F) (i 1) 0 _ (place (i 1) 0))).mpr (dvd_lit _),
   fun i => (congrArg (fun v : BitVec 32 => (16 : Int) ∣ v.toInt) (atD_eq (F := F) (i 1) 1 _ (place (i 1) 1))).mpr (dvd_lit _),
   fun i => (congrArg (fun v : BitVec 32 => (16 : Int) ∣ v.toInt) (atD_eq (F := F) (i 1) 2 _ (place (i 1) 2))).mpr (dvd_lit _),
   fun i => (congrArg (fun v : BitVec 32 => (16 : Int) ∣ v.toInt) (atD_eq (F := F) (i 1) 3 _ (place (i 1) 3))).mpr (dvd_lit _),
   fun i => (congrArg (fun v : BitVec 32 => (16 : Int) ∣ v.toInt) (atD_eq (F := F) (i 1) 4 _ (place (i 1) 4))).mpr (dvd_lit _),
   fun i => block_ok _ _ (map1 i), fun i => block_ok _ _ (map2 i), fun i => block_ok _ _ (map3 i), fun i => block_ok _ _ (map4 i),
   fun i => block_ok _ _ (map5 i)⟩

/-- The table the host writes is admitted. -/
theorem ok (m : (ℓ : Loc nD τ sig) → Buf (Elt F) ℓ) : Ok m := by
  show ok0 (tbl m)
  rw [tbl_eq m]
  exact ok_table

end Cert.ProjIdeal.Hand
-- ==== Proof.ProjValue.lean ====
/-
  The input projection at the extended reals.
-/
module

public import proofs.«01_k».proof.Proof.Entry
public import proofs.«01_k».proof.Proof.ProjTable
public import proofs.«01_k».proof.Proof.Gen.ProjReferenceIdeal.Run
public import proofs.«01_k».proof.Defs
public import Idealize.ShloMosaic.Lib.Pipeline.ValueKit.Geometry
public import Idealize.ShloMosaic.Lib.Pipeline.ValueKit.Acc
public import Idealize.ShloMosaic.Lib.Pipeline.ValueKit.Tiles

@[expose] public section

noncomputable section

namespace Cert.ProjIdeal.Hand

open Cert.ProjIdeal Cert.ProjIdeal.Gen
open Idealize.ShloMosaic Idealize.SL.Sem Idealize.ShloMosaic.TcCoe Idealize.ShloMosaic.ValueIdx

/-- The row of the weights that the column `C` of the result multiplies. -/
def src (C : Fin 21760) : Fin 21232 :=
  ⟨start ⟨C.val / 256, by omega⟩ + C.val % 256, by have := start_le ⟨C.val / 256, by omega⟩; omega⟩

theorem src_val (C : Fin 21760) (j : Fin 17) (b : Fin 5) (q : ℕ) (hq : q < 256) (h : C.val = j.val * 1280 + b.val * 256 + q) :
    (src C).val = start (blockNo j b) + q := by
  have h1 : C.val / 256 = j.val * 5 + b.val := by omega
  have h2 : C.val % 256 = q := by omega
  exact congrArg₂ (fun (k : Fin 85) (r : ℕ) => start k + r) (Fin.ext h1) h2

/-- An entry of the result. -/
def sum (x : FVec Ideal S16384x4096 .bf16) (w : FVec Ideal S21232x4096 .bf16) (i : Fin 16384) (C : Fin 21760) : EReal :=
  ∑ k : Fin 4096, x (ix2 i k) * w (ix2 (src C) k)

/-- An entry of a block's product. -/
def tile (x : FVec Ideal S1024x4096 .bf16) (w : FVec Ideal S256x4096 .bf16) (r : Fin 1024) (q : Fin 256) : EReal :=
  ∑ k : Fin 4096, x (ix2 r k) * w (ix2 q k)

theorem pay_apply (x : FVec Ideal S1024x4096 .bf16) (w : FVec Ideal S256x4096 .bf16) (z : S1024x256.Idx) :
    k0_pay1 (F := Ideal) x w z = tile x w (z 0) (z 1) := by
  refine (congrArg (k0_pay1 (F := Ideal) x w) (eq_ix2 (n0 := 1024) (n1 := 256) z)).trans ?_
  refine (Ideal.matmul_transposedRhs_apply (M := 1024) (K := 4096) (N := 256) none x w _ (z 0) (z 1)).trans ?_
  show Ideal.ofBits .f32 0x00000000#32 + _ = _
  rw [Ideal.ofBits_zero_f32, zero_add]; rfl

/-- What a step leaves in the result's tile: five blocks of columns, each a product with its own block of the weights. -/
theorem out_eq (c : Dev nD) (i : grid0.Coords) (arg3 : Memref sig .tc .vmem S1024x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S1024x1280 .f32) (harg9 : arg9.IsWhole)
    (x0 : FVec Ideal S1024x4096 .bf16) (w : Fin 5 → FVec Ideal S256x4096 .bf16) (xt0 : TbBuf0 (F := Ideal) c tbM0_0) (y : S1024x1280.Idx) (v : EReal)
    (H : ∀ (b : Fin 5) (r : Fin 1024) (q : Fin 256), (y 0).val = r.val → (y 1).val = b.val * 256 + q.val →
      tile x0 (w b) r q = v) :
    out0_A_6 (F := Ideal) c i arg3 harg3 arg4 harg4 arg5 harg5 arg6 harg6 arg7 harg7 arg8 harg8 arg9 harg9 x0 (w 0) (w 1) (w 2) (w 3) (w 4) xt0 y = v := by
  frame_out
  canon_tiles x h
  · exact (pay_apply x0 (w 4) x).trans (H 4 (x 0) (x 1) h0 h1)
  · exact (pay_apply x0 (w 3) x).trans (H 3 (x 0) (x 1) h0 h1)
  · exact (pay_apply x0 (w 2) x).trans (H 2 (x 0) (x 1) h0 h1)
  · exact (pay_apply x0 (w 1) x).trans (H 1 (x 0) (x 1) h0 h1)
  · exact (pay_apply x0 (w 0) x).trans (H 0 (x 0) (x 1) h0 (h1.trans (Nat.zero_add _).symm))

theorem idx6 : ∀ t : Fin grid0.N, cc0_transform_6 (grid0.coords t) = ![(grid0.coords t 0).val, (grid0.coords t 1).val] := by decide +kernel
theorem idx0 : ∀ t : Fin grid0.N, cc0_transform_0 (grid0.coords t) = ![(grid0.coords t 0).val, 0] := by decide +kernel

/-- Every tile of the result is some step's. -/
theorem tile_at : ∀ (a : Fin 16) (b : Fin 17), ∃ h : a.val * 17 + b.val < grid0.N, cc0_transform_6 (grid0.coords ⟨a.val * 17 + b.val, h⟩) = ![a.val, b.val] := by
  decide +kernel

variable (m : (ℓ : Loc nD τ sig) → Buf (Elt Ideal) ℓ)

theorem covers : ((cfgM m (ok m)).win 6).Covers := by
  have e : ∀ β : (a : Fin 2) → Fin (((cfgM m (ok m)).win 6).nblk a), ∃ t : Fin grid0.N, cc0_transform_6 (grid0.coords t) = ![(β (0 : Fin 2)).val, (β (1 : Fin 2)).val] := fun β => by
    have h0 : (β (0 : Fin 2)).val < 16 := (β (0 : Fin 2)).isLt.trans_eq (by decide : (16384 + 1024 - 1) / 1024 = 16)
    have h1 : (β (1 : Fin 2)).val < 17 := (β (1 : Fin 2)).isLt.trans_eq (by decide : (21760 + 1280 - 1) / 1280 = 17)
    obtain ⟨h, e⟩ := tile_at ⟨(β (0 : Fin 2)).val, h0⟩ ⟨(β (1 : Fin 2)).val, h1⟩
    exact ⟨_, e⟩
  refine ⟨(Fin.forall_fin_two.mpr ⟨(by decide : 0 < 1024), (by decide : 0 < 1280)⟩ : ∀ a : Fin 2, 0 < ((cfgM m (ok m)).win 6).size a), fun β => ?_⟩
  obtain ⟨t, h⟩ := e β
  refine ⟨t, flush0_6 (adm m (ok m)) t, fun a => ⟨(congrFun h a).trans ?_, .inl rfl⟩⟩
  revert a
  exact Fin.forall_fin_two.mpr ⟨rfl, rfl⟩

/-- The whole result. -/
def result (x : FVec Ideal S16384x4096 .bf16) (w : FVec Ideal S21232x4096 .bf16) : FVec Ideal S16384x21760 .f32 :=
  fun i => sum x w (i 0) (i 1)

theorem result_apply (x : FVec Ideal S16384x4096 .bf16) (w : FVec Ideal S21232x4096 .bf16) (i : S16384x21760.Idx) : result x w i = sum x w (i 0) (i 1) := rfl

theorem weights1 (c : Dev nD) (t : Fin grid0.N) (q : Fin 256) (k : Fin 4096) (R : Fin 21232) (hR : R.val = start (blockNo (grid0.coords t 1) 0) + q.val) :
    iblk m (ok m) c 1 t (ix2 q k) = m ((c : Thread nD τ).loc main_arg1) (ix2 R k) := by
  have e : ((cfgM m (ok m)).win 1).index t = ![start (blockNo (grid0.coords t 1) 0), 0] :=
    (congrArg (fun p => cc0_transform_1 k0_off1_inb numel1_S1 p (grid0.coords t)) (tbl_eq m)).trans (map1 (grid0.coords t))
  refine (congrFun (V_main_arg1 m c) _).trans (congrArg (m ((c : Thread nD τ).loc main_arg1)) ?_)
  refine Shape.idx_ext₂ ?_ ?_
  · show ((cfgM m (ok m)).win 1).index t (0 : Fin 2) + 1 * q.val = R.val
    rw [e, Nat.one_mul]; exact hR.symm
  · show ((cfgM m (ok m)).win 1).index t (1 : Fin 2) + 1 * k.val = k.val
    rw [e, Nat.one_mul]; exact Nat.zero_add _

theorem weights2 (c : Dev nD) (t : Fin grid0.N) (q : Fin 256) (k : Fin 4096) (R : Fin 21232) (hR : R.val = start (blockNo (grid0.coords t 1) 1) + q.val) :
    iblk m (ok m) c 2 t (ix2 q k) = m ((c : Thread nD τ).loc main_arg1) (ix2 R k) := by
  have e : ((cfgM m (ok m)).win 2).index t = ![start (blockNo (grid0.coords t 1) 1), 0] :=
    (congrArg (fun p => cc0_transform_2 k0_off1_inb numel1_S1 p (grid0.coords t)) (tbl_eq m)).trans (map2 (grid0.coords t))
  refine (congrFun (V_main_arg1 m c) _).trans (congrArg (m ((c : Thread nD τ).loc main_arg1)) ?_)
  refine Shape.idx_ext₂ ?_ ?_
  · show ((cfgM m (ok m)).win 2).index t (0 : Fin 2) + 1 * q.val = R.val
    rw [e, Nat.one_mul]; exact hR.symm
  · show ((cfgM m (ok m)).win 2).index t (1 : Fin 2) + 1 * k.val = k.val
    rw [e, Nat.one_mul]; exact Nat.zero_add _

theorem weights3 (c : Dev nD) (t : Fin grid0.N) (q : Fin 256) (k : Fin 4096) (R : Fin 21232) (hR : R.val = start (blockNo (grid0.coords t 1) 2) + q.val) :
    iblk m (ok m) c 3 t (ix2 q k) = m ((c : Thread nD τ).loc main_arg1) (ix2 R k) := by
  have e : ((cfgM m (ok m)).win 3).index t = ![start (blockNo (grid0.coords t 1) 2), 0] :=
    (congrArg (fun p => cc0_transform_3 k0_off1_inb numel1_S1 p (grid0.coords t)) (tbl_eq m)).trans (map3 (grid0.coords t))
  refine (congrFun (V_main_arg1 m c) _).trans (congrArg (m ((c : Thread nD τ).loc main_arg1)) ?_)
  refine Shape.idx_ext₂ ?_ ?_
  · show ((cfgM m (ok m)).win 3).index t (0 : Fin 2) + 1 * q.val = R.val
    rw [e, Nat.one_mul]; exact hR.symm
  · show ((cfgM m (ok m)).win 3).index t (1 : Fin 2) + 1 * k.val = k.val
    rw [e, Nat.one_mul]; exact Nat.zero_add _

theorem weights4 (c : Dev nD) (t : Fin grid0.N) (q : Fin 256) (k : Fin 4096) (R : Fin 21232) (hR : R.val = start (blockNo (grid0.coords t 1) 3) + q.val) :
    iblk m (ok m) c 4 t (ix2 q k) = m ((c : Thread nD τ).loc main_arg1) (ix2 R k) := by
  have e : ((cfgM m (ok m)).win 4).index t = ![start (blockNo (grid0.coords t 1) 3), 0] :=
    (congrArg (fun p => cc0_transform_4 k0_off1_inb numel1_S1 p (grid0.coords t)) (tbl_eq m)).trans (map4 (grid0.coords t))
  refine (congrFun (V_main_arg1 m c) _).trans (congrArg (m ((c : Thread nD τ).loc main_arg1)) ?_)
  refine Shape.idx_ext₂ ?_ ?_
  · show ((cfgM m (ok m)).win 4).index t (0 : Fin 2) + 1 * q.val = R.val
    rw [e, Nat.one_mul]; exact hR.symm
  · show ((cfgM m (ok m)).win 4).index t (1 : Fin 2) + 1 * k.val = k.val
    rw [e, Nat.one_mul]; exact Nat.zero_add _

theorem weights5 (c : Dev nD) (t : Fin grid0.N) (q : Fin 256) (k : Fin 4096) (R : Fin 21232) (hR : R.val = start (blockNo (grid0.coords t 1) 4) + q.val) :
    iblk m (ok m) c 5 t (ix2 q k) = m ((c : Thread nD τ).loc main_arg1) (ix2 R k) := by
  have e : ((cfgM m (ok m)).win 5).index t = ![start (blockNo (grid0.coords t 1) 4), 0] :=
    (congrArg (fun p => cc0_transform_5 k0_off1_inb numel1_S1 p (grid0.coords t)) (tbl_eq m)).trans (map5 (grid0.coords t))
  refine (congrFun (V_main_arg1 m c) _).trans (congrArg (m ((c : Thread nD τ).loc main_arg1)) ?_)
  refine Shape.idx_ext₂ ?_ ?_
  · show ((cfgM m (ok m)).win 5).index t (0 : Fin 2) + 1 * q.val = R.val
    rw [e, Nat.one_mul]; exact hR.symm
  · show ((cfgM m (ok m)).win 5).index t (1 : Fin 2) + 1 * k.val = k.val
    rw [e, Nat.one_mul]; exact Nat.zero_add _

/-- The five blocks of the weights that a step multiplies. -/
def blocks (c : Dev nD) (t : Fin grid0.N) : Fin 5 → FVec Ideal S256x4096 .bf16
  | 0 => iblk m (ok m) c 1 t
  | 1 => iblk m (ok m) c 2 t
  | 2 => iblk m (ok m) c 3 t
  | 3 => iblk m (ok m) c 4 t
  | 4 => iblk m (ok m) c 5 t

theorem blocks_apply (c : Dev nD) (t : Fin grid0.N) (q : Fin 256) (k : Fin 4096) (b : Fin 5) (R : Fin 21232)
    (hR : R.val = start (blockNo (grid0.coords t 1) b) + q.val) : blocks m c t b (ix2 q k) = m ((c : Thread nD τ).loc main_arg1) (ix2 R k) :=
  match b, hR with
  | 0, hR => weights1 m c t q k R hR
  | 1, hR => weights2 m c t q k R hR
  | 2, hR => weights3 m c t q k R hR
  | 3, hR => weights4 m c t q k R hR
  | 4, hR => weights5 m c t q k R hR

theorem final (c : Dev nD) : (dats m (ok m) 0 c).arrAt 6 (cfgM m (ok m)).N
    = result (m ((c : Thread nD τ).loc main_arg0)) (m ((c : Thread nD τ).loc main_arg1)) := by
  refine (dats m (ok m) 0 c).arrAt_eq_of_covers 6 _ (covers m) fun t hf y => ?_
  blk_simp
  rw [after0_6]; unfold outsAt0
  refine out_eq c _ _ _ _ _ _ _ _ _ _ _ _ _ _ _ _ (blocks m c t) _ y _ fun b r q h0 h1 => ?_
  refine Eq.trans ?_ (result_apply _ _ _).symm
  unfold sum tile
  refine Finset.sum_congr rfl fun k _ => congrArg₂ (fun a b : EReal => a * b) ?_ ?_
  · refine (congrFun (V_main_arg0 m c) _).trans (congrArg (m ((c : Thread nD τ).loc main_arg0)) ?_)
    refine Shape.idx_ext₂ ?_ ?_
    · show (((((cfgM m (ok m)).win 0).blk t).view.emb (ix2 r k)) (0 : Fin 2)).val = (((((cfgM m (ok m)).win 6).blk t).view.emb y) (0 : Fin 2)).val
      blk_simp
      exact congrArg₂ (fun a b : ℕ => a * 1024 + b) ((congrFun (idx0 t) (0 : Fin 2)).trans (congrFun (idx6 t) (0 : Fin 2)).symm) h0.symm
    · show (((((cfgM m (ok m)).win 0).blk t).view.emb (ix2 r k)) (1 : Fin 2)).val = k.val
      blk_simp
      exact (congrArg (fun a : ℕ => a * 4096 + k.val) (congrFun (idx0 t) (1 : Fin 2))).trans (by show 0 * 4096 + k.val = _; omega)
  · have hy : ((((((cfgM m (ok m)).win 6).blk t).view.emb y) (1 : Fin 2))).val = (grid0.coords t 1).val * 1280 + b.val * 256 + q.val := by
      blk_simp
      refine (congrArg₂ (fun a b : ℕ => a * 1280 + b) (congrFun (idx6 t) (1 : Fin 2)) h1).trans (Nat.add_assoc _ _ _).symm
    have hR := src_val ((((((cfgM m (ok m)).win 6).blk t).view.emb y) (1 : Fin 2))) (grid0.coords t 1) b q.val q.isLt hy
    exact blocks_apply m c t q k b _ hR

end Cert.ProjIdeal.Hand
-- ==== Proof.ProjReference.lean ====
/-
  The input projection's reference, and the claim.
-/
module

public import proofs.«01_k».proof.Proof.ProjValue
public import proofs.«01_k».proof.Proof.Gen.Proj.Frame

@[expose] public section

noncomputable section

namespace Cert.ProjReferenceIdeal.Hand

open Cert.ProjReferenceIdeal Cert.ProjReferenceIdeal.Gen Cert.ProjIdeal.Hand
open Idealize.ShloMosaic Idealize.SL.Sem Idealize.ShloMosaic.TcCoe Idealize.ShloMosaic.ValueIdx

/-- The product with the whole weights. -/
def whole (x : FVec Ideal S16384x4096 .bf16) (w : FVec Ideal S21232x4096 .bf16) : FVec Ideal S16384x21232 .f32 :=
  Host.dotGeneral dot_S16384x4096_S4096x21232_S16384x21232_1_0_0_1_n_n none (extf .f32 x bitsLt_bf16_f32)
    (extf .f32 (transpose S4096x21232 [1, 0] w transposes_S21232x4096_S4096x21232_1_0) bitsLt_bf16_f32)

theorem whole_apply (x : FVec Ideal S16384x4096 .bf16) (w : FVec Ideal S21232x4096 .bf16) (i : Fin 16384) (R : Fin 21232) :
    whole x w (ix2 i R) = ∑ k : Fin 4096, x (ix2 i k) * w (ix2 R k) := by
  refine (dotGeneral_entry (M := 16384) (K := 4096) (N := 21232) (φ₁ := .f32) (φ₂ := .f32) (extf .f32 x bitsLt_bf16_f32)
    (extf .f32 (transpose S4096x21232 [1, 0] w transposes_S21232x4096_S4096x21232_1_0) bitsLt_bf16_f32) i R).trans ?_
  refine Finset.sum_congr rfl fun k _ => congrArg (fun b : EReal => x (ix2 i k) * b) ?_
  exact congrArg w (Shape.idx_ext₂ rfl rfl)

/-- The fields of the product, -/
abbrev pieces (p : FVec Ideal S16384x21232 .f32) : List ((s : Shape) × (s.Idx → EReal)) :=
  [
    ⟨S16384x1024, extractStridedSlice S16384x1024 ![0, 0] p slices_S16384x21232_S16384x1024_0_0⟩,
    ⟨S16384x1024, extractStridedSlice S16384x1024 ![0, 1024] p slices_S16384x21232_S16384x1024_0_1024⟩,
    ⟨S16384x2048, extractStridedSlice S16384x2048 ![0, 2048] p slices_S16384x21232_S16384x2048_0_2048⟩,
    ⟨S16384x2048, extractStridedSlice S16384x2048 ![0, 4112] p slices_S16384x21232_S16384x2048_0_4112⟩,
    ⟨S16384x2048, extractStridedSlice S16384x2048 ![0, 6160] p slices_S16384x21232_S16384x2048_0_6160⟩,
    ⟨S16384x2048, extractStridedSlice S16384x2048 ![0, 8336] p slices_S16384x21232_S16384x2048_0_8336⟩,
    ⟨S16384x2048, extractStridedSlice S16384x2048 ![0, 10384] p slices_S16384x21232_S16384x2048_0_10384⟩,
    ⟨S16384x4096, extractStridedSlice S16384x4096 ![0, 13040] p slices_S16384x21232_S16384x4096_0_13040⟩,
    ⟨S16384x4096, extractStridedSlice S16384x4096 ![0, 17136] p slices_S16384x21232_S16384x4096_0_17136⟩,
    ⟨S16384x512, extractStridedSlice S16384x512 ![0, 12560] p slices_S16384x21232_S16384x512_0_12560⟩,
    ⟨S16384x256, extractStridedSlice S16384x256 ![0, 8208] p slices_S16384x21232_S16384x256_0_8208⟩,
    ⟨S16384x256, extractStridedSlice S16384x256 ![0, 12432] p slices_S16384x21232_S16384x256_0_12432⟩,
    ⟨S16384x256, extractStridedSlice S16384x256 ![0, 4096] p slices_S16384x21232_S16384x256_0_4096⟩]

/-- and one after another. -/
def fields (p : FVec Ideal S16384x21232 .f32) : FVec Ideal S16384x21760 .f32 :=
  concatenate S16384x21760 1 (pieces p) concatenates_S16384x1024_S16384x1024_S16384x2048_S16384x2048_S16384x2048_S16384x2048_S16384x2048_S16384x4096_S16384x4096_S16384x512_S16384x256_S16384x256_S16384x256_S16384x21760_d1

/-- The fields' shapes, -/
def shapes : List Shape :=
  [S16384x1024, S16384x1024, S16384x2048, S16384x2048, S16384x2048, S16384x2048, S16384x2048, S16384x4096, S16384x4096, S16384x512, S16384x256, S16384x256, S16384x256]

/-- and the column at which each begins. -/
def begins (k : ℕ) : ℕ :=
  ((shapes.take k).map fun s => if h : s.rank = S16384x21760.rank then s.size ((1 : Fin S16384x21760.rank).cast h.symm) else 0).sum

/-- A field read in the result. -/
theorem field_apply (p : FVec Ideal S16384x21232 .f32) (i : Fin 16384) (C : Fin 21760) (k : ℕ) (hk : k < 13) (n : ℕ) (x : (⟨2, ![16384, n]⟩ : Shape).Idx → EReal)
    (hx : (pieces p)[k]'hk = ⟨⟨2, ![16384, n]⟩, x⟩) (c : Fin n) (pre : ℕ) (hpre : begins k = pre) (hc : pre + c.val = C.val) : fields p (ix2 i C) = x (ix2 i c) :=
  concatenate_apply_piece (t := S16384x21760) 1 (pieces p) concatenates_S16384x1024_S16384x1024_S16384x2048_S16384x2048_S16384x2048_S16384x2048_S16384x2048_S16384x4096_S16384x4096_S16384x512_S16384x256_S16384x256_S16384x256_S16384x21760_d1 (ix2 i C) k hk _ x hx rfl pre
    (by rw [← hpre, List.map_take]; rfl) (ix2 i c) (Fin.forall_fin_two.mpr ⟨fun _ => rfl, fun h => absurd rfl h⟩) hc

/-- The row that a column of one field multiplies. -/
theorem src_field (C : Fin 21760) (pre off w : ℕ) (h : ∀ k : Fin 85, pre ≤ k.val * 256 → k.val * 256 < pre + w → start k + pre = off + k.val * 256)
    (hpre : pre % 256 = 0) (h0 : pre ≤ C.val) (h1 : C.val < pre + w) : off + (C.val - pre) = (src C).val := by
  have e := h ⟨C.val / 256, by omega⟩ (by show pre ≤ C.val / 256 * 256; omega) (by show C.val / 256 * 256 < pre + w; omega)
  have e' : start ⟨C.val / 256, by omega⟩ + pre = off + C.val / 256 * 256 := e
  show _ = start ⟨C.val / 256, by omega⟩ + C.val % 256
  omega

/-- A block of columns of the product, read at an entry. -/
theorem slice_apply (p : FVec Ideal S16384x21232 .f32) (off n : ℕ) (h) (i : Fin 16384) (c : Fin n) (R : Fin 21232) (hR : off + c.val = R.val) :
    extractStridedSlice ⟨2, ![16384, n]⟩ ![0, off] p h (ix2 i c) = p (ix2 i R) :=
  congrArg p (Shape.idx_ext₂ (Nat.zero_add _) hR)

theorem field0 (p : FVec Ideal S16384x21232 .f32) (i : Fin 16384) (C : Fin 21760) (h0 : 0 ≤ C.val) (h1 : C.val < 1024) :
    fields p (ix2 i C) = p (ix2 i (src C)) :=
  (field_apply p i C 0 (by decide) 1024 _ rfl ⟨C.val - 0, by omega⟩ 0 (by decide +kernel) (Nat.add_sub_cancel' h0)).trans
    (slice_apply p 0 1024 _ i _ _ (src_field C 0 0 1024 (by unfold start; decide +kernel) (by decide) h0 h1))

theorem field1 (p : FVec Ideal S16384x21232 .f32) (i : Fin 16384) (C : Fin 21760) (h0 : 1024 ≤ C.val) (h1 : C.val < 2048) :
    fields p (ix2 i C) = p (ix2 i (src C)) :=
  (field_apply p i C 1 (by decide) 1024 _ rfl ⟨C.val - 1024, by omega⟩ 1024 (by decide +kernel) (Nat.add_sub_cancel' h0)).trans
    (slice_apply p 1024 1024 _ i _ _ (src_field C 1024 1024 1024 (by unfold start; decide +kernel) (by decide) h0 h1))

theorem field2 (p : FVec Ideal S16384x21232 .f32) (i : Fin 16384) (C : Fin 21760) (h0 : 2048 ≤ C.val) (h1 : C.val < 4096) :
    fields p (ix2 i C) = p (ix2 i (src C)) :=
  (field_apply p i C 2 (by decide) 2048 _ rfl ⟨C.val - 2048, by omega⟩ 2048 (by decide +kernel) (Nat.add_sub_cancel' h0)).trans
    (slice_apply p 2048 2048 _ i _ _ (src_field C 2048 2048 2048 (by unfold start; decide +kernel) (by decide) h0 h1))

theorem field3 (p : FVec Ideal S16384x21232 .f32) (i : Fin 16384) (C : Fin 21760) (h0 : 4096 ≤ C.val) (h1 : C.val < 6144) :
    fields p (ix2 i C) = p (ix2 i (src C)) :=
  (field_apply p i C 3 (by decide) 2048 _ rfl ⟨C.val - 4096, by omega⟩ 4096 (by decide +kernel) (Nat.add_sub_cancel' h0)).trans
    (slice_apply p 4112 2048 _ i _ _ (src_field C 4096 4112 2048 (by unfold start; decide +kernel) (by decide) h0 h1))

theorem field4 (p : FVec Ideal S16384x21232 .f32) (i : Fin 16384) (C : Fin 21760) (h0 : 6144 ≤ C.val) (h1 : C.val < 8192) :
    fields p (ix2 i C) = p (ix2 i (src C)) :=
  (field_apply p i C 4 (by decide) 2048 _ rfl ⟨C.val - 6144, by omega⟩ 6144 (by decide +kernel) (Nat.add_sub_cancel' h0)).trans
    (slice_apply p 6160 2048 _ i _ _ (src_field C 6144 6160 2048 (by unfold start; decide +kernel) (by decide) h0 h1))

theorem field5 (p : FVec Ideal S16384x21232 .f32) (i : Fin 16384) (C : Fin 21760) (h0 : 8192 ≤ C.val) (h1 : C.val < 10240) :
    fields p (ix2 i C) = p (ix2 i (src C)) :=
  (field_apply p i C 5 (by decide) 2048 _ rfl ⟨C.val - 8192, by omega⟩ 8192 (by decide +kernel) (Nat.add_sub_cancel' h0)).trans
    (slice_apply p 8336 2048 _ i _ _ (src_field C 8192 8336 2048 (by unfold start; decide +kernel) (by decide) h0 h1))

theorem field6 (p : FVec Ideal S16384x21232 .f32) (i : Fin 16384) (C : Fin 21760) (h0 : 10240 ≤ C.val) (h1 : C.val < 12288) :
    fields p (ix2 i C) = p (ix2 i (src C)) :=
  (field_apply p i C 6 (by decide) 2048 _ rfl ⟨C.val - 10240, by omega⟩ 10240 (by decide +kernel) (Nat.add_sub_cancel' h0)).trans
    (slice_apply p 10384 2048 _ i _ _ (src_field C 10240 10384 2048 (by unfold start; decide +kernel) (by decide) h0 h1))

theorem field7 (p : FVec Ideal S16384x21232 .f32) (i : Fin 16384) (C : Fin 21760) (h0 : 12288 ≤ C.val) (h1 : C.val < 16384) :
    fields p (ix2 i C) = p (ix2 i (src C)) :=
  (field_apply p i C 7 (by decide) 4096 _ rfl ⟨C.val - 12288, by omega⟩ 12288 (by decide +kernel) (Nat.add_sub_cancel' h0)).trans
    (slice_apply p 13040 4096 _ i _ _ (src_field C 12288 13040 4096 (by unfold start; decide +kernel) (by decide) h0 h1))

theorem field8 (p : FVec Ideal S16384x21232 .f32) (i : Fin 16384) (C : Fin 21760) (h0 : 16384 ≤ C.val) (h1 : C.val < 20480) :
    fields p (ix2 i C) = p (ix2 i (src C)) :=
  (field_apply p i C 8 (by decide) 4096 _ rfl ⟨C.val - 16384, by omega⟩ 16384 (by decide +kernel) (Nat.add_sub_cancel' h0)).trans
    (slice_apply p 17136 4096 _ i _ _ (src_field C 16384 17136 4096 (by unfold start; decide +kernel) (by decide) h0 h1))

theorem field9 (p : FVec Ideal S16384x21232 .f32) (i : Fin 16384) (C : Fin 21760) (h0 : 20480 ≤ C.val) (h1 : C.val < 20992) :
    fields p (ix2 i C) = p (ix2 i (src C)) :=
  (field_apply p i C 9 (by decide) 512 _ rfl ⟨C.val - 20480, by omega⟩ 20480 (by decide +kernel) (Nat.add_sub_cancel' h0)).trans
    (slice_apply p 12560 512 _ i _ _ (src_field C 20480 12560 512 (by unfold start; decide +kernel) (by decide) h0 h1))

theorem field10 (p : FVec Ideal S16384x21232 .f32) (i : Fin 16384) (C : Fin 21760) (h0 : 20992 ≤ C.val) (h1 : C.val < 21248) :
    fields p (ix2 i C) = p (ix2 i (src C)) :=
  (field_apply p i C 10 (by decide) 256 _ rfl ⟨C.val - 20992, by omega⟩ 20992 (by decide +kernel) (Nat.add_sub_cancel' h0)).trans
    (slice_apply p 8208 256 _ i _ _ (src_field C 20992 8208 256 (by unfold start; decide +kernel) (by decide) h0 h1))

theorem field11 (p : FVec Ideal S16384x21232 .f32) (i : Fin 16384) (C : Fin 21760) (h0 : 21248 ≤ C.val) (h1 : C.val < 21504) :
    fields p (ix2 i C) = p (ix2 i (src C)) :=
  (field_apply p i C 11 (by decide) 256 _ rfl ⟨C.val - 21248, by omega⟩ 21248 (by decide +kernel) (Nat.add_sub_cancel' h0)).trans
    (slice_apply p 12432 256 _ i _ _ (src_field C 21248 12432 256 (by unfold start; decide +kernel) (by decide) h0 h1))

theorem field12 (p : FVec Ideal S16384x21232 .f32) (i : Fin 16384) (C : Fin 21760) (h0 : 21504 ≤ C.val) (h1 : C.val < 21760) :
    fields p (ix2 i C) = p (ix2 i (src C)) :=
  (field_apply p i C 12 (by decide) 256 _ rfl ⟨C.val - 21504, by omega⟩ 21504 (by decide +kernel) (Nat.add_sub_cancel' h0)).trans
    (slice_apply p 4096 256 _ i _ _ (src_field C 21504 4096 256 (by unfold start; decide +kernel) (by decide) h0 h1))

theorem fields_apply (p : FVec Ideal S16384x21232 .f32) (i : Fin 16384) (C : Fin 21760) : fields p (ix2 i C) = p (ix2 i (src C)) := by
  have hC := C.isLt
  rcases Nat.lt_or_ge C.val 1024 with h0 | h0
  · exact field0 p i C (Nat.zero_le _) h0
  rcases Nat.lt_or_ge C.val 2048 with h1 | h1
  · exact field1 p i C h0 h1
  rcases Nat.lt_or_ge C.val 4096 with h2 | h2
  · exact field2 p i C h1 h2
  rcases Nat.lt_or_ge C.val 6144 with h3 | h3
  · exact field3 p i C h2 h3
  rcases Nat.lt_or_ge C.val 8192 with h4 | h4
  · exact field4 p i C h3 h4
  rcases Nat.lt_or_ge C.val 10240 with h5 | h5
  · exact field5 p i C h4 h5
  rcases Nat.lt_or_ge C.val 12288 with h6 | h6
  · exact field6 p i C h5 h6
  rcases Nat.lt_or_ge C.val 16384 with h7 | h7
  · exact field7 p i C h6 h7
  rcases Nat.lt_or_ge C.val 20480 with h8 | h8
  · exact field8 p i C h7 h8
  rcases Nat.lt_or_ge C.val 20992 with h9 | h9
  · exact field9 p i C h8 h9
  rcases Nat.lt_or_ge C.val 21248 with h10 | h10
  · exact field10 p i C h9 h10
  rcases Nat.lt_or_ge C.val 21504 with h11 | h11
  · exact field11 p i C h10 h11
  exact field12 p i C h11 hC

theorem reference_eq (x : FVec Ideal S16384x4096 .bf16) (w : FVec Ideal S21232x4096 .bf16) : fields (whole x w) = Cert.ProjIdeal.Hand.result x w := by
  funext y
  refine (congrArg (fields (whole x w)) (eq_ix2 (n0 := 16384) (n1 := 21760) y)).trans ?_
  exact (fields_apply (whole x w) (y 0) (y 1)).trans (whole_apply x w (y 0) (src (y 1)))

end Cert.ProjReferenceIdeal.Hand

namespace Cert.ProjIdeal.Hand

open Cert.ProjIdeal Cert.ProjIdeal.Gen
open Idealize.ShloMosaic Idealize.SL.Sem Idealize.ShloMosaic.TcCoe

theorem frame_kernel : Cert.quiescent_Proj (hProj := Cert.Proj.Gen.facts) := fun m ρ _ =>
  Cert.Proj.Gen.frame m ρ (ok (F := Bits) m)

theorem frame_ideal : Cert.quiescent_ProjIdeal (hProjIdeal := Cert.ProjIdeal.Gen.facts) := fun m ρ _ => Cert.ProjIdeal.Gen.frame (F := Ideal) m ρ (ok m)

theorem frame_reference : Cert.quiescent_ProjReferenceIdeal (hProjReferenceIdeal := Cert.ProjReferenceIdeal.Gen.facts) := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

/-- The kernel's run with its result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 6).trans (final m c), h.2 c⟩)
    (θ_run_and (run_main m ρ (ok m)) (unchanged m ρ (ok m)))

/-- The input projection's result is the reference's. -/
theorem values : Cert.algebraic_ProjIdeal_ProjReferenceIdeal (hProjIdeal := Cert.ProjIdeal.Gen.facts) (hProjReferenceIdeal := Cert.ProjReferenceIdeal.Gen.facts) := by
  intro m ρ m' ρ' _ hagree
  refine ⟨fun c => result (m ((c : Thread nD τ).loc main_arg0)) (m ((c : Thread nD τ).loc main_arg1)), run m ρ,
    (θ_run Cert.ProjReferenceIdeal.defs _ _).mono (fun r h c => ⟨(h c).1.trans ?_, (h c).2⟩) (Cert.ProjReferenceIdeal.Value.run (F := Ideal) m' ρ')⟩
  obtain ⟨a0, a1⟩ := hagree c
  refine Eq.trans ?_ (congrArg₂ (fun x w => result x w) a0 a1)
  exact Cert.ProjReferenceIdeal.Hand.reference_eq _ _

end Cert.ProjIdeal.Hand
-- ==== Proof.OutValue.lean ====
/-
  The output projection at the extended reals.
-/
module

public import proofs.«01_k».proof.Proof.Entry
public import proofs.«01_k».proof.Proof.Gen.OutIdeal.Value
public import proofs.«01_k».proof.Proof.Gen.OutReferenceIdeal.Run
public import proofs.«01_k».proof.Defs
public import Idealize.ShloMosaic.Lib.Pipeline.ValueKit.Geometry
public import Idealize.ShloMosaic.Lib.Pipeline.ValueKit.Acc

@[expose] public section

noncomputable section

namespace Cert.OutIdeal.Hand

open Cert.OutIdeal Cert.OutIdeal.Gen
open Idealize.ShloMosaic Idealize.SL.Sem Idealize.ShloMosaic.TcCoe Idealize.ShloMosaic.ValueIdx

/-- A tile of the product. -/
theorem pay_apply (x : FVec Ideal S1024x4096 .bf16) (w : FVec Ideal S4096x1024 .bf16) (r : Fin 1024) (q : Fin 1024) :
    k0_pay1 (F := Ideal) x w (ix2 r q) = entry x w r q := by
  unfold k0_pay1
  rw [shapeCast_self]
  exact matmul_entry (M := 1024) (K := 4096) (N := 1024) x w r q

/-- The product, as the reference writes it. -/
abbrev ref (x : FVec Ideal Cert.OutReferenceIdeal.S16384x4096 .bf16) (w : FVec Ideal Cert.OutReferenceIdeal.S1x4096x4096 .f32) :
    FVec Ideal Cert.OutReferenceIdeal.S16384x4096 .bf16 :=
  truncf .bf16 (Host.dotGeneral Cert.OutReferenceIdeal.dot_S16384x4096_S4096x4096_S16384x4096_1_0_0_1_n_n none
    (extf .f32 x Cert.OutReferenceIdeal.Gen.bitsLt_bf16_f32) (shapeCast Cert.OutReferenceIdeal.S4096x4096 w Cert.OutReferenceIdeal.Gen.shapeCasts_S1x4096x4096_S4096x4096)) Cert.OutReferenceIdeal.Gen.bitsLt_bf16_f32
theorem ref_apply (x : FVec Ideal Cert.OutReferenceIdeal.S16384x4096 .bf16) (w : FVec Ideal Cert.OutReferenceIdeal.S1x4096x4096 .f32) (i : Fin 16384) (j : Fin 4096) :
    ref x w (ix2 i j) = entry (M := 16384) (K := 4096) (N := 4096) x (shapeCast S4096x4096 w shapeCasts_S1x4096x4096_S4096x4096) i j :=
  dotGeneral_entry (M := 16384) (K := 4096) (N := 4096) (φ₁ := .f32) (φ₂ := .f32) x _ i j

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

variable (m : (ℓ : Loc nD τ sig) → Buf (Elt Ideal) ℓ)

theorem V_w (c : Dev nD) : V m c main_v1 = shapeCast S4096x4096 (m ((c : Thread nD τ).loc main_arg1)) shapeCasts_S1x4096x4096_S4096x4096 := by
  show StableHlo.after hostOps0 _ main_v1 = _
  after_results
  rfl

/-- The array after the run is the reference's product. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  refine (congrArg (k0_pay1 (F := Ideal) (iblk m c 0 t) (iblk m c 1 t)) (eq_ix2 (n0 := 1024) (n1 := 1024) y)).trans ((pay_apply (iblk m c 0 t) (iblk m c 1 t) (y 0) (y 1)).trans ?_)
  refine Eq.trans ?_ ((congrArg (ref _ _) (eq_ix2 (n0 := 16384) (n1 := 4096) _)).trans (ref_apply _ _ _ _)).symm
  refine entry_congr (fun k => ?_) (fun k => ?_)
  · refine (congrFun (V_main_arg0 m c) _).trans (congrArg (m ((c : Thread nD τ).loc main_arg0)) ?_)
    refine Shape.idx_ext₂ ?_ ?_
    · show (((win0_0.blk t).view.emb (ix2 (y 0) k)) 0).val = (((win0_2.blk t).view.emb y) 0).val
      blk_simp [idx0, idx2]; rfl
    · show (((win0_0.blk t).view.emb (ix2 (y 0) k)) 1).val = k.val
      blk_simp [idx0]; rfl
  · refine (congrFun (V_w m c) _).trans (congrArg (shapeCast S4096x4096 (m ((c : Thread nD τ).loc main_arg1)) shapeCasts_S1x4096x4096_S4096x4096) ?_)
    refine Shape.idx_ext₂ ?_ ?_
    · show (((win0_1.blk t).view.emb (ix2 k (y 1))) 0).val = k.val
      blk_simp [idx1]; rfl
    · show (((win0_1.blk t).view.emb (ix2 k (y 1))) 1).val = (((win0_2.blk t).view.emb y) 1).val
      blk_simp [idx1, idx2]; rfl

theorem frame_reference : Cert.quiescent_OutReferenceIdeal (hOutReferenceIdeal := Cert.OutReferenceIdeal.Gen.facts) := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- The output projection's result is the reference's. -/
theorem values : Cert.algebraic_OutIdeal_OutReferenceIdeal (hOutIdeal := Cert.OutIdeal.Gen.facts) (hOutReferenceIdeal := Cert.OutReferenceIdeal.Gen.facts) := by
  intro m ρ m' ρ' _ hagree
  refine ⟨fun c => ref (m ((c : Thread nD τ).loc main_arg0)) (m ((c : Thread nD τ).loc main_arg1)),
    (θ_run defs _ _).mono (fun _ h c => ⟨(h c).1.trans (final m c), (h c).2⟩) (Value.run_blocks (F := Ideal) m ρ),
    (θ_run Cert.OutReferenceIdeal.defs _ _).mono (fun r h c => ⟨(h c).1.trans ?_, (h c).2⟩) (Cert.OutReferenceIdeal.Value.run (F := Ideal) m' ρ')⟩
  obtain ⟨a0, a1⟩ := hagree c
  rw [a0, a1]

end Cert.OutIdeal.Hand
-- ==== Proof.MergeValue.lean ====
/-
  The two mixers' outputs projected, gated and added, at the extended reals.
-/
module

public import proofs.«01_k».proof.Proof.Entry
public import proofs.«01_k».proof.Proof.Gen.MergeIdeal.Value
public import proofs.«01_k».proof.Proof.Gen.MergeReferenceIdeal.Run
public import proofs.«01_k».proof.Defs
public import Idealize.ShloMosaic.Lib.Pipeline.ValueKit.Geometry
public import Idealize.ShloMosaic.Lib.Pipeline.ValueKit.Acc

@[expose] public section

noncomputable section

namespace Cert.MergeIdeal.Hand

open Cert.MergeIdeal Cert.MergeIdeal.Gen
open Idealize.ShloMosaic Idealize.SL.Sem Idealize.ShloMosaic.TcCoe Idealize.ShloMosaic.ValueIdx

/-- The logistic function of `a`. -/
def sig1 (a : EReal) : EReal :=
  FloatOps.divf (F := Ideal) (φ := .f32) (Scalar.ofBits (F := Ideal) .f32 0x3F800000#32)
    (FloatOps.addf (F := Ideal) (φ := .f32) (Scalar.ofBits (F := Ideal) .f32 0x3F800000#32) (FloatOps.exp (F := Ideal) (φ := .f32) (-a)))

/-- Two gated values added. -/
def both (a b x y : EReal) : EReal := sig1 a * x + sig1 b * y

/-- The gate of a block, as the kernel writes it. -/
theorem gate_apply (v : FVec Ideal S1024x512 .f32) (y : S1024x512.Idx) :
    divf (broadcast S1024x512 (Scalar.ofBits (F := Ideal) .f32 0x3F800000#32)) (addf (broadcast S1024x512 (Scalar.ofBits .f32 0x3F800000#32))
      (exp (subf (broadcast S1024x512 (Scalar.ofBits .f32 0x00000000#32)) v))) y = sig1 (v y) :=
  congrArg (fun a : EReal => FloatOps.divf (F := Ideal) (φ := .f32) (Scalar.ofBits (F := Ideal) .f32 0x3F800000#32)
    (FloatOps.addf (F := Ideal) (φ := .f32) (Scalar.ofBits (F := Ideal) .f32 0x3F800000#32) (FloatOps.exp (F := Ideal) (φ := .f32) a)))
    (Ideal.subf_zero_eq_hostNegf (v y))

/-- A block of the merged outputs. -/
theorem pay_apply (x : FVec Ideal S1024x2048 .bf16) (w : FVec Ideal S2048x512 .bf16) (x' : FVec Ideal S1024x2048 .bf16) (w' : FVec Ideal S2048x512 .bf16)
    (a b : FVec Ideal S1024x512 .f32) (r : Fin 1024) (q : Fin 512) :
    k0_pay1 (F := Ideal) x w x' w' a b (ix2 r q) = both (a (ix2 r q)) (b (ix2 r q)) (entry x w r q) (entry x' w' r q) := by
  unfold k0_pay1
  simp only [shapeCast_self]
  have e1 := matmul_entry (M := 1024) (K := 2048) (N := 512) x w r q
  have e2 := matmul_entry (M := 1024) (K := 2048) (N := 512) x' w' r q
  exact congrArg₂ (fun s t : EReal => s + t) (congrArg₂ (fun s t : EReal => s * t) (gate_apply a _) e1) (congrArg₂ (fun s t : EReal => s * t) (gate_apply b _) e2)

open Cert.MergeReferenceIdeal.Gen in
/-- The merged outputs, as the reference writes them. -/
abbrev ref (x x' : FVec Ideal S16384x2048 .bf16) (w w' : FVec Ideal S1x2048x4096 .f32) (p : FVec Ideal S16384x21760 .f32) : FVec Ideal S16384x4096 .bf16 :=
  truncf .bf16 (addf
    (mulf (Host.divf (broadcastInDim S16384x4096 ![] bcast_S_S16384x4096 (constant Cert.MergeReferenceIdeal.S_ .f32 0x3F800000#32)) (addf (broadcastInDim S16384x4096 ![] bcast_S_S16384x4096 (constant Cert.MergeReferenceIdeal.S_ .f32 0x3F800000#32))
        (Host.exp (Host.negf (extractStridedSlice S16384x4096 ![0, 12288] p slices_S16384x21760_S16384x4096_0_12288)))))
      (Host.dotGeneral Cert.MergeReferenceIdeal.dot_S16384x2048_S2048x4096_S16384x4096_1_0_0_1_n_n none (extf .f32 x Cert.MergeReferenceIdeal.Gen.bitsLt_bf16_f32) (shapeCast Cert.MergeReferenceIdeal.S2048x4096 w Cert.MergeReferenceIdeal.Gen.shapeCasts_S1x2048x4096_S2048x4096)))
    (mulf (Host.divf (broadcastInDim S16384x4096 ![] bcast_S_S16384x4096 (constant Cert.MergeReferenceIdeal.S_ .f32 0x3F800000#32)) (addf (broadcastInDim S16384x4096 ![] bcast_S_S16384x4096 (constant Cert.MergeReferenceIdeal.S_ .f32 0x3F800000#32))
        (Host.exp (Host.negf (extractStridedSlice S16384x4096 ![0, 16384] p slices_S16384x21760_S16384x4096_0_16384)))))
      (Host.dotGeneral Cert.MergeReferenceIdeal.dot_S16384x2048_S2048x4096_S16384x4096_1_0_0_1_n_n none (extf .f32 x' Cert.MergeReferenceIdeal.Gen.bitsLt_bf16_f32) (shapeCast Cert.MergeReferenceIdeal.S2048x4096 w' Cert.MergeReferenceIdeal.Gen.shapeCasts_S1x2048x4096_S2048x4096))))
    Cert.MergeReferenceIdeal.Gen.bitsLt_bf16_f32

/-- Column `j` of the first gate, and of the second, in the packed projections. -/
def colA (j : Fin 4096) : Fin 21760 := ⟨12288 + j.val, by omega⟩
def colB (j : Fin 4096) : Fin 21760 := ⟨16384 + j.val, by omega⟩

theorem ref_apply (x x' : FVec Ideal S16384x2048 .bf16) (w w' : FVec Ideal S1x2048x4096 .f32) (p : FVec Ideal S16384x21760 .f32) (i : Fin 16384) (j : Fin 4096) :
    ref x x' w w' p (ix2 i j) = both (p (ix2 i (colA j))) (p (ix2 i (colB j)))
      (entry (M := 16384) (K := 2048) (N := 4096) x (shapeCast S2048x4096 w shapeCasts_S1x2048x4096_S2048x4096) i j)
      (entry (M := 16384) (K := 2048) (N := 4096) x' (shapeCast S2048x4096 w' shapeCasts_S1x2048x4096_S2048x4096) i j) := by
  have e1 := dotGeneral_entry (M := 16384) (K := 2048) (N := 4096) (φ₁ := .f32) (φ₂ := .f32) x (shapeCast S2048x4096 w shapeCasts_S1x2048x4096_S2048x4096) i j
  have e2 := dotGeneral_entry (M := 16384) (K := 2048) (N := 4096) (φ₁ := .f32) (φ₂ := .f32) x' (shapeCast S2048x4096 w' shapeCasts_S1x2048x4096_S2048x4096) i j
  have s1 : extractStridedSlice S16384x4096 ![0, 12288] p Cert.MergeReferenceIdeal.Gen.slices_S16384x21760_S16384x4096_0_12288 (ix2 i j) = p (ix2 i (colA j)) :=
    congrArg p (Shape.idx_ext₂ (Nat.zero_add _) rfl)
  have s2 : extractStridedSlice S16384x4096 ![0, 16384] p Cert.MergeReferenceIdeal.Gen.slices_S16384x21760_S16384x4096_0_16384 (ix2 i j) = p (ix2 i (colB j)) :=
    congrArg p (Shape.idx_ext₂ (Nat.zero_add _) rfl)
  exact congrArg₂ (fun s t : EReal => s + t) (congrArg₂ (fun s t : EReal => s * t) (congrArg sig1 s1) e1) (congrArg₂ (fun s t : EReal => s * t) (congrArg sig1 s2) e2)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, (grid0.coords t 1).val] := (by decide +kernel : ∀ t : Fin grid0.N, _)
theorem idx3 : ∀ t : Fin cfg0.N, win0_3.index t = ![0, (grid0.coords t 1).val] := (by decide +kernel : ∀ t : Fin grid0.N, _)
theorem idx4 : ∀ t : Fin cfg0.N, win0_4.index t = ![(grid0.coords t 0).val, 24 + (grid0.coords t 1).val] := (by decide +kernel : ∀ t : Fin grid0.N, _)
theorem idx5 : ∀ t : Fin cfg0.N, win0_5.index t = ![(grid0.coords t 0).val, 32 + (grid0.coords t 1).val] := (by decide +kernel : ∀ t : Fin grid0.N, _)
theorem idx6 : ∀ t : Fin cfg0.N, win0_6.index t = ![(grid0.coords t 0).val, (grid0.coords t 1).val] := (by decide +kernel : ∀ t : Fin grid0.N, _)

variable (m : (ℓ : Loc nD τ sig) → Buf (Elt Ideal) ℓ)

theorem V_2 (c : Dev nD) : V m c main_v1 = shapeCast S2048x4096 (m ((c : Thread nD τ).loc main_arg2)) shapeCasts_S1x2048x4096_S2048x4096 := by
  show StableHlo.after hostOps0 _ main_v1 = _
  after_results
  rfl
theorem V_3 (c : Dev nD) : V m c main_v3 = shapeCast S2048x4096 (m ((c : Thread nD τ).loc main_arg3)) shapeCasts_S1x2048x4096_S2048x4096 := by
  show StableHlo.after hostOps0 _ main_v3 = _
  after_results
  rfl

theorem read0 (c : Dev nD) (t : Fin cfg0.N) (r : Fin 1024) (q : Fin 512) (k : Fin 2048) :
    iblk m c 0 t (ix2 r k) = m ((c : Thread nD τ).loc main_arg0) (ix2 (((win0_6.blk t).view.emb (ix2 r q)) 0) k) := by
  refine (congrFun (V_main_arg0 m c) _).trans (congrArg (m ((c : Thread nD τ).loc main_arg0)) ?_)
  refine Shape.idx_ext₂ ?_ ?_
  · show (((win0_0.blk t).view.emb (ix2 r k)) 0).val = (((win0_6.blk t).view.emb (ix2 r q)) 0).val
    blk_simp [idx0, idx6]; rfl
  · show (((win0_0.blk t).view.emb (ix2 r k)) 1).val = k.val
    blk_simp [idx0]; rfl

theorem read1 (c : Dev nD) (t : Fin cfg0.N) (r : Fin 1024) (q : Fin 512) (k : Fin 2048) :
    iblk m c 1 t (ix2 r k) = m ((c : Thread nD τ).loc main_arg1) (ix2 (((win0_6.blk t).view.emb (ix2 r q)) 0) k) := by
  refine (congrFun (V_main_arg1 m c) _).trans (congrArg (m ((c : Thread nD τ).loc main_arg1)) ?_)
  refine Shape.idx_ext₂ ?_ ?_
  · show (((win0_1.blk t).view.emb (ix2 r k)) 0).val = (((win0_6.blk t).view.emb (ix2 r q)) 0).val
    blk_simp [idx1, idx6]; rfl
  · show (((win0_1.blk t).view.emb (ix2 r k)) 1).val = k.val
    blk_simp [idx1]; rfl

theorem read2 (c : Dev nD) (t : Fin cfg0.N) (r : Fin 1024) (q : Fin 512) (k : Fin 2048) :
    iblk m c 2 t (ix2 k q) = shapeCast S2048x4096 (m ((c : Thread nD τ).loc main_arg2)) shapeCasts_S1x2048x4096_S2048x4096 (ix2 k (((win0_6.blk t).view.emb (ix2 r q)) 1)) := by
  refine (congrFun (V_2 m c) _).trans (congrArg (shapeCast S2048x4096 (m ((c : Thread nD τ).loc main_arg2)) shapeCasts_S1x2048x4096_S2048x4096) ?_)
  refine Shape.idx_ext₂ ?_ ?_
  · show (((win0_2.blk t).view.emb (ix2 k q)) 0).val = k.val
    blk_simp [idx2]; rfl
  · show (((win0_2.blk t).view.emb (ix2 k q)) 1).val = (((win0_6.blk t).view.emb (ix2 r q)) 1).val
    blk_simp [idx2, idx6]; rfl

theorem read3 (c : Dev nD) (t : Fin cfg0.N) (r : Fin 1024) (q : Fin 512) (k : Fin 2048) :
    iblk m c 3 t (ix2 k q) = shapeCast S2048x4096 (m ((c : Thread nD τ).loc main_arg3)) shapeCasts_S1x2048x4096_S2048x4096 (ix2 k (((win0_6.blk t).view.emb (ix2 r q)) 1)) := by
  refine (congrFun (V_3 m c) _).trans (congrArg (shapeCast S2048x4096 (m ((c : Thread nD τ).loc main_arg3)) shapeCasts_S1x2048x4096_S2048x4096) ?_)
  refine Shape.idx_ext₂ ?_ ?_
  · show (((win0_3.blk t).view.emb (ix2 k q)) 0).val = k.val
    blk_simp [idx3]; rfl
  · show (((win0_3.blk t).view.emb (ix2 k q)) 1).val = (((win0_6.blk t).view.emb (ix2 r q)) 1).val
    blk_simp [idx3, idx6]; rfl

/-- The gate's block lies inside the array, so it is the array's. -/
theorem read4 (c : Dev nD) (t : Fin cfg0.N) (r : Fin 1024) (q : Fin 512) :
    X0_4 m c t (ix2 r q) = m ((c : Thread nD τ).loc main_arg4) (ix2 (((win0_6.blk t).view.emb (ix2 r q)) 0) (colA (((win0_6.blk t).view.emb (ix2 r q)) 1))) := by
  unfold X0_4 Pipeline.Window.fill
  rw [dif_pos (moved0_4 t _)]
  refine (congrFun (V_main_arg4 m c) _).trans (congrArg (m ((c : Thread nD τ).loc main_arg4)) ?_)
  refine Shape.idx_ext₂ ?_ ?_
  · show win0_4.index t 0 * 1024 + 1 * r.val = (((win0_6.blk t).view.emb (ix2 r q)) 0).val
    blk_simp [idx4, idx6]; rfl
  · show win0_4.index t 1 * 512 + 1 * q.val = 12288 + (((win0_6.blk t).view.emb (ix2 r q)) 1).val
    blk_simp [idx4, idx6]
    show (24 + (grid0.coords t 1).val) * 512 + q.val = 12288 + ((grid0.coords t 1).val * 512 + q.val)
    omega

/-- The gate's block lies inside the array, so it is the array's. -/
theorem read5 (c : Dev nD) (t : Fin cfg0.N) (r : Fin 1024) (q : Fin 512) :
    X0_5 m c t (ix2 r q) = m ((c : Thread nD τ).loc main_arg4) (ix2 (((win0_6.blk t).view.emb (ix2 r q)) 0) (colB (((win0_6.blk t).view.emb (ix2 r q)) 1))) := by
  unfold X0_5 Pipeline.Window.fill
  rw [dif_pos (moved0_5 t _)]
  refine (congrFun (V_main_arg4 m c) _).trans (congrArg (m ((c : Thread nD τ).loc main_arg4)) ?_)
  refine Shape.idx_ext₂ ?_ ?_
  · show win0_5.index t 0 * 1024 + 1 * r.val = (((win0_6.blk t).view.emb (ix2 r q)) 0).val
    blk_simp [idx5, idx6]; rfl
  · show win0_5.index t 1 * 512 + 1 * q.val = 16384 + (((win0_6.blk t).view.emb (ix2 r q)) 1).val
    blk_simp [idx5, idx6]
    show (32 + (grid0.coords t 1).val) * 512 + q.val = 16384 + ((grid0.coords t 1).val * 512 + q.val)
    omega

/-- The array after the run is the reference's. -/
theorem final (c : Dev nD) : (dats m 0 c).arrAt 6 cfg0.N = ref (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; unfold outsAt0; frame_out
  obtain ⟨r, q, rfl⟩ : ∃ (r : Fin 1024) (q : Fin 512), y = ix2 r q := ⟨y 0, y 1, eq_ix2 y⟩
  refine (pay_apply (iblk m c 0 t) (iblk m c 2 t) (iblk m c 1 t) (iblk m c 3 t) (X0_4 m c t) (X0_5 m c t) r q).trans ?_
  refine Eq.trans ?_ ((congrArg (ref _ _ _ _ _) (eq_ix2 (n0 := 16384) (n1 := 4096) _)).trans (ref_apply _ _ _ _ _ _ _)).symm
  rw [read4 m c t r q, read5 m c t r q]
  exact congrArg₂ (both _ _) (entry_congr (read0 m c t r q) (read2 m c t r q)) (entry_congr (read1 m c t r q) (read3 m c t r q))

theorem frame_reference : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The merged outputs are the reference's. -/
theorem values : Cert.algebraic_MergeIdeal_MergeReferenceIdeal (hMergeIdeal := Cert.MergeIdeal.Gen.facts) (hMergeReferenceIdeal := Cert.MergeReferenceIdeal.Gen.facts) := by
  intro m ρ m' ρ' _ hagree
  refine ⟨fun c => ref (m ((c : Thread nD τ).loc main_arg0)) (m ((c : Thread nD τ).loc main_arg1))
      (m ((c : Thread nD τ).loc main_arg2)) (m ((c : Thread nD τ).loc main_arg3)) (m ((c : Thread nD τ).loc main_arg4)),
    (θ_run defs _ _).mono (fun _ h c => ⟨(h c).1.trans (final m c), (h c).2⟩) (Value.run_blocks (F := Ideal) m ρ),
    (θ_run Cert.MergeReferenceIdeal.defs _ _).mono (fun r h c => ⟨(h c).1.trans ?_, (h c).2⟩) (Cert.MergeReferenceIdeal.Value.run (F := Ideal) m' ρ')⟩
  obtain ⟨a0, a1, a2, a3, a4⟩ := hagree c
  rw [a0, a1, a2, a3, a4]

end Cert.MergeIdeal.Hand
-- ==== Proof.NormValue.lean ====
/-
  The rows scaled by their root mean square and the gains, at the extended reals.
-/
module

public import proofs.«01_k».proof.Proof.NormRow
public import proofs.«01_k».proof.Proof.Gen.NormIdeal.Value
public import proofs.«01_k».proof.Proof.Gen.NormReferenceIdeal.Run
public import proofs.«01_k».proof.Defs
public import Idealize.ShloMosaic.Lib.Pipeline.ValueKit.Geometry
public import Idealize.ShloMosaic.Lib.Pipeline.ValueKit.Acc

@[expose] public section

noncomputable section

namespace Cert.NormIdeal.Hand

open Cert.NormIdeal Cert.NormIdeal.Gen
open Idealize.ShloMosaic Idealize.SL.Sem Idealize.ShloMosaic.TcCoe Idealize.ShloMosaic.ValueIdx

/-- A block of scaled rows. -/
theorem pay_apply (x : FVec Ideal S512x4096 .f32) (g : FVec Ideal S1x4096 .f32) (r : Fin 512) (q : Fin 4096) :
    k0_pay1 (F := Ideal) x g (ix2 r q) = normEntry x (fun k => g (ix2 0 k)) r q :=
  kNorm_apply reduces_S512x4096_S512 shapeCasts_S512_S512x1 broadcasts_S512x1_S512x4096 shapeCasts_S1x4096_S1x4096 broadcasts_S1x4096_S512x4096 x g r q

/-- The scaled rows, as the reference writes them. -/
abbrev ref (x : FVec Ideal S16384x4096 .f32) (g : FVec Ideal S4096 .f32) : FVec Ideal S16384x4096 .bf16 :=
  truncf .bf16 (hNorm Cert.NormReferenceIdeal.Gen.reducesTo_S16384x4096_S16384_d1 Cert.NormReferenceIdeal.Gen.h_S_ Cert.NormReferenceIdeal.Gen.bcast_S16384_S16384x1_0 Cert.NormReferenceIdeal.Gen.bcast_S_S16384x1 Cert.NormReferenceIdeal.Gen.bcast_S16384x1_S16384x4096_0_1 Cert.NormReferenceIdeal.Gen.bcast_S4096_S1x4096_1 Cert.NormReferenceIdeal.Gen.bcast_S1x4096_S16384x4096_0_1 x g) Cert.NormReferenceIdeal.Gen.bitsLt_bf16_f32
theorem ref_apply (x : FVec Ideal S16384x4096 .f32) (g : FVec Ideal S4096 .f32) (i : Fin 16384) (j : Fin 4096) :
    ref x g (ix2 i j) = normEntry x (fun k => g (ix1 k)) i j :=
  hNorm_apply Cert.NormReferenceIdeal.Gen.reducesTo_S16384x4096_S16384_d1 Cert.NormReferenceIdeal.Gen.h_S_ Cert.NormReferenceIdeal.Gen.bcast_S16384_S16384x1_0 Cert.NormReferenceIdeal.Gen.bcast_S_S16384x1 Cert.NormReferenceIdeal.Gen.bcast_S16384x1_S16384x4096_0_1 Cert.NormReferenceIdeal.Gen.bcast_S4096_S1x4096_1 Cert.NormReferenceIdeal.Gen.bcast_S1x4096_S16384x4096_0_1 x g i j

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)

variable (m : (ℓ : Loc nD τ sig) → Buf (Elt Ideal) ℓ)

/-- A row of input window 0's block is the array's row under the output block. -/
theorem read0_2 (c : Dev nD) (t : Fin cfg0.N) (r : Fin 512) (q k : Fin 4096) :
    iblk m c 0 t (ix2 r k) = m ((c : Thread nD τ).loc main_arg0) (ix2 (((win0_2.blk t).view.emb (ix2 r q)) 0) k) := by
  refine (congrFun (V_main_arg0 m c) _).trans (congrArg (m ((c : Thread nD τ).loc main_arg0)) ?_)
  refine Shape.idx_ext₂ ?_ ?_
  · show (((win0_0.blk t).view.emb (ix2 r k)) 0).val = (((win0_2.blk t).view.emb (ix2 r q)) 0).val
    blk_simp [idx0, idx2]; rfl
  · show (((win0_0.blk t).view.emb (ix2 r k)) 1).val = k.val
    blk_simp [idx0]; rfl

theorem V_1 (c : Dev nD) : V m c main_v1 = shapeCast S1x4096 (shapeCast S4096 (m ((c : Thread nD τ).loc main_arg1)) shapeCasts_S1x4096_S4096) shapeCasts_S4096_S1x4096 := by
  show StableHlo.after hostOps0 _ main_v1 = _
  after_results
  rfl

/-- The block of gains is the vector of gains. -/
theorem gain1 (c : Dev nD) (t : Fin cfg0.N) (k : Fin 4096) :
    iblk m c 1 t (ix2 0 k) = shapeCast S4096 (m ((c : Thread nD τ).loc main_arg1)) shapeCasts_S1x4096_S4096 (ix1 k) := by
  refine (congrFun (V_1 m c) _).trans ?_
  refine Eq.trans (congrArg (shapeCast S1x4096 (shapeCast S4096 (m ((c : Thread nD τ).loc main_arg1)) shapeCasts_S1x4096_S4096) shapeCasts_S4096_S1x4096) ?_) (row_cast _ _ k)
  refine Shape.idx_ext₂ ?_ ?_
  · show (((win0_1.blk t).view.emb (ix2 0 k)) 0).val = 0
    blk_simp [idx1]
  · show (((win0_1.blk t).view.emb (ix2 0 k)) 1).val = k.val
    blk_simp [idx1]; rfl

theorem col2 (t : Fin cfg0.N) (r : Fin 512) (q : Fin 4096) : q = ((win0_2.blk t).view.emb (ix2 r q)) 1 := by
  apply Fin.ext
  show q.val = (((win0_2.blk t).view.emb (ix2 r q)) 1).val
  blk_simp [idx2]; rfl

/-- The array after the run is the reference's. -/
theorem final (c : Dev nD) : (dats m 0 c).arrAt 2 cfg0.N = ref (m ((c : Thread nD τ).loc main_arg0)) (shapeCast S4096 (m ((c : Thread nD τ).loc main_arg1)) shapeCasts_S1x4096_S4096) := by
  refine (dats m 0 c).arrAt_eq_of_covers 2 _ (by decide +kernel) fun t hf y => ?_
  blk_simp
  rw [after0_2]; frame_out
  show k0_pay1 (F := Ideal) (iblk m c 0 t) (iblk m c 1 t) y = ref _ _ ((win0_2.blk t).view.emb y)
  obtain ⟨r, q, rfl⟩ : ∃ (r : Fin 512) (q : Fin 4096), y = ix2 r q := ⟨y 0, y 1, eq_ix2 y⟩
  refine (pay_apply _ _ r q).trans (Eq.trans ?_ ((congrArg (ref _ _) (eq_ix2 (n0 := 16384) (n1 := 4096) _)).trans (ref_apply _ _ _ _)).symm)
  exact normEntry_congr (read0_2 m c t r q) ((gain1 m c t q).trans (congrArg (fun k => (shapeCast S4096 (m ((c : Thread nD τ).loc main_arg1)) shapeCasts_S1x4096_S4096) (ix1 k)) (col2 t r q))) (col2 t r q)

theorem frame_reference : Cert.quiescent_NormReferenceIdeal (hNormReferenceIdeal := Cert.NormReferenceIdeal.Gen.facts) := fun m ρ _ =>
  (θ_run Cert.NormReferenceIdeal.defs _ _).mono (fun r h => ⟨fun c => (h c).2, sem_eq_zero_of_no_sems (by decide) r.2⟩)
    (Cert.NormReferenceIdeal.Value.run (F := Ideal) m ρ)

/-- The scaled rows are the reference's. -/
theorem values : Cert.algebraic_NormIdeal_NormReferenceIdeal (hNormIdeal := Cert.NormIdeal.Gen.facts) (hNormReferenceIdeal := Cert.NormReferenceIdeal.Gen.facts) := by
  intro m ρ m' ρ' _ hagree
  refine ⟨fun c => ref (m ((c : Thread nD τ).loc main_arg0)) (shapeCast S4096 (m ((c : Thread nD τ).loc main_arg1)) shapeCasts_S1x4096_S4096),
    (θ_run defs _ _).mono (fun _ h c => ⟨(h c).1.trans (final m c), (h c).2⟩) (Value.run_blocks (F := Ideal) m ρ),
    (θ_run Cert.NormReferenceIdeal.defs _ _).mono (fun r h c => ⟨(h c).1.trans ?_, (h c).2⟩) (Cert.NormReferenceIdeal.Value.run (F := Ideal) m' ρ')⟩
  obtain ⟨a0, a1⟩ := hagree c
  rw [a0, a1]

end Cert.NormIdeal.Hand
-- ==== Proof.TurnValue.lean ====
/-
  The turn from the first half-step to the middle of the layer, at the extended reals: the residual sum and its scaled rows.
-/
module

public import proofs.«01_k».proof.Proof.NormRow
public import proofs.«01_k».proof.Proof.Gen.TurnIdeal.Value
public import proofs.«01_k».proof.Proof.Gen.TurnReferenceIdeal.Run
public import proofs.«01_k».proof.Defs
public import Idealize.ShloMosaic.Lib.Pipeline.ValueKit.Geometry
public import Idealize.ShloMosaic.Lib.Pipeline.ValueKit.Acc

@[expose] public section

noncomputable section

namespace Cert.TurnIdeal.Hand

open Cert.TurnIdeal Cert.TurnIdeal.Gen
open Idealize.ShloMosaic Idealize.SL.Sem Idealize.ShloMosaic.TcCoe Idealize.ShloMosaic.ValueIdx

/-- A block of the residual sum. -/
theorem pay_apply (h : FVec Ideal S512x4096 .f32) (f : FVec Ideal S512x4096 .bf16) (g : FVec Ideal S1x4096 .f32) (r : Fin 512) (q : Fin 4096) :
    k0_pay1 (F := Ideal) h f g (ix2 r q) = postEntry h f (fun k => g (ix2 0 k)) r q :=
  congrArg (fun a : EReal => h (ix2 r q) + half * a)
    (kNorm_apply reduces_S512x4096_S512 shapeCasts_S512_S512x1 broadcasts_S512x1_S512x4096 shapeCasts_S1x4096_S1x4096 broadcasts_S1x4096_S512x4096 f g r q)

/-- The residual sum, as the reference writes it. -/
abbrev ref (h : FVec Ideal S16384x4096 .f32) (f : FVec Ideal S16384x4096 .bf16) (g : FVec Ideal S4096 .f32) : FVec Ideal S16384x4096 .f32 :=
  addf h (mulf (broadcastInDim S16384x4096 ![] Cert.TurnReferenceIdeal.Gen.bcast_S_S16384x4096 (constant Cert.TurnReferenceIdeal.S_ .f32 0x3F000000#32))
    (hNorm Cert.TurnReferenceIdeal.Gen.reducesTo_S16384x4096_S16384_d1 Cert.TurnReferenceIdeal.Gen.h_S_ Cert.TurnReferenceIdeal.Gen.bcast_S16384_S16384x1_0 Cert.TurnReferenceIdeal.Gen.bcast_S_S16384x1 Cert.TurnReferenceIdeal.Gen.bcast_S16384x1_S16384x4096_0_1 Cert.TurnReferenceIdeal.Gen.bcast_S4096_S1x4096_1 Cert.TurnReferenceIdeal.Gen.bcast_S1x4096_S16384x4096_0_1 (extf .f32 f Cert.TurnReferenceIdeal.Gen.bitsLt_bf16_f32) g))
theorem ref_apply (h : FVec Ideal S16384x4096 .f32) (f : FVec Ideal S16384x4096 .bf16) (g : FVec Ideal S4096 .f32) (i : Fin 16384) (j : Fin 4096) :
    ref h f g (ix2 i j) = postEntry h f (fun k => g (ix1 k)) i j :=
  congrArg (fun a : EReal => h (ix2 i j) + half * a)
    (hNorm_apply Cert.TurnReferenceIdeal.Gen.reducesTo_S16384x4096_S16384_d1 Cert.TurnReferenceIdeal.Gen.h_S_ Cert.TurnReferenceIdeal.Gen.bcast_S16384_S16384x1_0 Cert.TurnReferenceIdeal.Gen.bcast_S_S16384x1 Cert.TurnReferenceIdeal.Gen.bcast_S16384x1_S16384x4096_0_1 Cert.TurnReferenceIdeal.Gen.bcast_S4096_S1x4096_1 Cert.TurnReferenceIdeal.Gen.bcast_S1x4096_S16384x4096_0_1 f g i j)

/-- A block of the scaled residual sum. -/
theorem pay2_apply (h : FVec Ideal S512x4096 .f32) (f : FVec Ideal S512x4096 .bf16) (g g' : FVec Ideal S1x4096 .f32) (r : Fin 512) (q : Fin 4096) :
    k0_pay2 (F := Ideal) h f g g' (ix2 r q) = normEntry (k0_pay1 (F := Ideal) h f g) (fun k => g' (ix2 0 k)) r q :=
  kNorm_apply reduces_S512x4096_S512 shapeCasts_S512_S512x1 broadcasts_S512x1_S512x4096 shapeCasts_S1x4096_S1x4096 broadcasts_S1x4096_S512x4096 (k0_pay1 (F := Ideal) h f g) g' r q

/-- The scaled residual sum, as the reference writes it. -/
abbrev ref2 (h : FVec Ideal S16384x4096 .f32) (f : FVec Ideal S16384x4096 .bf16) (g g' : FVec Ideal S4096 .f32) : FVec Ideal S16384x4096 .bf16 :=
  truncf .bf16 (hNorm Cert.TurnReferenceIdeal.Gen.reducesTo_S16384x4096_S16384_d1 Cert.TurnReferenceIdeal.Gen.h_S_ Cert.TurnReferenceIdeal.Gen.bcast_S16384_S16384x1_0 Cert.TurnReferenceIdeal.Gen.bcast_S_S16384x1 Cert.TurnReferenceIdeal.Gen.bcast_S16384x1_S16384x4096_0_1 Cert.TurnReferenceIdeal.Gen.bcast_S4096_S1x4096_1 Cert.TurnReferenceIdeal.Gen.bcast_S1x4096_S16384x4096_0_1 (ref h f g) g') Cert.TurnReferenceIdeal.Gen.bitsLt_bf16_f32
theorem ref2_apply (h : FVec Ideal S16384x4096 .f32) (f : FVec Ideal S16384x4096 .bf16) (g g' : FVec Ideal S4096 .f32) (i : Fin 16384) (j : Fin 4096) :
    ref2 h f g g' (ix2 i j) = normEntry (ref h f g) (fun k => g' (ix1 k)) i j :=
  hNorm_apply Cert.TurnReferenceIdeal.Gen.reducesTo_S16384x4096_S16384_d1 Cert.TurnReferenceIdeal.Gen.h_S_ Cert.TurnReferenceIdeal.Gen.bcast_S16384_S16384x1_0 Cert.TurnReferenceIdeal.Gen.bcast_S_S16384x1 Cert.TurnReferenceIdeal.Gen.bcast_S16384x1_S16384x4096_0_1 Cert.TurnReferenceIdeal.Gen.bcast_S4096_S1x4096_1 Cert.TurnReferenceIdeal.Gen.bcast_S1x4096_S16384x4096_0_1 (ref h f g) g' i j

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)

variable (m : (ℓ : Loc nD τ sig) → Buf (Elt Ideal) ℓ)

/-- A row of input window 0's block is the array's row under the output block. -/
theorem read0_4 (c : Dev nD) (t : Fin cfg0.N) (r : Fin 512) (q k : Fin 4096) :
    iblk m c 0 t (ix2 r k) = m ((c : Thread nD τ).loc main_arg0) (ix2 (((win0_4.blk t).view.emb (ix2 r q)) 0) k) := by
  refine (congrFun (V_main_arg0 m c) _).trans (congrArg (m ((c : Thread nD τ).loc main_arg0)) ?_)
  refine Shape.idx_ext₂ ?_ ?_
  · show (((win0_0.blk t).view.emb (ix2 r k)) 0).val = (((win0_4.blk t).view.emb (ix2 r q)) 0).val
    blk_simp [idx0, idx4]; rfl
  · show (((win0_0.blk t).view.emb (ix2 r k)) 1).val = k.val
    blk_simp [idx0]; rfl

/-- A row of input window 1's block is the array's row under the output block. -/
theorem read1_4 (c : Dev nD) (t : Fin cfg0.N) (r : Fin 512) (q k : Fin 4096) :
    iblk m c 1 t (ix2 r k) = m ((c : Thread nD τ).loc main_arg1) (ix2 (((win0_4.blk t).view.emb (ix2 r q)) 0) k) := by
  refine (congrFun (V_main_arg1 m c) _).trans (congrArg (m ((c : Thread nD τ).loc main_arg1)) ?_)
  refine Shape.idx_ext₂ ?_ ?_
  · show (((win0_1.blk t).view.emb (ix2 r k)) 0).val = (((win0_4.blk t).view.emb (ix2 r q)) 0).val
    blk_simp [idx1, idx4]; rfl
  · show (((win0_1.blk t).view.emb (ix2 r k)) 1).val = k.val
    blk_simp [idx1]; rfl

/-- A row of input window 0's block is the array's row under the output block. -/
theorem read0_5 (c : Dev nD) (t : Fin cfg0.N) (r : Fin 512) (q k : Fin 4096) :
    iblk m c 0 t (ix2 r k) = m ((c : Thread nD τ).loc main_arg0) (ix2 (((win0_5.blk t).view.emb (ix2 r q)) 0) k) := by
  refine (congrFun (V_main_arg0 m c) _).trans (congrArg (m ((c : Thread nD τ).loc main_arg0)) ?_)
  refine Shape.idx_ext₂ ?_ ?_
  · show (((win0_0.blk t).view.emb (ix2 r k)) 0).val = (((win0_5.blk t).view.emb (ix2 r q)) 0).val
    blk_simp [idx0, idx5]; rfl
  · show (((win0_0.blk t).view.emb (ix2 r k)) 1).val = k.val
    blk_simp [idx0]; rfl

/-- A row of input window 1's block is the array's row under the output block. -/
theorem read1_5 (c : Dev nD) (t : Fin cfg0.N) (r : Fin 512) (q k : Fin 4096) :
    iblk m c 1 t (ix2 r k) = m ((c : Thread nD τ).loc main_arg1) (ix2 (((win0_5.blk t).view.emb (ix2 r q)) 0) k) := by
  refine (congrFun (V_main_arg1 m c) _).trans (congrArg (m ((c : Thread nD τ).loc main_arg1)) ?_)
  refine Shape.idx_ext₂ ?_ ?_
  · show (((win0_1.blk t).view.emb (ix2 r k)) 0).val = (((win0_5.blk t).view.emb (ix2 r q)) 0).val
    blk_simp [idx1, idx5]; rfl
  · show (((win0_1.blk t).view.emb (ix2 r k)) 1).val = k.val
    blk_simp [idx1]; rfl

theorem V_2 (c : Dev nD) : V m c main_v1 = shapeCast S1x4096 (shapeCast S4096 (m ((c : Thread nD τ).loc main_arg2)) shapeCasts_S1x4096_S4096) shapeCasts_S4096_S1x4096 := by
  show StableHlo.after hostOps0 _ main_v1 = _
  after_results
  rfl

/-- The block of gains is the vector of gains. -/
theorem gain2 (c : Dev nD) (t : Fin cfg0.N) (k : Fin 4096) :
    iblk m c 2 t (ix2 0 k) = shapeCast S4096 (m ((c : Thread nD τ).loc main_arg2)) shapeCasts_S1x4096_S4096 (ix1 k) := by
  refine (congrFun (V_2 m c) _).trans ?_
  refine Eq.trans (congrArg (shapeCast S1x4096 (shapeCast S4096 (m ((c : Thread nD τ).loc main_arg2)) shapeCasts_S1x4096_S4096) shapeCasts_S4096_S1x4096) ?_) (row_cast _ _ k)
  refine Shape.idx_ext₂ ?_ ?_
  · show (((win0_2.blk t).view.emb (ix2 0 k)) 0).val = 0
    blk_simp [idx2]
  · show (((win0_2.blk t).view.emb (ix2 0 k)) 1).val = k.val
    blk_simp [idx2]; rfl

theorem V_3 (c : Dev nD) : V m c main_v3 = shapeCast S1x4096 (shapeCast S4096 (m ((c : Thread nD τ).loc main_arg3)) shapeCasts_S1x4096_S4096) shapeCasts_S4096_S1x4096 := by
  show StableHlo.after hostOps0 _ main_v3 = _
  after_results
  rfl

/-- The block of gains is the vector of gains. -/
theorem gain3 (c : Dev nD) (t : Fin cfg0.N) (k : Fin 4096) :
    iblk m c 3 t (ix2 0 k) = shapeCast S4096 (m ((c : Thread nD τ).loc main_arg3)) shapeCasts_S1x4096_S4096 (ix1 k) := by
  refine (congrFun (V_3 m c) _).trans ?_
  refine Eq.trans (congrArg (shapeCast S1x4096 (shapeCast S4096 (m ((c : Thread nD τ).loc main_arg3)) shapeCasts_S1x4096_S4096) shapeCasts_S4096_S1x4096) ?_) (row_cast _ _ k)
  refine Shape.idx_ext₂ ?_ ?_
  · show (((win0_3.blk t).view.emb (ix2 0 k)) 0).val = 0
    blk_simp [idx3]
  · show (((win0_3.blk t).view.emb (ix2 0 k)) 1).val = k.val
    blk_simp [idx3]; rfl

theorem col4 (t : Fin cfg0.N) (r : Fin 512) (q : Fin 4096) : q = ((win0_4.blk t).view.emb (ix2 r q)) 1 := by
  apply Fin.ext
  show q.val = (((win0_4.blk t).view.emb (ix2 r q)) 1).val
  blk_simp [idx4]; rfl

theorem col5 (t : Fin cfg0.N) (r : Fin 512) (q : Fin 4096) : q = ((win0_5.blk t).view.emb (ix2 r q)) 1 := by
  apply Fin.ext
  show q.val = (((win0_5.blk t).view.emb (ix2 r q)) 1).val
  blk_simp [idx5]; rfl

/-- The array of sums after the run is the reference's. -/
theorem final4 (c : Dev nD) : (dats m 0 c).arrAt 4 cfg0.N = ref (m ((c : Thread nD τ).loc main_arg0)) (m ((c : Thread nD τ).loc main_arg1)) (shapeCast S4096 (m ((c : Thread nD τ).loc main_arg2)) shapeCasts_S1x4096_S4096) := by
  refine (dats m 0 c).arrAt_eq_of_covers 4 _ (by decide +kernel) fun t hf y => ?_
  blk_simp
  rw [after0_4]; frame_out
  show k0_pay1 (F := Ideal) (iblk m c 0 t) (iblk m c 1 t) (iblk m c 2 t) y = ref _ _ _ ((win0_4.blk t).view.emb y)
  obtain ⟨r, q, rfl⟩ : ∃ (r : Fin 512) (q : Fin 4096), y = ix2 r q := ⟨y 0, y 1, eq_ix2 y⟩
  refine (pay_apply _ _ _ r q).trans (Eq.trans ?_ ((congrArg (ref _ _ _) (eq_ix2 (n0 := 16384) (n1 := 4096) _)).trans (ref_apply _ _ _ _ _)).symm)
  exact postEntry_congr (read0_4 m c t r q) (read1_4 m c t r q) ((gain2 m c t q).trans (congrArg (fun k => (shapeCast S4096 (m ((c : Thread nD τ).loc main_arg2)) shapeCasts_S1x4096_S4096) (ix1 k)) (col4 t r q))) (col4 t r q)

/-- The array of scaled sums after the run is the reference's. -/
theorem final5 (c : Dev nD) : (dats m 0 c).arrAt 5 cfg0.N = ref2 (m ((c : Thread nD τ).loc main_arg0)) (m ((c : Thread nD τ).loc main_arg1)) (shapeCast S4096 (m ((c : Thread nD τ).loc main_arg2)) shapeCasts_S1x4096_S4096) (shapeCast S4096 (m ((c : Thread nD τ).loc main_arg3)) shapeCasts_S1x4096_S4096) := by
  refine (dats m 0 c).arrAt_eq_of_covers 5 _ (by decide +kernel) fun t hf y => ?_
  blk_simp
  rw [after0_5]; frame_out
  show k0_pay2 (F := Ideal) (iblk m c 0 t) (iblk m c 1 t) (iblk m c 2 t) (iblk m c 3 t) y = ref2 _ _ _ _ ((win0_5.blk t).view.emb y)
  obtain ⟨r, q, rfl⟩ : ∃ (r : Fin 512) (q : Fin 4096), y = ix2 r q := ⟨y 0, y 1, eq_ix2 y⟩
  refine (pay2_apply _ _ _ _ r q).trans (Eq.trans ?_ ((congrArg (ref2 _ _ _ _) (eq_ix2 (n0 := 16384) (n1 := 4096) _)).trans (ref2_apply _ _ _ _ _ _)).symm)
  refine normEntry_congr (fun k => ?_) ((gain3 m c t q).trans (congrArg (fun k => (shapeCast S4096 (m ((c : Thread nD τ).loc main_arg3)) shapeCasts_S1x4096_S4096) (ix1 k)) (col5 t r q))) (col5 t r q)
  refine (pay_apply _ _ _ r k).trans (Eq.trans ?_ (ref_apply _ _ _ _ _).symm)
  exact postEntry_congr (read0_5 m c t r q) (read1_5 m c t r q) (gain2 m c t k) rfl

theorem frame_reference : Cert.quiescent_TurnReferenceIdeal (hTurnReferenceIdeal := Cert.TurnReferenceIdeal.Gen.facts) := fun m ρ _ =>
  (θ_run Cert.TurnReferenceIdeal.defs _ _).mono (fun r h => ⟨fun c => (h c).2.2, sem_eq_zero_of_no_sems (by decide) r.2⟩)
    (Cert.TurnReferenceIdeal.Value.run (F := Ideal) m ρ)

/-- Both results of the turn are the reference's. -/
theorem values : Cert.algebraic_TurnIdeal_TurnReferenceIdeal (hTurnIdeal := Cert.TurnIdeal.Gen.facts) (hTurnReferenceIdeal := Cert.TurnReferenceIdeal.Gen.facts) := by
  intro m ρ m' ρ' _ hagree
  refine ⟨fun c => ref (m ((c : Thread nD τ).loc main_arg0)) (m ((c : Thread nD τ).loc main_arg1)) (shapeCast S4096 (m ((c : Thread nD τ).loc main_arg2)) shapeCasts_S1x4096_S4096), fun c => ref2 (m ((c : Thread nD τ).loc main_arg0)) (m ((c : Thread nD τ).loc main_arg1)) (shapeCast S4096 (m ((c : Thread nD τ).loc main_arg2)) shapeCasts_S1x4096_S4096) (shapeCast S4096 (m ((c : Thread nD τ).loc main_arg3)) shapeCasts_S1x4096_S4096),
    (θ_run defs _ _).mono (fun _ h c => ⟨(h c).1.trans (final4 m c), (h c).2.1.trans (final5 m c), (h c).2.2⟩) (Value.run_blocks (F := Ideal) m ρ),
    (θ_run Cert.TurnReferenceIdeal.defs _ _).mono (fun r h c => ⟨(h c).1.trans ?_, (h c).2.1.trans ?_, (h c).2.2⟩) (Cert.TurnReferenceIdeal.Value.run (F := Ideal) m' ρ')⟩
  · obtain ⟨a0, a1, a2, a3⟩ := hagree c
    rw [a0, a1, a2]
  · obtain ⟨a0, a1, a2, a3⟩ := hagree c
    rw [a0, a1, a2, a3]

end Cert.TurnIdeal.Hand
-- ==== Proof.lean ====
/-
  The proof of the certificate's claim.
-/
module

public import proofs.«01_k».proof.Defs
public import proofs.«01_k».proof.Proof.Run
public import proofs.«01_k».proof.Proof.Value
public import proofs.«01_k».proof.Proof.DownValue
public import proofs.«01_k».proof.Proof.Gen.Down.Frame
public import proofs.«01_k».proof.Proof.PostValue
public import proofs.«01_k».proof.Proof.Gen.Post.Frame
public import proofs.«01_k».proof.Proof.CastValue
public import proofs.«01_k».proof.Proof.ProjReference
public import proofs.«01_k».proof.Proof.Gen.Proj.Frame
public import proofs.«01_k».proof.Proof.OutValue
public import proofs.«01_k».proof.Proof.Gen.Out.Frame
public import proofs.«01_k».proof.Proof.MergeValue
public import proofs.«01_k».proof.Proof.Gen.Merge.Frame
public import proofs.«01_k».proof.Proof.NormValue
public import proofs.«01_k».proof.Proof.Gen.Norm.Frame
public import proofs.«01_k».proof.Proof.TurnValue
public import proofs.«01_k».proof.Proof.Gen.Turn.Frame
public import proofs.«01_k».proof.Proof.Gen.Gla.Frame
public import proofs.«01_k».proof.Proof.Gen.GlaIdeal.Frame
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem Idealize.ShloMosaic.ValueIdx
open Cert.GateUp (run_main outO outB)

/-- The gate and up projections run, at any values, and leave their arguments as they were. -/
theorem frame_kernel : Cert.quiescent_Kernel (hKernel := Cert.Kernel.Gen.facts) := fun m ρ _ =>
  (θ_run Cert.KernelIdeal.defs _ _).mono (fun _ h => ⟨fun c => (h.1 c).2.2, h.2⟩) (run_main (F := Bits) m ρ)
theorem frame_ideal : Cert.quiescent_KernelIdeal (hKernelIdeal := Cert.KernelIdeal.Gen.facts) := fun m ρ _ =>
  (θ_run Cert.KernelIdeal.defs _ _).mono (fun _ h => ⟨fun c => (h.1 c).2.2, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The two results of the call are the reference's. -/
theorem values : Cert.algebraic_KernelIdeal_ReferenceIdeal (hKernelIdeal := Cert.KernelIdeal.Gen.facts) (hReferenceIdeal := Cert.ReferenceIdeal.Gen.facts) := by
  intro m ρ m' ρ' _ hagree
  refine ⟨fun c => outO m c, fun c => outB m c,
    (θ_run Cert.KernelIdeal.defs _ _).mono (fun _ h c => h.1 c) (run_main (F := Ideal) m ρ),
    (θ_run Cert.ReferenceIdeal.defs _ _).mono (fun r h c => ?_) (Cert.ReferenceIdeal.Value.run (F := Ideal) m' ρ')⟩
  obtain ⟨h0, h1, hr⟩ := h c
  obtain ⟨a0, a1, a2, a3⟩ := hagree c
  refine ⟨h0.trans ?_, h1.trans ?_, hr⟩
  · rw [a0, a1, a2]
    exact (Cert.GateUp.outO_eq c m).symm
  · rw [a3]
    exact (Cert.GateUp.outB_eq c m).symm

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.Post.Gen.facts, Cert.PostIdeal.Gen.facts, Cert.PostReferenceIdeal.Gen.facts,
  Cert.Cast.Gen.facts, Cert.CastIdeal.Gen.facts, Cert.CastReferenceIdeal.Gen.facts,
  Cert.Proj.Gen.facts, Cert.ProjIdeal.Gen.facts, Cert.ProjReferenceIdeal.Gen.facts,
  Cert.Out.Gen.facts, Cert.OutIdeal.Gen.facts, Cert.OutReferenceIdeal.Gen.facts,
  Cert.Merge.Gen.facts, Cert.MergeIdeal.Gen.facts, Cert.MergeReferenceIdeal.Gen.facts,
  Cert.Norm.Gen.facts, Cert.NormIdeal.Gen.facts, Cert.NormReferenceIdeal.Gen.facts,
  Cert.Turn.Gen.facts, Cert.TurnIdeal.Gen.facts, Cert.TurnReferenceIdeal.Gen.facts,
  Cert.Gla.Gen.facts, Cert.GlaIdeal.Gen.facts,
  frame_kernel, frame_ideal, frame_reference,
  fun m ρ _ => Cert.Down.Gen.frame m ρ, fun m ρ _ => Cert.DownIdeal.Gen.frame m ρ, Cert.DownIdeal.Hand.frame_reference,
  fun m ρ _ => Cert.Post.Gen.frame m ρ, fun m ρ _ => Cert.PostIdeal.Gen.frame m ρ, Cert.PostIdeal.Hand.frame_reference,
  Cert.CastIdeal.Hand.frame_kernel, Cert.CastIdeal.Hand.frame_ideal, Cert.CastIdeal.Hand.frame_reference,
  Cert.ProjIdeal.Hand.frame_kernel, Cert.ProjIdeal.Hand.frame_ideal, Cert.ProjIdeal.Hand.frame_reference,
  fun m ρ _ => Cert.Out.Gen.frame m ρ, fun m ρ _ => Cert.OutIdeal.Gen.frame m ρ, Cert.OutIdeal.Hand.frame_reference,
  fun m ρ _ => Cert.Merge.Gen.frame m ρ, fun m ρ _ => Cert.MergeIdeal.Gen.frame m ρ, Cert.MergeIdeal.Hand.frame_reference,
  fun m ρ _ => Cert.Norm.Gen.frame m ρ, fun m ρ _ => Cert.NormIdeal.Gen.frame m ρ, Cert.NormIdeal.Hand.frame_reference,
  fun m ρ _ => Cert.Turn.Gen.frame m ρ, fun m ρ _ => Cert.TurnIdeal.Gen.frame m ρ, Cert.TurnIdeal.Hand.frame_reference,
  fun m ρ _ => Cert.Gla.Gen.frame m ρ, fun m ρ _ => Cert.GlaIdeal.Gen.frame m ρ,
  trivial, values,
  trivial, Cert.DownIdeal.Hand.values,
  trivial, Cert.PostIdeal.Hand.values,
  trivial, Cert.CastIdeal.Hand.values,
  trivial, Cert.ProjIdeal.Hand.values,
  trivial, Cert.OutIdeal.Hand.values,
  trivial, Cert.MergeIdeal.Hand.values,
  trivial, Cert.NormIdeal.Hand.values,
  trivial, Cert.TurnIdeal.Hand.values,
  trivial⟩

end Cert.Proof

end
